-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lb_finite [hPre_lb_finite : Cert.Pre_lb_finite.Facts] (m : (ℓ : Loc Cert.KernelIdeal.nD Cert.KernelIdeal.τ Cert.KernelIdeal.sig) → Buf (Elt Ideal) ℓ) : Prop :=
  ∀ c : Dev Cert.KernelIdeal.nD,
    (Cert.Pre_lb_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lb_finite [hPre_lb_finite : Cert.Pre_lb_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lb_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_weights_finite [hPre_weights_finite : Cert.Pre_weights_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_weights_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_weights_finite [hPre_weights_finite : Cert.Pre_weights_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_weights_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_sample_weights_finite [hPre_sample_weights_finite : Cert.Pre_sample_weights_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_sample_weights_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_sample_weights_finite [hPre_sample_weights_finite : Cert.Pre_sample_weights_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_sample_weights_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lb_finite [hKernelIdeal : Cert.KernelIdeal.Facts] [hPre_lb_finite : Cert.Pre_lb_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lb_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lb_finite [hReferenceIdeal : Cert.ReferenceIdeal.Facts] [hPre_lb_finite : Cert.Pre_lb_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lb_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_weights_finite [hKernel6Ideal : Cert.Kernel6Ideal.Facts] [hPre_weights_finite : Cert.Pre_weights_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_weights_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_weights_finite [hReference6Ideal : Cert.Reference6Ideal.Facts] [hPre_weights_finite : Cert.Pre_weights_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_weights_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_sample_weights_finite [hKernel8Ideal : Cert.Kernel8Ideal.Facts] [hPre_sample_weights_finite : Cert.Pre_sample_weights_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_sample_weights_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_sample_weights_finite [hReference8Ideal : Cert.Reference8Ideal.Facts] [hPre_sample_weights_finite : Cert.Pre_sample_weights_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_sample_weights_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_lb_finite [hKernelIdeal : Cert.KernelIdeal.Facts] [hReferenceIdeal : Cert.ReferenceIdeal.Facts] [hPre_lb_finite : Cert.Pre_lb_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lb_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_weights_finite [hKernel6Ideal : Cert.Kernel6Ideal.Facts] [hReference6Ideal : Cert.Reference6Ideal.Facts] [hPre_weights_finite : Cert.Pre_weights_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_weights_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v36_0)) (v1 : (c : Dev Cert.Kernel6Ideal.nD) → Buf (Elt Ideal) ((c.tc : Thread Cert.Kernel6Ideal.nD Cert.Kernel6Ideal.τ).loc Cert.Kernel6Ideal.main_v36_1)) (v2 : (c : Dev Cert.Kernel6Ideal.nD) → Buf (Elt Ideal) ((c.tc : Thread Cert.Kernel6Ideal.nD Cert.Kernel6Ideal.τ).loc Cert.Kernel6Ideal.main_v36_2)) (v3 : (c : Dev Cert.Kernel6Ideal.nD) → Buf (Elt Ideal) ((c.tc : Thread Cert.Kernel6Ideal.nD Cert.Kernel6Ideal.τ).loc Cert.Kernel6Ideal.main_v36_3)) (v4 : (c : Dev Cert.Kernel6Ideal.nD) → Buf (Elt Ideal) ((c.tc : Thread Cert.Kernel6Ideal.nD Cert.Kernel6Ideal.τ).loc Cert.Kernel6Ideal.main_v36_4)) (v5 : (c : Dev Cert.Kernel6Ideal.nD) → Buf (Elt Ideal) ((c.tc : Thread Cert.Kernel6Ideal.nD Cert.Kernel6Ideal.τ).loc Cert.Kernel6Ideal.main_v36_5)) (v6 : (c : Dev Cert.Kernel6Ideal.nD) → Buf (Elt Ideal) ((c.tc : Thread Cert.Kernel6Ideal.nD Cert.Kernel6Ideal.τ).loc Cert.Kernel6Ideal.main_v36_6)) (v7 : (c : Dev Cert.Kernel6Ideal.nD) → Buf (Elt Ideal) ((c.tc : Thread Cert.Kernel6Ideal.nD Cert.Kernel6Ideal.τ).loc Cert.Kernel6Ideal.main_v36_7)) (v8 : (c : Dev Cert.Kernel6Ideal.nD) → Buf (Elt Ideal) ((c.tc : Thread Cert.Kernel6Ideal.nD Cert.Kernel6Ideal.τ).loc Cert.Kernel6Ideal.main_v36_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36_0) = v0 c
          ∧ r.2.mem ((c.tc : Thread Cert.Kernel6Ideal.nD Cert.Kernel6Ideal.τ).loc Cert.Kernel6Ideal.main_v36_1) = v1 c
          ∧ r.2.mem ((c.tc : Thread Cert.Kernel6Ideal.nD Cert.Kernel6Ideal.τ).loc Cert.Kernel6Ideal.main_v36_2) = v2 c
          ∧ r.2.mem ((c.tc : Thread Cert.Kernel6Ideal.nD Cert.Kernel6Ideal.τ).loc Cert.Kernel6Ideal.main_v36_3) = v3 c
          ∧ r.2.mem ((c.tc : Thread Cert.Kernel6Ideal.nD Cert.Kernel6Ideal.τ).loc Cert.Kernel6Ideal.main_v36_4) = v4 c
          ∧ r.2.mem ((c.tc : Thread Cert.Kernel6Ideal.nD Cert.Kernel6Ideal.τ).loc Cert.Kernel6Ideal.main_v36_5) = v5 c
          ∧ r.2.mem ((c.tc : Thread Cert.Kernel6Ideal.nD Cert.Kernel6Ideal.τ).loc Cert.Kernel6Ideal.main_v36_6) = v6 c
          ∧ r.2.mem ((c.tc : Thread Cert.Kernel6Ideal.nD Cert.Kernel6Ideal.τ).loc Cert.Kernel6Ideal.main_v36_7) = v7 c
          ∧ r.2.mem ((c.tc : Thread Cert.Kernel6Ideal.nD Cert.Kernel6Ideal.τ).loc Cert.Kernel6Ideal.main_v36_8) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_v55) = v1 c
          ∧ r.2.mem ((c.tc : Thread Cert.Reference6Ideal.nD Cert.Reference6Ideal.τ).loc Cert.Reference6Ideal.main_v57) = v2 c
          ∧ r.2.mem ((c.tc : Thread Cert.Reference6Ideal.nD Cert.Reference6Ideal.τ).loc Cert.Reference6Ideal.main_v18) = v3 c
          ∧ r.2.mem ((c.tc : Thread Cert.Reference6Ideal.nD Cert.Reference6Ideal.τ).loc Cert.Reference6Ideal.main_v58) = v4 c
          ∧ r.2.mem ((c.tc : Thread Cert.Reference6Ideal.nD Cert.Reference6Ideal.τ).loc Cert.Reference6Ideal.main_v59) = v5 c
          ∧ r.2.mem ((c.tc : Thread Cert.Reference6Ideal.nD Cert.Reference6Ideal.τ).loc Cert.Reference6Ideal.main_v20) = v6 c
          ∧ r.2.mem ((c.tc : Thread Cert.Reference6Ideal.nD Cert.Reference6Ideal.τ).loc Cert.Reference6Ideal.main_v60) = v7 c
          ∧ r.2.mem ((c.tc : Thread Cert.Reference6Ideal.nD Cert.Reference6Ideal.τ).loc Cert.Reference6Ideal.main_v62) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_sample_weights_finite [hKernel8Ideal : Cert.Kernel8Ideal.Facts] [hReference8Ideal : Cert.Reference8Ideal.Facts] [hPre_sample_weights_finite : Cert.Pre_sample_weights_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_sample_weights_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v36_0)) (v1 : (c : Dev Cert.Kernel8Ideal.nD) → Buf (Elt Ideal) ((c.tc : Thread Cert.Kernel8Ideal.nD Cert.Kernel8Ideal.τ).loc Cert.Kernel8Ideal.main_v36_1)) (v2 : (c : Dev Cert.Kernel8Ideal.nD) → Buf (Elt Ideal) ((c.tc : Thread Cert.Kernel8Ideal.nD Cert.Kernel8Ideal.τ).loc Cert.Kernel8Ideal.main_v36_2)) (v3 : (c : Dev Cert.Kernel8Ideal.nD) → Buf (Elt Ideal) ((c.tc : Thread Cert.Kernel8Ideal.nD Cert.Kernel8Ideal.τ).loc Cert.Kernel8Ideal.main_v36_3)) (v4 : (c : Dev Cert.Kernel8Ideal.nD) → Buf (Elt Ideal) ((c.tc : Thread Cert.Kernel8Ideal.nD Cert.Kernel8Ideal.τ).loc Cert.Kernel8Ideal.main_v36_4)) (v5 : (c : Dev Cert.Kernel8Ideal.nD) → Buf (Elt Ideal) ((c.tc : Thread Cert.Kernel8Ideal.nD Cert.Kernel8Ideal.τ).loc Cert.Kernel8Ideal.main_v36_5)) (v6 : (c : Dev Cert.Kernel8Ideal.nD) → Buf (Elt Ideal) ((c.tc : Thread Cert.Kernel8Ideal.nD Cert.Kernel8Ideal.τ).loc Cert.Kernel8Ideal.main_v36_6)) (v7 : (c : Dev Cert.Kernel8Ideal.nD) → Buf (Elt Ideal) ((c.tc : Thread Cert.Kernel8Ideal.nD Cert.Kernel8Ideal.τ).loc Cert.Kernel8Ideal.main_v36_7)) (v8 : (c : Dev Cert.Kernel8Ideal.nD) → Buf (Elt Ideal) ((c.tc : Thread Cert.Kernel8Ideal.nD Cert.Kernel8Ideal.τ).loc Cert.Kernel8Ideal.main_v36_8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v36_0) = v0 c
          ∧ r.2.mem ((c.tc : Thread Cert.Kernel8Ideal.nD Cert.Kernel8Ideal.τ).loc Cert.Kernel8Ideal.main_v36_1) = v1 c
          ∧ r.2.mem ((c.tc : Thread Cert.Kernel8Ideal.nD Cert.Kernel8Ideal.τ).loc Cert.Kernel8Ideal.main_v36_2) = v2 c
          ∧ r.2.mem ((c.tc : Thread Cert.Kernel8Ideal.nD Cert.Kernel8Ideal.τ).loc Cert.Kernel8Ideal.main_v36_3) = v3 c
          ∧ r.2.mem ((c.tc : Thread Cert.Kernel8Ideal.nD Cert.Kernel8Ideal.τ).loc Cert.Kernel8Ideal.main_v36_4) = v4 c
          ∧ r.2.mem ((c.tc : Thread Cert.Kernel8Ideal.nD Cert.Kernel8Ideal.τ).loc Cert.Kernel8Ideal.main_v36_5) = v5 c
          ∧ r.2.mem ((c.tc : Thread Cert.Kernel8Ideal.nD Cert.Kernel8Ideal.τ).loc Cert.Kernel8Ideal.main_v36_6) = v6 c
          ∧ r.2.mem ((c.tc : Thread Cert.Kernel8Ideal.nD Cert.Kernel8Ideal.τ).loc Cert.Kernel8Ideal.main_v36_7) = v7 c
          ∧ r.2.mem ((c.tc : Thread Cert.Kernel8Ideal.nD Cert.Kernel8Ideal.τ).loc Cert.Kernel8Ideal.main_v36_8) = v8 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v56) = v0 c
          ∧ r.2.mem ((c.tc : Thread Cert.Reference8Ideal.nD Cert.Reference8Ideal.τ).loc Cert.Reference8Ideal.main_v55) = v1 c
          ∧ r.2.mem ((c.tc : Thread Cert.Reference8Ideal.nD Cert.Reference8Ideal.τ).loc Cert.Reference8Ideal.main_v57) = v2 c
          ∧ r.2.mem ((c.tc : Thread Cert.Reference8Ideal.nD Cert.Reference8Ideal.τ).loc Cert.Reference8Ideal.main_v18) = v3 c
          ∧ r.2.mem ((c.tc : Thread Cert.Reference8Ideal.nD Cert.Reference8Ideal.τ).loc Cert.Reference8Ideal.main_v58) = v4 c
          ∧ r.2.mem ((c.tc : Thread Cert.Reference8Ideal.nD Cert.Reference8Ideal.τ).loc Cert.Reference8Ideal.main_v59) = v5 c
          ∧ r.2.mem ((c.tc : Thread Cert.Reference8Ideal.nD Cert.Reference8Ideal.τ).loc Cert.Reference8Ideal.main_v20) = v6 c
          ∧ r.2.mem ((c.tc : Thread Cert.Reference8Ideal.nD Cert.Reference8Ideal.τ).loc Cert.Reference8Ideal.main_v60) = v7 c
          ∧ r.2.mem ((c.tc : Thread Cert.Reference8Ideal.nD Cert.Reference8Ideal.τ).loc Cert.Reference8Ideal.main_v62) = v8 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_lb_finite : Cert.Pre_lb_finite.Facts) (hPre_weights_finite : Cert.Pre_weights_finite.Facts) (hPre_sample_weights_finite : Cert.Pre_sample_weights_finite.Facts),
    quiescent_Kernel (hKernel := hKernel)
    ∧ quiescent_KernelIdeal (hKernelIdeal := hKernelIdeal)
    ∧ quiescent_KernelIdeal_pre_lb_finite (hKernelIdeal := hKernelIdeal) (hPre_lb_finite := hPre_lb_finite)
    ∧ quiescent_ReferenceIdeal (hReferenceIdeal := hReferenceIdeal)
    ∧ quiescent_ReferenceIdeal_pre_lb_finite (hReferenceIdeal := hReferenceIdeal) (hPre_lb_finite := hPre_lb_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_weights_finite (hKernel6Ideal := hKernel6Ideal) (hPre_weights_finite := hPre_weights_finite)
    ∧ quiescent_Reference6Ideal (hReference6Ideal := hReference6Ideal)
    ∧ quiescent_Reference6Ideal_pre_weights_finite (hReference6Ideal := hReference6Ideal) (hPre_weights_finite := hPre_weights_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_sample_weights_finite (hKernel8Ideal := hKernel8Ideal) (hPre_sample_weights_finite := hPre_sample_weights_finite)
    ∧ quiescent_Reference8Ideal (hReference8Ideal := hReference8Ideal)
    ∧ quiescent_Reference8Ideal_pre_sample_weights_finite (hReference8Ideal := hReference8Ideal) (hPre_sample_weights_finite := hPre_sample_weights_finite)
    ∧ preserves_Kernel_KernelIdeal
    ∧ algebraic_KernelIdeal_ReferenceIdeal_pre_lb_finite (hKernelIdeal := hKernelIdeal) (hReferenceIdeal := hReferenceIdeal) (hPre_lb_finite := hPre_lb_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_weights_finite (hKernel6Ideal := hKernel6Ideal) (hReference6Ideal := hReference6Ideal) (hPre_weights_finite := hPre_weights_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_sample_weights_finite (hKernel8Ideal := hKernel8Ideal) (hReference8Ideal := hReference8Ideal) (hPre_sample_weights_finite := hPre_sample_weights_finite)
-- ==== Pre_lb_finite.lean ====
abbrev S8x32x4096 : Shape := ⟨3, ![8, 32, 4096]⟩
abbrev S2x1024 : Shape := ⟨2, ![2, 1024]⟩
abbrev S1x128 : Shape := ⟨2, ![1, 128]⟩
abbrev S1x8x8x128x128 : Shape := ⟨5, ![1, 8, 8, 128, 128]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S8x32x4096 .f32) (main_arg1 : FVec F S2x1024 .f32) (main_arg2 : FVec F S1x128 .f32) (main_arg3 : FVec F S1x8x8x128x128 .f32) : IVec S_ 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  main_v3
-- ==== Pre_sample_weights_finite.lean ====
abbrev S256x2048 : Shape := ⟨2, ![256, 2048]⟩
abbrev S1x2048 : Shape := ⟨2, ![1, 2048]⟩
abbrev S1x2048x10832 : Shape := ⟨3, ![1, 2048, 10832]⟩
abbrev S1x64 : Shape := ⟨2, ![1, 64]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x10832 : S_.BroadcastsInDim S1x2048x10832 (![] : Fin 0 → Fin S1x2048x10832.rank)
  reducesTo_S1x2048x10832_S_d0_1_2 : S1x2048x10832.ReducesTo [0, 1, 2] S_

variable [Facts]

def fn {F : FTy → Type} [FloatOps F] (main_arg0 : FVec F S256x2048 .f32) (main_arg1 : FVec F S1x2048 .f32) (main_arg2 : FVec F S1x2048x10832 .f32) (main_arg3 : FVec F S1x64 .f32) (main_arg4 : FVec F S1x64 .f32) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048x10832 .f32 := Host.absf main_arg2
  let main_cst_0 : FVec F S_ .f32 := constant S_ .f32 0x7F800000#32
  let main_v5 : FVec F S1x2048x10832 .f32 := broadcastInDim S1x2048x10832 ![] bcast_S_S1x2048x10832 main_cst_0
  let main_v6 : IVec S1x2048x10832 1 := cmpf .olt main_v4 main_v5
  let main_c_1 : IVec S_ 1 := constantI S_ 1 1#1
  let main_v7 : IVec S_ 1 := (fun x v => Host.reduce IntOp.andi x v reducesTo_S1x2048x10832_S_d0_1_2 h_S_) main_v6 main_c_1
  let main_v8 : IVec S_ 1 := andi main_v3 main_v7
  main_v8
-- ==== Pre_weights_finite.lean ====
abbrev S32768x2048 : Shape := ⟨2, ![32768, 2048]⟩
abbrev S1x2048 : Shape := ⟨2, ![1, 2048]⟩
abbrev S1x2048x10832 : Shape := ⟨3, ![1, 2048, 10832]⟩
abbrev S1x64 : Shape := ⟨2, ![1, 64]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x10832 : S_.BroadcastsInDim S1x2048x10832 (![] : Fin 0 → Fin S1x2048x10832.rank)
  reducesTo_S1x2048x10832_S_d0_1_2 : S1x2048x10832.ReducesTo [0, 1, 2] S_

variable [Facts]

def fn {F : FTy → Type} [FloatOps F] (main_arg0 : FVec F S32768x2048 .f32) (main_arg1 : FVec F S1x2048 .f32) (main_arg2 : FVec F S1x2048x10832 .f32) (main_arg3 : FVec F S1x64 .f32) (main_arg4 : FVec F S1x64 .f32) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048x10832 .f32 := Host.absf main_arg2
  let main_cst_0 : FVec F S_ .f32 := constant S_ .f32 0x7F800000#32
  let main_v5 : FVec F S1x2048x10832 .f32 := broadcastInDim S1x2048x10832 ![] bcast_S_S1x2048x10832 main_cst_0
  let main_v6 : IVec S1x2048x10832 1 := cmpf .olt main_v4 main_v5
  let main_c_1 : IVec S_ 1 := constantI S_ 1 1#1
  let main_v7 : IVec S_ 1 := (fun x v => Host.reduce IntOp.andi x v reducesTo_S1x2048x10832_S_d0_1_2 h_S_) main_v6 main_c_1
  let main_v8 : IVec S_ 1 := andi main_v3 main_v7
  main_v8
-- ==== Kernel.lean ====
abbrev S8x32x4096 : Shape := ⟨3, ![8, 32, 4096]⟩
abbrev S2x1024 : Shape := ⟨2, ![2, 1024]⟩
abbrev S1x128 : Shape := ⟨2, ![1, 128]⟩
abbrev S1x8x8x128x128 : Shape := ⟨5, ![1, 8, 8, 128, 128]⟩
abbrev S32x32 : Shape := ⟨2, ![32, 32]⟩
abbrev S_ : Shape := ⟨0, ![]⟩
abbrev S1024 : Shape := ⟨1, ![1024]⟩
abbrev S1x1024 : Shape := ⟨2, ![1, 1024]⟩
abbrev S8x8x128x128 : Shape := ⟨4, ![8, 8, 128, 128]⟩
abbrev S128 : Shape := ⟨1, ![128]⟩
abbrev S128x128 : Shape := ⟨2, ![128, 128]⟩
abbrev S8x32x1024 : Shape := ⟨3, ![8, 32, 1024]⟩
abbrev S1x32x128 : Shape := ⟨3, ![1, 32, 128]⟩
abbrev S1x1x128x128 : Shape := ⟨4, ![1, 1, 128, 128]⟩
abbrev S16x128 : Shape := ⟨2, ![16, 128]⟩
abbrev S32x128 : Shape := ⟨2, ![32, 128]⟩
abbrev S256x128 : Shape := ⟨2, ![256, 128]⟩
abbrev S128x32 : Shape := ⟨2, ![128, 32]⟩
abbrev S32 : Shape := ⟨1, ![32]⟩
abbrev S32x1 : Shape := ⟨2, ![32, 1]⟩

abbrev nBuf : Space → Nat
  | .hbm => 34
  | .vmem => 20
  | .smem => 0
  | _ => 0

abbrev bufTy : (tb : Table) → Fin (tcTables nBuf tb) → BufTy
  | .hbm, ⟨0, _⟩ => ⟨S8x32x4096, .f32⟩
  | .hbm, ⟨1, _⟩ => ⟨S2x1024, .f32⟩
  | .hbm, ⟨2, _⟩ => ⟨S1x128, .f32⟩
  | .hbm, ⟨3, _⟩ => ⟨S1x8x8x128x128, .f32⟩
  | .hbm, ⟨4, _⟩ => ⟨S32x32, .bf16⟩
  | .hbm, ⟨5, _⟩ => ⟨S32x32, .bf16⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S2x1024, .f32⟩
  | .hbm, ⟨19, _⟩ => ⟨S2x1024, .f32⟩
  | .hbm, ⟨20, _⟩ => ⟨S_, .f32⟩
  | .hbm, ⟨21, _⟩ => ⟨S_, .f32⟩
  | .hbm, ⟨22, _⟩ => ⟨S2x1024, .f32⟩
  | .hbm, ⟨23, _⟩ => ⟨S1x1024, .f32⟩
  | .hbm, ⟨24, _⟩ => ⟨S8x8x128x128, .f32⟩
  | .hbm, ⟨25, _⟩ => ⟨S1024, .f32⟩
  | .hbm, ⟨26, _⟩ => ⟨S1x1024, .f32⟩
  | .hbm, ⟨27, _⟩ => ⟨S128, .f32⟩
  | .hbm, ⟨28, _⟩ => ⟨S1x128, .f32⟩
  | .hbm, ⟨29, _⟩ => ⟨S8x8x128x128, .f32⟩
  | .hbm, ⟨30, _⟩ => ⟨S_, .bf16⟩
  | .hbm, ⟨31, _⟩ => ⟨S128x128, .bf16⟩
  | .hbm, ⟨32, _⟩ => ⟨S8x32x1024, .bf16⟩
  | .hbm, ⟨33, _⟩ => ⟨S8x8x128x128, .f32⟩
  | .local _ .vmem, ⟨0, _⟩ => ⟨S1x32x128, .f32⟩
  | .local _ .vmem, ⟨1, _⟩ => ⟨S1x32x128, .f32⟩
  | .local _ .vmem, ⟨2, _⟩ => ⟨S1x32x128, .f32⟩
  | .local _ .vmem, ⟨3, _⟩ => ⟨S1x32x128, .f32⟩
  | .local _ .vmem, ⟨4, _⟩ => ⟨S1x32x128, .f32⟩
  | .local _ .vmem, ⟨5, _⟩ => ⟨S1x32x128, .f32⟩
  | .local _ .vmem, ⟨6, _⟩ => ⟨S1x32x128, .f32⟩
  | .local _ .vmem, ⟨7, _⟩ => ⟨S1x32x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x1x128x128, .f32⟩
  | .local _ .vmem, ⟨12, _⟩ => ⟨S1x1x128x128, .f32⟩
  | .local _ .vmem, ⟨13, _⟩ => ⟨S32x32, .bf16⟩
  | .local _ .vmem, ⟨14, _⟩ => ⟨S32x32, .bf16⟩
  | .local _ .vmem, ⟨15, _⟩ => ⟨S128x128, .bf16⟩
  | .local _ .vmem, ⟨16, _⟩ => ⟨S1x32x128, .bf16⟩
  | .local _ .vmem, ⟨17, _⟩ => ⟨S1x32x128, .bf16⟩
  | .local _ .vmem, ⟨18, _⟩ => ⟨S1x1x128x128, .f32⟩
  | .local _ .vmem, ⟨19, _⟩ => ⟨S1x1x128x128, .f32⟩
  | _, _ => ⟨S8x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_cst_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_call0_cst : Ref sig .tc := ⟨.hbm, 20, rfl⟩
abbrev main_call0_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S32x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S32x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x32x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S8x32x4096 : Shape := ⟨3, ![8, 32, 4096]⟩
abbrev S2x1024 : Shape := ⟨2, ![2, 1024]⟩
abbrev S1x128 : Shape := ⟨2, ![1, 128]⟩
abbrev S1x8x8x128x128 : Shape := ⟨5, ![1, 8, 8, 128, 128]⟩
abbrev S8x32x1024 : Shape := ⟨3, ![8, 32, 1024]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S8x32x8x128 : Shape := ⟨4, ![8, 32, 8, 128]⟩
abbrev S8x8x32x128 : Shape := ⟨4, ![8, 8, 32, 128]⟩
abbrev S32x32 : Shape := ⟨2, ![32, 32]⟩
abbrev S32x32x1 : Shape := ⟨3, ![32, 32, 1]⟩
abbrev S8x8x128x128 : Shape := ⟨4, ![8, 8, 128, 128]⟩
abbrev S8x8x32x1x128 : Shape := ⟨5, ![8, 8, 32, 1, 128]⟩
abbrev S8x8x1x32x128 : Shape := ⟨5, ![8, 8, 1, 32, 128]⟩
abbrev S8x8x32x32x128 : Shape := ⟨5, ![8, 8, 32, 32, 128]⟩
abbrev S8x8x32x32 : Shape := ⟨4, ![8, 8, 32, 32]⟩
abbrev S8x8x1x128 : Shape := ⟨4, ![8, 8, 1, 128]⟩
abbrev S8x8x128 : Shape := ⟨3, ![8, 8, 128]⟩
abbrev S8x8x128x1 : Shape := ⟨4, ![8, 8, 128, 1]⟩
abbrev S8x32x8 : Shape := ⟨3, ![8, 32, 8]⟩
abbrev S8x32x8x1 : Shape := ⟨4, ![8, 32, 8, 1]⟩
abbrev S128 : Shape := ⟨1, ![128]⟩
abbrev S1x1x1x128 : Shape := ⟨4, ![1, 1, 1, 128]⟩

abbrev nBuf : Space → Nat
  | .hbm => 148
  | .vmem => 0
  | .smem => 0
  | _ => 0

abbrev hbmTy0_0 (i : Nat) : BufTy := match i % 128 with
  | 0 => ⟨S8x32x4096, .f32⟩
  | 1 => ⟨S2x1024, .f32⟩
  | 2 => ⟨S1x128, .f32⟩
  | 3 => ⟨S1x8x8x128x128, .f32⟩
  | 4 => ⟨S8x32x1024, .f32⟩
  | 5 => ⟨S8x32x1024, .f32⟩
  | 6 => ⟨S8x32x1024, .f32⟩
  | 7 => ⟨S8x32x1024, .f32⟩
  | 8 => ⟨S_, .f32⟩
  | 9 => ⟨S1024, .f32⟩
  | 10 => ⟨S_, .f32⟩
  | 11 => ⟨S1024, .f32⟩
  | 12 => ⟨S1024, .f32⟩
  | 13 => ⟨S1x1024, .f32⟩
  | 14 => ⟨S2x1024, .f32⟩
  | 15 => ⟨S2x1024, .f32⟩
  | 16 => ⟨S2x1024, .f32⟩
  | 17 => ⟨S_, .f32⟩
  | 18 => ⟨S1024, .f32⟩
  | 19 => ⟨S1x1024, .f32⟩
  | 20 => ⟨S2x1024, .f32⟩
  | 21 => ⟨S2x1024, .f32⟩
  | 22 => ⟨S_, .f32⟩
  | 23 => ⟨S_, .f32⟩
  | 24 => ⟨S2x1024, .f32⟩
  | 25 => ⟨S1x1024, .f32⟩
  | 26 => ⟨S1024, .f32⟩
  | 27 => ⟨S_, .f32⟩
  | 28 => ⟨S1024, .f32⟩
  | 29 => ⟨S1024, .f32⟩
  | 30 => ⟨S8x32x1024, .f32⟩
  | 31 => ⟨S8x32x1024, .f32⟩
  | 32 => ⟨S_, .f32⟩
  | 33 => ⟨S8x32x1024, .f32⟩
  | 34 => ⟨S8x32x1024, .f32⟩
  | 35 => ⟨S_, .f32⟩
  | 36 => ⟨S8x32x1024, .f32⟩
  | 37 => ⟨S8x32x1024, .f32⟩
  | 38 => ⟨S1x1x1024, .f32⟩
  | 39 => ⟨S8x32x1024, .f32⟩
  | 40 => ⟨S8x32x1024, .f32⟩
  | 41 => ⟨S1x1x1024, .f32⟩
  | 42 => ⟨S8x32x1024, .f32⟩
  | 43 => ⟨S8x32x1024, .f32⟩
  | 44 => ⟨S8x32x1024, .f32⟩
  | 45 => ⟨S8x32x8x128, .f32⟩
  | 46 => ⟨S8x8x32x128, .f32⟩
  | 47 => ⟨S_, .f32⟩
  | 48 => ⟨S8x32x1024, .f32⟩
  | 49 => ⟨S8x32x1024, .f32⟩
  | 50 => ⟨S8x32x8x128, .f32⟩
  | 51 => ⟨S8x8x32x128, .f32⟩
  | 52 => ⟨S8x32x1024, .f32⟩
  | 53 => ⟨S8x32x1024, .f32⟩
  | 54 => ⟨S_, .f32⟩
  | 55 => ⟨S8x32x1024, .f32⟩
  | 56 => ⟨S8x32x1024, .f32⟩
  | 57 => ⟨S_, .f32⟩
  | 58 => ⟨S8x32x1024, .f32⟩
  | 59 => ⟨S8x32x1024, .f32⟩
  | 60 => ⟨S8x32x1024, .f32⟩
  | 61 => ⟨S8x32x8x128, .f32⟩
  | 62 => ⟨S8x8x32x128, .f32⟩
  | 63 => ⟨S8x32x8x128, .f32⟩
  | 64 => ⟨S8x8x32x128, .f32⟩
  | 65 => ⟨S_, .i1⟩
  | 66 => ⟨S32x32, .i1⟩
  | 67 => ⟨S32x32, .i32⟩
  | 68 => ⟨S_, .i32⟩
  | 69 => ⟨S32x32, .i32⟩
  | 70 => ⟨S32x32, .i32⟩
  | 71 => ⟨S32x32, .i32⟩
  | 72 => ⟨S32x32, .i1⟩
  | 73 => ⟨S_, .i1⟩
  | 74 => ⟨S32x32, .i1⟩
  | 75 => ⟨S32x32, .i1⟩
  | 76 => ⟨S32x32x1, .i1⟩
  | 77 => ⟨S8x8x128x128, .f32⟩
  | 78 => ⟨S_, .f32⟩
  | 79 => ⟨S_, .f32⟩
  | 80 => ⟨S8x8x32x128, .f32⟩
  | 81 => ⟨S8x8x32x1x128, .f32⟩
  | 82 => ⟨S8x8x1x32x128, .f32⟩
  | 83 => ⟨S8x8x32x32x128, .f32⟩
  | 84 => ⟨S8x8x32x32x128, .f32⟩
  | 85 => ⟨S8x8x32x32x128, .f32⟩
  | 86 => ⟨S_, .f32⟩
  | 87 => ⟨S_, .f32⟩
  | 88 => ⟨S8x8x32x32x128, .i1⟩
  | 89 => ⟨S8x8x32x32x128, .f32⟩
  | 90 => ⟨S8x8x32x32x128, .f32⟩
  | 91 => ⟨S8x8x32x32x128, .f32⟩
  | 92 => ⟨S8x8x32x1x128, .f32⟩
  | 93 => ⟨S8x8x1x32x128, .f32⟩
  | 94 => ⟨S8x8x32x32x128, .f32⟩
  | 95 => ⟨S8x8x32x32x128, .f32⟩
  | 96 => ⟨S8x8x32x32x128, .f32⟩
  | 97 => ⟨S8x8x32x32x128, .f32⟩
  | 98 => ⟨S_, .f32⟩
  | 99 => ⟨S8x8x32x32, .f32⟩
  | 100 => ⟨S8x8x32x128, .f32⟩
  | 101 => ⟨S8x8x32x128, .f32⟩
  | 102 => ⟨S8x8x32x128, .f32⟩
  | 103 => ⟨S8x8x32x128, .f32⟩
  | 104 => ⟨S8x8x32x128, .f32⟩
  | 105 => ⟨S8x8x1x128, .f32⟩
  | 106 => ⟨S8x8x128, .f32⟩
  | 107 => ⟨S8x8x128, .f32⟩
  | 108 => ⟨S8x8x128x1, .f32⟩
  | 109 => ⟨S8x8x128x128, .f32⟩
  | 110 => ⟨S8x8x128x128, .f32⟩
  | 111 => ⟨S8x8x32x128, .f32⟩
  | 112 => ⟨S8x8x32x128, .f32⟩
  | 113 => ⟨S8x8x32x128, .f32⟩
  | 114 => ⟨S8x8x32x128, .f32⟩
  | 115 => ⟨S8x8x128x128, .f32⟩
  | 116 => ⟨S8x8x128x128, .f32⟩
  | 117 => ⟨S8x32x8x128, .f32⟩
  | 118 => ⟨S8x32x8x128, .f32⟩
  | 119 => ⟨S_, .f32⟩
  | 120 => ⟨S8x32x8, .f32⟩
  | 121 => ⟨S8x32x8x1, .f32⟩
  | 122 => ⟨S_, .f32⟩
  | 123 => ⟨S8x32x8x1, .f32⟩
  | 124 => ⟨S8x32x8x1, .f32⟩
  | 125 => ⟨S_, .f32⟩
  | 126 => ⟨S8x32x8x1, .f32⟩
  | 127 => ⟨S8x32x8x1, .f32⟩
  | _ => ⟨S8x32x4096, .f32⟩

abbrev hbmTy0_1 (i : Nat) : BufTy := match i % 128 with
  | 0 => ⟨S8x32x8x1, .f32⟩
  | 1 => ⟨S8x32x8x128, .f32⟩
  | 2 => ⟨S8x32x8x128, .f32⟩
  | 3 => ⟨S128, .f32⟩
  | 4 => ⟨S1x1x1x128, .f32⟩
  | 5 => ⟨S8x32x8x128, .f32⟩
  | 6 => ⟨S8x32x8x128, .f32⟩
  | 7 => ⟨S8x32x1024, .f32⟩
  | 8 => ⟨S8x32x1024, .f32⟩
  | 9 => ⟨S8x32x1024, .f32⟩
  | 10 => ⟨S_, .f32⟩
  | 11 => ⟨S8x32x1024, .f32⟩
  | 12 => ⟨S8x32x1024, .f32⟩
  | 13 => ⟨S_, .f32⟩
  | 14 => ⟨S8x32x1024, .f32⟩
  | 15 => ⟨S8x32x1024, .f32⟩
  | 16 => ⟨S8x32x1024, .f32⟩
  | 17 => ⟨S8x32x1024, .f32⟩
  | 18 => ⟨S8x32x1024, .bf16⟩
  | 19 => ⟨S8x8x128x128, .f32⟩
  | _ => ⟨S8x32x4096, .f32⟩

abbrev hbmTy (i : Nat) : BufTy := match i / 128 with
  | 0 => hbmTy0_0 i
  | 1 => hbmTy0_1 i
  | _ => ⟨S8x32x4096, .f32⟩

abbrev bufTy : (tb : Table) → Fin (tcTables nBuf tb) → BufTy
  | .hbm, ⟨i, _⟩ => hbmTy i
  | _, _ => ⟨S8x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c : Ref sig .tc := ⟨.hbm, 65, rfl⟩
abbrev main_v44 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_0 : Ref sig .tc := ⟨.hbm, 73, rfl⟩
abbrev main_call2_v5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call3_call0_cst : Ref sig .tc := ⟨.hbm, 78, rfl⟩
abbrev main_call3_call0_v0 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_6 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_7 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_8 : Ref sig .tc := ⟨.hbm, 119, rfl⟩
abbrev main_v82 : Ref sig .tc := ⟨.hbm, 120, rfl⟩
abbrev main_v83 : Ref sig .tc := ⟨.hbm, 121, rfl⟩
abbrev main_cst_9 : Ref sig .tc := ⟨.hbm, 122, rfl⟩
abbrev main_v84 : Ref sig .tc := ⟨.hbm, 123, rfl⟩
abbrev main_v85 : Ref sig .tc := ⟨.hbm, 124, rfl⟩
abbrev main_cst_10 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call5_v0 : Ref sig .tc := ⟨.hbm, 136, rfl⟩
abbrev main_call5_v1 : Ref sig .tc := ⟨.hbm, 137, rfl⟩
abbrev main_call5_cst : Ref sig .tc := ⟨.hbm, 138, rfl⟩
abbrev main_call5_v2 : Ref sig .tc := ⟨.hbm, 139, rfl⟩
abbrev main_call5_v3 : Ref sig .tc := ⟨.hbm, 140, rfl⟩
abbrev main_call5_cst_0 : Ref sig .tc := ⟨.hbm, 141, rfl⟩
abbrev main_call5_v4 : Ref sig .tc := ⟨.hbm, 142, rfl⟩
abbrev main_call5_v5 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩

abbrev nD : Nat := 1
abbrev τ : Topo := Topo.v7x

variable {F : FTy → Type} [FloatOps F]
-- ==== Kernel2.lean ====
abbrev S2x16384x2048 : Shape := ⟨3, ![2, 16384, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S32768x2048, .f32⟩
  | .hbm, ⟨5, _⟩ => ⟨S2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel2Ideal.lean ====
abbrev S2x16384x2048 : Shape := ⟨3, ![2, 16384, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S32768x2048, .f32⟩
  | .hbm, ⟨5, _⟩ => ⟨S2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x16384x2048 : Shape := ⟨3, ![2, 16384, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x11264 : Shape := ⟨2, ![2048, 11264]⟩
abbrev S32768x11264 : Shape := ⟨2, ![32768, 11264]⟩
abbrev S32768x5632 : Shape := ⟨2, ![32768, 5632]⟩
abbrev S5632x2048 : Shape := ⟨2, ![5632, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S32768x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S2048x11264, .f32⟩
  | .hbm, ⟨23, _⟩ => ⟨S32768x11264, .f32⟩
  | .hbm, ⟨24, _⟩ => ⟨S32768x5632, .f32⟩
  | .hbm, ⟨25, _⟩ => ⟨S32768x5632, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S_, .f32⟩
  | .hbm, ⟨32, _⟩ => ⟨S32768x5632, .f32⟩
  | .hbm, ⟨33, _⟩ => ⟨S32768x5632, .f32⟩
  | .hbm, ⟨34, _⟩ => ⟨S32768x5632, .f32⟩
  | .hbm, ⟨35, _⟩ => ⟨S32768x5632, .f32⟩
  | .hbm, ⟨36, _⟩ => ⟨S5632x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel3.lean ====
abbrev S32768x2048 : Shape := ⟨2, ![32768, 2048]⟩
abbrev S1x2048 : Shape := ⟨2, ![1, 2048]⟩
abbrev S1x2048x10832 : Shape := ⟨3, ![1, 2048, 10832]⟩
abbrev S2048x10832 : Shape := ⟨2, ![2048, 10832]⟩
abbrev S2048 : Shape := ⟨1, ![2048]⟩
abbrev S2048x4096 : Shape := ⟨2, ![2048, 4096]⟩
abbrev S32768x4096 : Shape := ⟨2, ![32768, 4096]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x10832, .f32⟩
  | .hbm, ⟨3, _⟩ => ⟨S2048x10832, .f32⟩
  | .hbm, ⟨4, _⟩ => ⟨S2048, .f32⟩
  | .hbm, ⟨5, _⟩ => ⟨S1x2048, .f32⟩
  | .hbm, ⟨6, _⟩ => ⟨S2048x4096, .f32⟩
  | .hbm, ⟨7, _⟩ => ⟨S2048x4096, .bf16⟩
  | .hbm, ⟨8, _⟩ => ⟨S32768x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32768x2048 : Shape := ⟨2, ![32768, 2048]⟩
abbrev S1x2048 : Shape := ⟨2, ![1, 2048]⟩
abbrev S1x2048x10832 : Shape := ⟨3, ![1, 2048, 10832]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x10832 : Shape := ⟨2, ![2048, 10832]⟩
abbrev S32768x10832 : Shape := ⟨2, ![32768, 10832]⟩
abbrev S32768x4096 : Shape := ⟨2, ![32768, 4096]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x10832, .f32⟩
  | .hbm, ⟨3, _⟩ => ⟨S2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x10832, .f32⟩
  | .hbm, ⟨21, _⟩ => ⟨S32768x10832, .f32⟩
  | .hbm, ⟨22, _⟩ => ⟨S32768x4096, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S32768x2048 : Shape := ⟨2, ![32768, 2048]⟩
abbrev S1x2048 : Shape := ⟨2, ![1, 2048]⟩
abbrev S1x2048x10832 : Shape := ⟨3, ![1, 2048, 10832]⟩
abbrev S2048x10832 : Shape := ⟨2, ![2048, 10832]⟩
abbrev S2048 : Shape := ⟨1, ![2048]⟩
abbrev S2048x4096 : Shape := ⟨2, ![2048, 4096]⟩
abbrev S32768x4096 : Shape := ⟨2, ![32768, 4096]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x10832, .f32⟩
  | .hbm, ⟨3, _⟩ => ⟨S2048x10832, .f32⟩
  | .hbm, ⟨4, _⟩ => ⟨S2048, .f32⟩
  | .hbm, ⟨5, _⟩ => ⟨S1x2048, .f32⟩
  | .hbm, ⟨6, _⟩ => ⟨S2048x4096, .f32⟩
  | .hbm, ⟨7, _⟩ => ⟨S2048x4096, .bf16⟩
  | .hbm, ⟨8, _⟩ => ⟨S32768x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32768x2048 : Shape := ⟨2, ![32768, 2048]⟩
abbrev S1x2048 : Shape := ⟨2, ![1, 2048]⟩
abbrev S1x2048x10832 : Shape := ⟨3, ![1, 2048, 10832]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x10832 : Shape := ⟨2, ![2048, 10832]⟩
abbrev S32768x10832 : Shape := ⟨2, ![32768, 10832]⟩
abbrev S32768x4096 : Shape := ⟨2, ![32768, 4096]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x10832, .f32⟩
  | .hbm, ⟨3, _⟩ => ⟨S2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x10832, .f32⟩
  | .hbm, ⟨21, _⟩ => ⟨S32768x10832, .f32⟩
  | .hbm, ⟨22, _⟩ => ⟨S32768x4096, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S32768x2048 : Shape := ⟨2, ![32768, 2048]⟩
abbrev S32768x1024 : Shape := ⟨2, ![32768, 1024]⟩
abbrev S32768x4096 : Shape := ⟨2, ![32768, 4096]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S512x512 : Shape := ⟨2, ![512, 512]⟩
abbrev S512x1024 : Shape := ⟨2, ![512, 1024]⟩
abbrev S512x2048 : Shape := ⟨2, ![512, 2048]⟩
abbrev S2048x512 : Shape := ⟨2, ![2048, 512]⟩

abbrev nBuf : Space → Nat
  | .hbm => 14
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S32768x4096, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S1024x2048, .bf16⟩
  | .hbm, ⟨11, _⟩ => ⟨S2048x2048, .f32⟩
  | .hbm, ⟨12, _⟩ => ⟨S2048x2048, .bf16⟩
  | .hbm, ⟨13, _⟩ => ⟨S32768x2048, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x512, .bf16⟩
  | .local _ .vmem, ⟨13, _⟩ => ⟨S2048x512, .bf16⟩
  | .local _ .vmem, ⟨14, _⟩ => ⟨S512x512, .f32⟩
  | .local _ .vmem, ⟨15, _⟩ => ⟨S512x512, .f32⟩
  | .local _ .vmem, ⟨16, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S32768x2048 : Shape := ⟨2, ![32768, 2048]⟩
abbrev S32768x1024 : Shape := ⟨2, ![32768, 1024]⟩
abbrev S32768x4096 : Shape := ⟨2, ![32768, 4096]⟩
abbrev S1x1024x2048 : Shape := ⟨3, ![1, 1024, 2048]⟩
abbrev S1x2048x2048 : Shape := ⟨3, ![1, 2048, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S32768x4096, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S32768x1024, .f32⟩
  | .hbm, ⟨18, _⟩ => ⟨S1024x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768x2048, .f32⟩
  | .hbm, ⟨28, _⟩ => ⟨S32768x2048, .f32⟩
  | .hbm, ⟨29, _⟩ => ⟨S32768x1024, .f32⟩
  | .hbm, ⟨30, _⟩ => ⟨S1024x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S2048x2048, .f32⟩
  | .hbm, ⟨35, _⟩ => ⟨S32768x2048, .f32⟩
  | .hbm, ⟨36, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel6.lean ====
abbrev S32768x2048 : Shape := ⟨2, ![32768, 2048]⟩
abbrev S1x2048 : Shape := ⟨2, ![1, 2048]⟩
abbrev S1x2048x10832 : Shape := ⟨3, ![1, 2048, 10832]⟩
abbrev S1x64 : Shape := ⟨2, ![1, 64]⟩
abbrev S2048x10832 : Shape := ⟨2, ![2048, 10832]⟩
abbrev S2048x2560 : Shape := ⟨2, ![2048, 2560]⟩
abbrev S2048x64 : Shape := ⟨2, ![2048, 64]⟩
abbrev S_ : Shape := ⟨0, ![]⟩
abbrev S2048x128 : Shape := ⟨2, ![2048, 128]⟩
abbrev S2048x16 : Shape := ⟨2, ![2048, 16]⟩
abbrev S2048x2816 : Shape := ⟨2, ![2048, 2816]⟩
abbrev S2048 : Shape := ⟨1, ![2048]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S16x64x128 : Shape := ⟨3, ![16, 64, 128]⟩
abbrev S1024x128 : Shape := ⟨2, ![1024, 128]⟩
abbrev S128x1024 : Shape := ⟨2, ![128, 1024]⟩
abbrev S4x64x128 : Shape := ⟨3, ![4, 64, 128]⟩
abbrev S256x128 : Shape := ⟨2, ![256, 128]⟩
abbrev S128x256 : Shape := ⟨2, ![128, 256]⟩
abbrev S32768x1024 : Shape := ⟨2, ![32768, 1024]⟩
abbrev S32768x256 : Shape := ⟨2, ![32768, 256]⟩
abbrev S32768x64 : Shape := ⟨2, ![32768, 64]⟩
abbrev S32768x16 : Shape := ⟨2, ![32768, 16]⟩
abbrev S512x2048 : Shape := ⟨2, ![512, 2048]⟩
abbrev S512x1024 : Shape := ⟨2, ![512, 1024]⟩
abbrev S512x256 : Shape := ⟨2, ![512, 256]⟩
abbrev S512x64 : Shape := ⟨2, ![512, 64]⟩
abbrev S512x16 : Shape := ⟨2, ![512, 16]⟩
abbrev S512 : Shape := ⟨1, ![512]⟩
abbrev S512x1 : Shape := ⟨2, ![512, 1]⟩
abbrev S2048x1024 : Shape := ⟨2, ![2048, 1024]⟩
abbrev S512x128 : Shape := ⟨2, ![512, 128]⟩
abbrev S2048x256 : Shape := ⟨2, ![2048, 256]⟩

abbrev nBuf : Space → Nat
  | .hbm => 63
  | .vmem => 28
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x10832, .f32⟩
  | .hbm, ⟨3, _⟩ => ⟨S1x64, .f32⟩
  | .hbm, ⟨4, _⟩ => ⟨S1x64, .f32⟩
  | .hbm, ⟨5, _⟩ => ⟨S2048x10832, .f32⟩
  | .hbm, ⟨6, _⟩ => ⟨S2048x2560, .f32⟩
  | .hbm, ⟨7, _⟩ => ⟨S2048x64, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x16, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x2816, .f32⟩
  | .hbm, ⟨16, _⟩ => ⟨S2048, .f32⟩
  | .hbm, ⟨17, _⟩ => ⟨S1x2048, .f32⟩
  | .hbm, ⟨18, _⟩ => ⟨S2048x2816, .bf16⟩
  | .hbm, ⟨19, _⟩ => ⟨S64, .f32⟩
  | .hbm, ⟨20, _⟩ => ⟨S1x64, .f32⟩
  | .hbm, ⟨21, _⟩ => ⟨S16x64, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S64, .f32⟩
  | .hbm, ⟨28, _⟩ => ⟨S1x64, .f32⟩
  | .hbm, ⟨29, _⟩ => ⟨S4x64, .f32⟩
  | .hbm, ⟨30, _⟩ => ⟨S256, .f32⟩
  | .hbm, ⟨31, _⟩ => ⟨S1x256, .f32⟩
  | .hbm, ⟨32, _⟩ => ⟨S16x64x128, .i32⟩
  | .hbm, ⟨33, _⟩ => ⟨S16x64x128, .i32⟩
  | .hbm, ⟨34, _⟩ => ⟨S16x64x128, .i1⟩
  | .hbm, ⟨35, _⟩ => ⟨S_, .f32⟩
  | .hbm, ⟨36, _⟩ => ⟨S_, .f32⟩
  | .hbm, ⟨37, _⟩ => ⟨S16x64x128, .f32⟩
  | .hbm, ⟨38, _⟩ => ⟨S16x64x128, .f32⟩
  | .hbm, ⟨39, _⟩ => ⟨S16x64x128, .f32⟩
  | .hbm, ⟨40, _⟩ => ⟨S1024x128, .f32⟩
  | .hbm, ⟨41, _⟩ => ⟨S1024x128, .bf16⟩
  | .hbm, ⟨42, _⟩ => ⟨S128x1024, .bf16⟩
  | .hbm, ⟨43, _⟩ => ⟨S4x64x128, .i32⟩
  | .hbm, ⟨44, _⟩ => ⟨S4x64x128, .i32⟩
  | .hbm, ⟨45, _⟩ => ⟨S4x64x128, .i1⟩
  | .hbm, ⟨46, _⟩ => ⟨S_, .f32⟩
  | .hbm, ⟨47, _⟩ => ⟨S_, .f32⟩
  | .hbm, ⟨48, _⟩ => ⟨S4x64x128, .f32⟩
  | .hbm, ⟨49, _⟩ => ⟨S4x64x128, .f32⟩
  | .hbm, ⟨50, _⟩ => ⟨S4x64x128, .f32⟩
  | .hbm, ⟨51, _⟩ => ⟨S256x128, .f32⟩
  | .hbm, ⟨52, _⟩ => ⟨S256x128, .bf16⟩
  | .hbm, ⟨53, _⟩ => ⟨S128x256, .bf16⟩
  | .hbm, ⟨54, _⟩ => ⟨S32768x1024, .bf16⟩
  | .hbm, ⟨55, _⟩ => ⟨S32768x256, .f32⟩
  | .hbm, ⟨56, _⟩ => ⟨S32768x256, .bf16⟩
  | .hbm, ⟨57, _⟩ => ⟨S32768x256, .f32⟩
  | .hbm, ⟨58, _⟩ => ⟨S32768x256, .bf16⟩
  | .hbm, ⟨59, _⟩ => ⟨S32768x1024, .bf16⟩
  | .hbm, ⟨60, _⟩ => ⟨S32768x64, .f32⟩
  | .hbm, ⟨61, _⟩ => ⟨S32768x64, .bf16⟩
  | .hbm, ⟨62, _⟩ => ⟨S32768x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2816, .bf16⟩
  | .local _ .vmem, ⟨4, _⟩ => ⟨S1x1024, .f32⟩
  | .local _ .vmem, ⟨5, _⟩ => ⟨S1x256, .f32⟩
  | .local _ .vmem, ⟨6, _⟩ => ⟨S1024x128, .bf16⟩
  | .local _ .vmem, ⟨7, _⟩ => ⟨S128x1024, .bf16⟩
  | .local _ .vmem, ⟨8, _⟩ => ⟨S256x128, .bf16⟩
  | .local _ .vmem, ⟨9, _⟩ => ⟨S128x256, .bf16⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x256, .bf16⟩
  | .local _ .vmem, ⟨15, _⟩ => ⟨S512x256, .bf16⟩
  | .local _ .vmem, ⟨16, _⟩ => ⟨S512x256, .f32⟩
  | .local _ .vmem, ⟨17, _⟩ => ⟨S512x256, .f32⟩
  | .local _ .vmem, ⟨18, _⟩ => ⟨S512x256, .bf16⟩
  | .local _ .vmem, ⟨19, _⟩ => ⟨S512x256, .bf16⟩
  | .local _ .vmem, ⟨20, _⟩ => ⟨S512x1024, .bf16⟩
  | .local _ .vmem, ⟨21, _⟩ => ⟨S512x1024, .bf16⟩
  | .local _ .vmem, ⟨22, _⟩ => ⟨S512x64, .f32⟩
  | .local _ .vmem, ⟨23, _⟩ => ⟨S512x64, .f32⟩
  | .local _ .vmem, ⟨24, _⟩ => ⟨S512x64, .bf16⟩
  | .local _ .vmem, ⟨25, _⟩ => ⟨S512x64, .bf16⟩
  | .local _ .vmem, ⟨26, _⟩ => ⟨S512x16, .f32⟩
  | .local _ .vmem, ⟨27, _⟩ => ⟨S512x16, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_cst_2 : Ref sig .tc := ⟨.hbm, 36, rfl⟩
abbrev main_call2_v0 : Ref sig .tc := ⟨.hbm, 37, rfl⟩
abbrev main_call2_v1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_cst_4 : Ref sig .tc := ⟨.hbm, 47, rfl⟩
abbrev main_call3_v0 : Ref sig .tc := ⟨.hbm, 48, rfl⟩
abbrev main_call3_v1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_v36_3 : Ref sig .tc := ⟨.hbm, 57, rfl⟩
abbrev main_v36_4 : Ref sig .tc := ⟨.hbm, 58, rfl⟩
abbrev main_v36_5 : Ref sig .tc := ⟨.hbm, 59, rfl⟩
abbrev main_v36_6 : Ref sig .tc := ⟨.hbm, 60, rfl⟩
abbrev main_v36_7 : Ref sig .tc := ⟨.hbm, 61, rfl⟩
abbrev main_v36_8 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x16 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel6Ideal.lean ====
abbrev S32768x2048 : Shape := ⟨2, ![32768, 2048]⟩
abbrev S1x2048 : Shape := ⟨2, ![1, 2048]⟩
abbrev S1x2048x10832 : Shape := ⟨3, ![1, 2048, 10832]⟩
abbrev S1x64 : Shape := ⟨2, ![1, 64]⟩
abbrev S2048x10832 : Shape := ⟨2, ![2048, 10832]⟩
abbrev S2048x2560 : Shape := ⟨2, ![2048, 2560]⟩
abbrev S2048x64 : Shape := ⟨2, ![2048, 64]⟩
abbrev S_ : Shape := ⟨0, ![]⟩
abbrev S2048x128 : Shape := ⟨2, ![2048, 128]⟩
abbrev S2048x16 : Shape := ⟨2, ![2048, 16]⟩
abbrev S2048x2816 : Shape := ⟨2, ![2048, 2816]⟩
abbrev S2048 : Shape := ⟨1, ![2048]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S16x64x128 : Shape := ⟨3, ![16, 64, 128]⟩
abbrev S1024x128 : Shape := ⟨2, ![1024, 128]⟩
abbrev S128x1024 : Shape := ⟨2, ![128, 1024]⟩
abbrev S4x64x128 : Shape := ⟨3, ![4, 64, 128]⟩
abbrev S256x128 : Shape := ⟨2, ![256, 128]⟩
abbrev S128x256 : Shape := ⟨2, ![128, 256]⟩
abbrev S32768x1024 : Shape := ⟨2, ![32768, 1024]⟩
abbrev S32768x256 : Shape := ⟨2, ![32768, 256]⟩
abbrev S32768x64 : Shape := ⟨2, ![32768, 64]⟩
abbrev S32768x16 : Shape := ⟨2, ![32768, 16]⟩
abbrev S512x2048 : Shape := ⟨2, ![512, 2048]⟩
abbrev S512x1024 : Shape := ⟨2, ![512, 1024]⟩
abbrev S512x256 : Shape := ⟨2, ![512, 256]⟩
abbrev S512x64 : Shape := ⟨2, ![512, 64]⟩
abbrev S512x16 : Shape := ⟨2, ![512, 16]⟩
abbrev S512 : Shape := ⟨1, ![512]⟩
abbrev S512x1 : Shape := ⟨2, ![512, 1]⟩
abbrev S2048x1024 : Shape := ⟨2, ![2048, 1024]⟩
abbrev S512x128 : Shape := ⟨2, ![512, 128]⟩
abbrev S2048x256 : Shape := ⟨2, ![2048, 256]⟩

abbrev nBuf : Space → Nat
  | .hbm => 63
  | .vmem => 28
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x10832, .f32⟩
  | .hbm, ⟨3, _⟩ => ⟨S1x64, .f32⟩
  | .hbm, ⟨4, _⟩ => ⟨S1x64, .f32⟩
  | .hbm, ⟨5, _⟩ => ⟨S2048x10832, .f32⟩
  | .hbm, ⟨6, _⟩ => ⟨S2048x2560, .f32⟩
  | .hbm, ⟨7, _⟩ => ⟨S2048x64, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x16, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x2816, .f32⟩
  | .hbm, ⟨16, _⟩ => ⟨S2048, .f32⟩
  | .hbm, ⟨17, _⟩ => ⟨S1x2048, .f32⟩
  | .hbm, ⟨18, _⟩ => ⟨S2048x2816, .bf16⟩
  | .hbm, ⟨19, _⟩ => ⟨S64, .f32⟩
  | .hbm, ⟨20, _⟩ => ⟨S1x64, .f32⟩
  | .hbm, ⟨21, _⟩ => ⟨S16x64, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S64, .f32⟩
  | .hbm, ⟨28, _⟩ => ⟨S1x64, .f32⟩
  | .hbm, ⟨29, _⟩ => ⟨S4x64, .f32⟩
  | .hbm, ⟨30, _⟩ => ⟨S256, .f32⟩
  | .hbm, ⟨31, _⟩ => ⟨S1x256, .f32⟩
  | .hbm, ⟨32, _⟩ => ⟨S16x64x128, .i32⟩
  | .hbm, ⟨33, _⟩ => ⟨S16x64x128, .i32⟩
  | .hbm, ⟨34, _⟩ => ⟨S16x64x128, .i1⟩
  | .hbm, ⟨35, _⟩ => ⟨S_, .f32⟩
  | .hbm, ⟨36, _⟩ => ⟨S_, .f32⟩
  | .hbm, ⟨37, _⟩ => ⟨S16x64x128, .f32⟩
  | .hbm, ⟨38, _⟩ => ⟨S16x64x128, .f32⟩
  | .hbm, ⟨39, _⟩ => ⟨S16x64x128, .f32⟩
  | .hbm, ⟨40, _⟩ => ⟨S1024x128, .f32⟩
  | .hbm, ⟨41, _⟩ => ⟨S1024x128, .bf16⟩
  | .hbm, ⟨42, _⟩ => ⟨S128x1024, .bf16⟩
  | .hbm, ⟨43, _⟩ => ⟨S4x64x128, .i32⟩
  | .hbm, ⟨44, _⟩ => ⟨S4x64x128, .i32⟩
  | .hbm, ⟨45, _⟩ => ⟨S4x64x128, .i1⟩
  | .hbm, ⟨46, _⟩ => ⟨S_, .f32⟩
  | .hbm, ⟨47, _⟩ => ⟨S_, .f32⟩
  | .hbm, ⟨48, _⟩ => ⟨S4x64x128, .f32⟩
  | .hbm, ⟨49, _⟩ => ⟨S4x64x128, .f32⟩
  | .hbm, ⟨50, _⟩ => ⟨S4x64x128, .f32⟩
  | .hbm, ⟨51, _⟩ => ⟨S256x128, .f32⟩
  | .hbm, ⟨52, _⟩ => ⟨S256x128, .bf16⟩
  | .hbm, ⟨53, _⟩ => ⟨S128x256, .bf16⟩
  | .hbm, ⟨54, _⟩ => ⟨S32768x1024, .bf16⟩
  | .hbm, ⟨55, _⟩ => ⟨S32768x256, .f32⟩
  | .hbm, ⟨56, _⟩ => ⟨S32768x256, .bf16⟩
  | .hbm, ⟨57, _⟩ => ⟨S32768x256, .f32⟩
  | .hbm, ⟨58, _⟩ => ⟨S32768x256, .bf16⟩
  | .hbm, ⟨59, _⟩ => ⟨S32768x1024, .bf16⟩
  | .hbm, ⟨60, _⟩ => ⟨S32768x64, .f32⟩
  | .hbm, ⟨61, _⟩ => ⟨S32768x64, .bf16⟩
  | .hbm, ⟨62, _⟩ => ⟨S32768x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2816, .bf16⟩
  | .local _ .vmem, ⟨4, _⟩ => ⟨S1x1024, .f32⟩
  | .local _ .vmem, ⟨5, _⟩ => ⟨S1x256, .f32⟩
  | .local _ .vmem, ⟨6, _⟩ => ⟨S1024x128, .bf16⟩
  | .local _ .vmem, ⟨7, _⟩ => ⟨S128x1024, .bf16⟩
  | .local _ .vmem, ⟨8, _⟩ => ⟨S256x128, .bf16⟩
  | .local _ .vmem, ⟨9, _⟩ => ⟨S128x256, .bf16⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x256, .bf16⟩
  | .local _ .vmem, ⟨15, _⟩ => ⟨S512x256, .bf16⟩
  | .local _ .vmem, ⟨16, _⟩ => ⟨S512x256, .f32⟩
  | .local _ .vmem, ⟨17, _⟩ => ⟨S512x256, .f32⟩
  | .local _ .vmem, ⟨18, _⟩ => ⟨S512x256, .bf16⟩
  | .local _ .vmem, ⟨19, _⟩ => ⟨S512x256, .bf16⟩
  | .local _ .vmem, ⟨20, _⟩ => ⟨S512x1024, .bf16⟩
  | .local _ .vmem, ⟨21, _⟩ => ⟨S512x1024, .bf16⟩
  | .local _ .vmem, ⟨22, _⟩ => ⟨S512x64, .f32⟩
  | .local _ .vmem, ⟨23, _⟩ => ⟨S512x64, .f32⟩
  | .local _ .vmem, ⟨24, _⟩ => ⟨S512x64, .bf16⟩
  | .local _ .vmem, ⟨25, _⟩ => ⟨S512x64, .bf16⟩
  | .local _ .vmem, ⟨26, _⟩ => ⟨S512x16, .f32⟩
  | .local _ .vmem, ⟨27, _⟩ => ⟨S512x16, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_cst_2 : Ref sig .tc := ⟨.hbm, 36, rfl⟩
abbrev main_call2_v0 : Ref sig .tc := ⟨.hbm, 37, rfl⟩
abbrev main_call2_v1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_cst_4 : Ref sig .tc := ⟨.hbm, 47, rfl⟩
abbrev main_call3_v0 : Ref sig .tc := ⟨.hbm, 48, rfl⟩
abbrev main_call3_v1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_v36_3 : Ref sig .tc := ⟨.hbm, 57, rfl⟩
abbrev main_v36_4 : Ref sig .tc := ⟨.hbm, 58, rfl⟩
abbrev main_v36_5 : Ref sig .tc := ⟨.hbm, 59, rfl⟩
abbrev main_v36_6 : Ref sig .tc := ⟨.hbm, 60, rfl⟩
abbrev main_v36_7 : Ref sig .tc := ⟨.hbm, 61, rfl⟩
abbrev main_v36_8 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x16 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference6Ideal.lean ====
abbrev S32768x2048 : Shape := ⟨2, ![32768, 2048]⟩
abbrev S1x2048 : Shape := ⟨2, ![1, 2048]⟩
abbrev S1x2048x10832 : Shape := ⟨3, ![1, 2048, 10832]⟩
abbrev S1x64 : Shape := ⟨2, ![1, 64]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x10832 : Shape := ⟨2, ![2048, 10832]⟩
abbrev S32768x10832 : Shape := ⟨2, ![32768, 10832]⟩
abbrev S32768x1024 : Shape := ⟨2, ![32768, 1024]⟩
abbrev S32768x256 : Shape := ⟨2, ![32768, 256]⟩
abbrev S32768x64 : Shape := ⟨2, ![32768, 64]⟩
abbrev S32768x16 : Shape := ⟨2, ![32768, 16]⟩
abbrev S32768x16x64 : Shape := ⟨3, ![32768, 16, 64]⟩
abbrev S64 : Shape := ⟨1, ![64]⟩
abbrev S32768x16x1 : Shape := ⟨3, ![32768, 16, 1]⟩
abbrev S1x1x64 : Shape := ⟨3, ![1, 1, 64]⟩
abbrev S32768x4x64 : Shape := ⟨3, ![32768, 4, 64]⟩
abbrev S32768x4 : Shape := ⟨2, ![32768, 4]⟩
abbrev S32768x4x1 : Shape := ⟨3, ![32768, 4, 1]⟩

abbrev nBuf : Space → Nat
  | .hbm => 79
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x10832, .f32⟩
  | .hbm, ⟨3, _⟩ => ⟨S1x64, .f32⟩
  | .hbm, ⟨4, _⟩ => ⟨S1x64, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S2048x10832, .f32⟩
  | .hbm, ⟨23, _⟩ => ⟨S32768x10832, .f32⟩
  | .hbm, ⟨24, _⟩ => ⟨S32768x1024, .f32⟩
  | .hbm, ⟨25, _⟩ => ⟨S32768x256, .f32⟩
  | .hbm, ⟨26, _⟩ => ⟨S32768x256, .f32⟩
  | .hbm, ⟨27, _⟩ => ⟨S32768x1024, .f32⟩
  | .hbm, ⟨28, _⟩ => ⟨S32768x64, .f32⟩
  | .hbm, ⟨29, _⟩ => ⟨S32768x16, .f32⟩
  | .hbm, ⟨30, _⟩ => ⟨S32768x16x64, .f32⟩
  | .hbm, ⟨31, _⟩ => ⟨S64, .f32⟩
  | .hbm, ⟨32, _⟩ => ⟨S32768x16x64, .f32⟩
  | .hbm, ⟨33, _⟩ => ⟨S_, .f32⟩
  | .hbm, ⟨34, _⟩ => ⟨S32768x16, .f32⟩
  | .hbm, ⟨35, _⟩ => ⟨S32768x16x1, .f32⟩
  | .hbm, ⟨36, _⟩ => ⟨S_, .f32⟩
  | .hbm, ⟨37, _⟩ => ⟨S32768x16x1, .f32⟩
  | .hbm, ⟨38, _⟩ => ⟨S32768x16x1, .f32⟩
  | .hbm, ⟨39, _⟩ => ⟨S_, .f32⟩
  | .hbm, ⟨40, _⟩ => ⟨S32768x16x1, .f32⟩
  | .hbm, ⟨41, _⟩ => ⟨S32768x16x1, .f32⟩
  | .hbm, ⟨42, _⟩ => ⟨S32768x16x1, .f32⟩
  | .hbm, ⟨43, _⟩ => ⟨S32768x16x64, .f32⟩
  | .hbm, ⟨44, _⟩ => ⟨S32768x16x64, .f32⟩
  | .hbm, ⟨45, _⟩ => ⟨S1x1x64, .f32⟩
  | .hbm, ⟨46, _⟩ => ⟨S32768x16x64, .f32⟩
  | .hbm, ⟨47, _⟩ => ⟨S32768x16x64, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S32768x4x64, .f32⟩
  | .hbm, ⟨53, _⟩ => ⟨S64, .f32⟩
  | .hbm, ⟨54, _⟩ => ⟨S32768x4x64, .f32⟩
  | .hbm, ⟨55, _⟩ => ⟨S_, .f32⟩
  | .hbm, ⟨56, _⟩ => ⟨S32768x4, .f32⟩
  | .hbm, ⟨57, _⟩ => ⟨S32768x4x1, .f32⟩
  | .hbm, ⟨58, _⟩ => ⟨S_, .f32⟩
  | .hbm, ⟨59, _⟩ => ⟨S32768x4x1, .f32⟩
  | .hbm, ⟨60, _⟩ => ⟨S32768x4x1, .f32⟩
  | .hbm, ⟨61, _⟩ => ⟨S_, .f32⟩
  | .hbm, ⟨62, _⟩ => ⟨S32768x4x1, .f32⟩
  | .hbm, ⟨63, _⟩ => ⟨S32768x4x1, .f32⟩
  | .hbm, ⟨64, _⟩ => ⟨S32768x4x1, .f32⟩
  | .hbm, ⟨65, _⟩ => ⟨S32768x4x64, .f32⟩
  | .hbm, ⟨66, _⟩ => ⟨S32768x4x64, .f32⟩
  | .hbm, ⟨67, _⟩ => ⟨S1x1x64, .f32⟩
  | .hbm, ⟨68, _⟩ => ⟨S32768x4x64, .f32⟩
  | .hbm, ⟨69, _⟩ => ⟨S32768x4x64, .f32⟩
  | .hbm, ⟨70, _⟩ => ⟨S32768x256, .f32⟩
  | .hbm, ⟨71, _⟩ => ⟨S32768x1024, .bf16⟩
  | .hbm, ⟨72, _⟩ => ⟨S32768x256, .bf16⟩
  | .hbm, ⟨73, _⟩ => ⟨S32768x256, .bf16⟩
  | .hbm, ⟨74, _⟩ => ⟨S32768x1024, .bf16⟩
  | .hbm, ⟨75, _⟩ => ⟨S32768x64, .bf16⟩
  | .hbm, ⟨76, _⟩ => ⟨S_, .f32⟩
  | .hbm, ⟨77, _⟩ => ⟨S32768x16, .f32⟩
  | .hbm, ⟨78, _⟩ => ⟨S32768x16, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Kernel7.lean ====
abbrev S8x32x2048 : Shape := ⟨3, ![8, 32, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S256x2048 : Shape := ⟨2, ![256, 2048]⟩
abbrev S2048 : Shape := ⟨1, ![2048]⟩
abbrev S2048x11264 : Shape := ⟨2, ![2048, 11264]⟩
abbrev S5632x2048 : Shape := ⟨2, ![5632, 2048]⟩
abbrev S2048x512 : Shape := ⟨2, ![2048, 512]⟩
abbrev S512x2048 : Shape := ⟨2, ![512, 2048]⟩
abbrev S256 : Shape := ⟨1, ![256]⟩
abbrev S256x1 : Shape := ⟨2, ![256, 1]⟩
abbrev S256x512 : Shape := ⟨2, ![256, 512]⟩

abbrev nBuf : Space → Nat
  | .hbm => 12
  | .vmem => 10
  | .smem => 0
  | _ => 0

abbrev bufTy : (tb : Table) → Fin (tcTables nBuf tb) → BufTy
  | .hbm, ⟨0, _⟩ => ⟨S8x32x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S256x2048, .f32⟩
  | .hbm, ⟨5, _⟩ => ⟨S2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S256x2048, .f32⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S256x2048, .f32⟩
  | .local _ .vmem, ⟨9, _⟩ => ⟨S256x2048, .bf16⟩
  | _, _ => ⟨S8x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference7Ideal.lean ====
abbrev S8x32x2048 : Shape := ⟨3, ![8, 32, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S2048x11264 : Shape := ⟨2, ![2048, 11264]⟩
abbrev S256x11264 : Shape := ⟨2, ![256, 11264]⟩
abbrev S256x5632 : Shape := ⟨2, ![256, 5632]⟩
abbrev S5632x2048 : Shape := ⟨2, ![5632, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x32x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S256x2048, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S2048x11264, .f32⟩
  | .hbm, ⟨23, _⟩ => ⟨S256x11264, .f32⟩
  | .hbm, ⟨24, _⟩ => ⟨S256x5632, .f32⟩
  | .hbm, ⟨25, _⟩ => ⟨S256x5632, .f32⟩
  | .hbm, ⟨26, _⟩ => ⟨S256x5632, .f32⟩
  | .hbm, ⟨27, _⟩ => ⟨S256x5632, .f32⟩
  | .hbm, ⟨28, _⟩ => ⟨S_, .f32⟩
  | .hbm, ⟨29, _⟩ => ⟨S256x5632, .f32⟩
  | .hbm, ⟨30, _⟩ => ⟨S256x5632, .f32⟩
  | .hbm, ⟨31, _⟩ => ⟨S_, .f32⟩
  | .hbm, ⟨32, _⟩ => ⟨S256x5632, .f32⟩
  | .hbm, ⟨33, _⟩ => ⟨S256x5632, .f32⟩
  | .hbm, ⟨34, _⟩ => ⟨S256x5632, .f32⟩
  | .hbm, ⟨35, _⟩ => ⟨S256x5632, .f32⟩
  | .hbm, ⟨36, _⟩ => ⟨S5632x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | _, _ => ⟨S8x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel8.lean ====
abbrev S256x2048 : Shape := ⟨2, ![256, 2048]⟩
abbrev S1x2048 : Shape := ⟨2, ![1, 2048]⟩
abbrev S1x2048x10832 : Shape := ⟨3, ![1, 2048, 10832]⟩
abbrev S1x64 : Shape := ⟨2, ![1, 64]⟩
abbrev S2048x10832 : Shape := ⟨2, ![2048, 10832]⟩
abbrev S2048x2560 : Shape := ⟨2, ![2048, 2560]⟩
abbrev S2048x64 : Shape := ⟨2, ![2048, 64]⟩
abbrev S_ : Shape := ⟨0, ![]⟩
abbrev S2048x128 : Shape := ⟨2, ![2048, 128]⟩
abbrev S2048x16 : Shape := ⟨2, ![2048, 16]⟩
abbrev S2048x2816 : Shape := ⟨2, ![2048, 2816]⟩
abbrev S2048 : Shape := ⟨1, ![2048]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S16x64x128 : Shape := ⟨3, ![16, 64, 128]⟩
abbrev S1024x128 : Shape := ⟨2, ![1024, 128]⟩
abbrev S128x1024 : Shape := ⟨2, ![128, 1024]⟩
abbrev S4x64x128 : Shape := ⟨3, ![4, 64, 128]⟩
abbrev S256x128 : Shape := ⟨2, ![256, 128]⟩
abbrev S128x256 : Shape := ⟨2, ![128, 256]⟩
abbrev S256x1024 : Shape := ⟨2, ![256, 1024]⟩
abbrev S256x256 : Shape := ⟨2, ![256, 256]⟩
abbrev S256x64 : Shape := ⟨2, ![256, 64]⟩
abbrev S256x16 : Shape := ⟨2, ![256, 16]⟩
abbrev S256x1 : Shape := ⟨2, ![256, 1]⟩
abbrev S2048x1024 : Shape := ⟨2, ![2048, 1024]⟩
abbrev S2048x256 : Shape := ⟨2, ![2048, 256]⟩

abbrev nBuf : Space → Nat
  | .hbm => 63
  | .vmem => 18
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048x10832, .f32⟩
  | .hbm, ⟨3, _⟩ => ⟨S1x64, .f32⟩
  | .hbm, ⟨4, _⟩ => ⟨S1x64, .f32⟩
  | .hbm, ⟨5, _⟩ => ⟨S2048x10832, .f32⟩
  | .hbm, ⟨6, _⟩ => ⟨S2048x2560, .f32⟩
  | .hbm, ⟨7, _⟩ => ⟨S2048x64, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x16, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x2816, .f32⟩
  | .hbm, ⟨16, _⟩ => ⟨S2048, .f32⟩
  | .hbm, ⟨17, _⟩ => ⟨S1x2048, .f32⟩
  | .hbm, ⟨18, _⟩ => ⟨S2048x2816, .bf16⟩
  | .hbm, ⟨19, _⟩ => ⟨S64, .f32⟩
  | .hbm, ⟨20, _⟩ => ⟨S1x64, .f32⟩
  | .hbm, ⟨21, _⟩ => ⟨S16x64, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S64, .f32⟩
  | .hbm, ⟨28, _⟩ => ⟨S1x64, .f32⟩
  | .hbm, ⟨29, _⟩ => ⟨S4x64, .f32⟩
  | .hbm, ⟨30, _⟩ => ⟨S256, .f32⟩
  | .hbm, ⟨31, _⟩ => ⟨S1x256, .f32⟩
  | .hbm, ⟨32, _⟩ => ⟨S16x64x128, .i32⟩
  | .hbm, ⟨33, _⟩ => ⟨S16x64x128, .i32⟩
  | .hbm, ⟨34, _⟩ => ⟨S16x64x128, .i1⟩
  | .hbm, ⟨35, _⟩ => ⟨S_, .f32⟩
  | .hbm, ⟨36, _⟩ => ⟨S_, .f32⟩
  | .hbm, ⟨37, _⟩ => ⟨S16x64x128, .f32⟩
  | .hbm, ⟨38, _⟩ => ⟨S16x64x128, .f32⟩
  | .hbm, ⟨39, _⟩ => ⟨S16x64x128, .f32⟩
  | .hbm, ⟨40, _⟩ => ⟨S1024x128, .f32⟩
  | .hbm, ⟨41, _⟩ => ⟨S1024x128, .bf16⟩
  | .hbm, ⟨42, _⟩ => ⟨S128x1024, .bf16⟩
  | .hbm, ⟨43, _⟩ => ⟨S4x64x128, .i32⟩
  | .hbm, ⟨44, _⟩ => ⟨S4x64x128, .i32⟩
  | .hbm, ⟨45, _⟩ => ⟨S4x64x128, .i1⟩
  | .hbm, ⟨46, _⟩ => ⟨S_, .f32⟩
  | .hbm, ⟨47, _⟩ => ⟨S_, .f32⟩
  | .hbm, ⟨48, _⟩ => ⟨S4x64x128, .f32⟩
  | .hbm, ⟨49, _⟩ => ⟨S4x64x128, .f32⟩
  | .hbm, ⟨50, _⟩ => ⟨S4x64x128, .f32⟩
  | .hbm, ⟨51, _⟩ => ⟨S256x128, .f32⟩
  | .hbm, ⟨52, _⟩ => ⟨S256x128, .bf16⟩
  | .hbm, ⟨53, _⟩ => ⟨S128x256, .bf16⟩
  | .hbm, ⟨54, _⟩ => ⟨S256x1024, .bf16⟩
  | .hbm, ⟨55, _⟩ => ⟨S256x256, .f32⟩
  | .hbm, ⟨56, _⟩ => ⟨S256x256, .bf16⟩
  | .hbm, ⟨57, _⟩ => ⟨S256x256, .f32⟩
  | .hbm, ⟨58, _⟩ => ⟨S256x256, .bf16⟩
  | .hbm, ⟨59, _⟩ => ⟨S256x1024, .bf16⟩
  | .hbm, ⟨60, _⟩ => ⟨S256x64, .f32⟩
  | .hbm, ⟨61, _⟩ => ⟨S256x64, .bf16⟩
  | .hbm, ⟨62, _⟩ => ⟨S256x16, .f32⟩
  | .local _ .vmem, ⟨0, _⟩ => ⟨S256x2048, .f32⟩
  | .local _ .vmem, ⟨1, _⟩ => ⟨S1x2048, .f32⟩
  | .local _ .vmem, ⟨2, _⟩ => ⟨S2048x2816, .bf16⟩
  | .local _ .vmem, ⟨3, _⟩ => ⟨S1x1024, .f32⟩
  | .local _ .vmem, ⟨4, _⟩ => ⟨S1x256, .f32⟩
  | .local _ .vmem, ⟨5, _⟩ => ⟨S1024x128, .bf16⟩
  | .local _ .vmem, ⟨6, _⟩ => ⟨S128x1024, .bf16⟩
  | .local _ .vmem, ⟨7, _⟩ => ⟨S256x128, .bf16⟩
  | .local _ .vmem, ⟨8, _⟩ => ⟨S128x256, .bf16⟩
  | .local _ .vmem, ⟨9, _⟩ => ⟨S256x1024, .bf16⟩
  | .local _ .vmem, ⟨10, _⟩ => ⟨S256x256, .f32⟩
  | .local _ .vmem, ⟨11, _⟩ => ⟨S256x256, .bf16⟩
  | .local _ .vmem, ⟨12, _⟩ => ⟨S256x256, .f32⟩
  | .local _ .vmem, ⟨13, _⟩ => ⟨S256x256, .bf16⟩
  | .local _ .vmem, ⟨14, _⟩ => ⟨S256x1024, .bf16⟩
  | .local _ .vmem, ⟨15, _⟩ => ⟨S256x64, .f32⟩
  | .local _ .vmem, ⟨16, _⟩ => ⟨S256x64, .bf16⟩
  | .local _ .vmem, ⟨17, _⟩ => ⟨S256x16, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_cst_2 : Ref sig .tc := ⟨.hbm, 36, rfl⟩
abbrev main_call2_v0 : Ref sig .tc := ⟨.hbm, 37, rfl⟩
abbrev main_call2_v1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_cst_4 : Ref sig .tc := ⟨.hbm, 47, rfl⟩
abbrev main_call3_v0 : Ref sig .tc := ⟨.hbm, 48, rfl⟩
abbrev main_call3_v1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_v36_3 : Ref sig .tc := ⟨.hbm, 57, rfl⟩
abbrev main_v36_4 : Ref sig .tc := ⟨.hbm, 58, rfl⟩
abbrev main_v36_5 : Ref sig .tc := ⟨.hbm, 59, rfl⟩
abbrev main_v36_6 : Ref sig .tc := ⟨.hbm, 60, rfl⟩
abbrev main_v36_7 : Ref sig .tc := ⟨.hbm, 61, rfl⟩
abbrev main_v36_8 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x64 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== Reference8Ideal.lean ====
abbrev S256x2048 : Shape := ⟨2, ![256, 2048]⟩
abbrev S1x2048 : Shape := ⟨2, ![1, 2048]⟩
abbrev S1x2048x10832 : Shape := ⟨3, ![1, 2048, 10832]⟩
abbrev S1x64 : Shape := ⟨2, ![1, 64]⟩
abbrev S2048 : Shape := ⟨1, ![2048]⟩
abbrev S_ : Shape := ⟨0, ![]⟩
abbrev S256 : Shape := ⟨1, ![256]⟩
abbrev S256x1 : Shape := ⟨2, ![256, 1]⟩
abbrev S2048x10832 : Shape := ⟨2, ![2048, 10832]⟩
abbrev S256x10832 : Shape := ⟨2, ![256, 10832]⟩
abbrev S256x1024 : Shape := ⟨2, ![256, 1024]⟩
abbrev S256x256 : Shape := ⟨2, ![256, 256]⟩
abbrev S256x64 : Shape := ⟨2, ![256, 64]⟩
abbrev S256x16 : Shape := ⟨2, ![256, 16]⟩
abbrev S256x16x64 : Shape := ⟨3, ![256, 16, 64]⟩
abbrev S64 : Shape := ⟨1, ![64]⟩
abbrev S256x16x1 : Shape := ⟨3, ![256, 16, 1]⟩
abbrev S1x1x64 : Shape := ⟨3, ![1, 1, 64]⟩
abbrev S256x4x64 : Shape := ⟨3, ![256, 4, 64]⟩
abbrev S256x4 : Shape := ⟨2, ![256, 4]⟩
abbrev S256x4x1 : Shape := ⟨3, ![256, 4, 1]⟩

abbrev nBuf : Space → Nat
  | .hbm => 79
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048x10832, .f32⟩
  | .hbm, ⟨3, _⟩ => ⟨S1x64, .f32⟩
  | .hbm, ⟨4, _⟩ => ⟨S1x64, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S2048x10832, .f32⟩
  | .hbm, ⟨23, _⟩ => ⟨S256x10832, .f32⟩
  | .hbm, ⟨24, _⟩ => ⟨S256x1024, .f32⟩
  | .hbm, ⟨25, _⟩ => ⟨S256x256, .f32⟩
  | .hbm, ⟨26, _⟩ => ⟨S256x256, .f32⟩
  | .hbm, ⟨27, _⟩ => ⟨S256x1024, .f32⟩
  | .hbm, ⟨28, _⟩ => ⟨S256x64, .f32⟩
  | .hbm, ⟨29, _⟩ => ⟨S256x16, .f32⟩
  | .hbm, ⟨30, _⟩ => ⟨S256x16x64, .f32⟩
  | .hbm, ⟨31, _⟩ => ⟨S64, .f32⟩
  | .hbm, ⟨32, _⟩ => ⟨S256x16x64, .f32⟩
  | .hbm, ⟨33, _⟩ => ⟨S_, .f32⟩
  | .hbm, ⟨34, _⟩ => ⟨S256x16, .f32⟩
  | .hbm, ⟨35, _⟩ => ⟨S256x16x1, .f32⟩
  | .hbm, ⟨36, _⟩ => ⟨S_, .f32⟩
  | .hbm, ⟨37, _⟩ => ⟨S256x16x1, .f32⟩
  | .hbm, ⟨38, _⟩ => ⟨S256x16x1, .f32⟩
  | .hbm, ⟨39, _⟩ => ⟨S_, .f32⟩
  | .hbm, ⟨40, _⟩ => ⟨S256x16x1, .f32⟩
  | .hbm, ⟨41, _⟩ => ⟨S256x16x1, .f32⟩
  | .hbm, ⟨42, _⟩ => ⟨S256x16x1, .f32⟩
  | .hbm, ⟨43, _⟩ => ⟨S256x16x64, .f32⟩
  | .hbm, ⟨44, _⟩ => ⟨S256x16x64, .f32⟩
  | .hbm, ⟨45, _⟩ => ⟨S1x1x64, .f32⟩
  | .hbm, ⟨46, _⟩ => ⟨S256x16x64, .f32⟩
  | .hbm, ⟨47, _⟩ => ⟨S256x16x64, .f32⟩
  | .hbm, ⟨48, _⟩ => ⟨S256x1024, .f32⟩
  | .hbm, ⟨49, _⟩ => ⟨S_, .f32⟩
  | .hbm, ⟨50, _⟩ => ⟨S256x1024, .f32⟩
  | .hbm, ⟨51, _⟩ => ⟨S256x1024, .f32⟩
  | .hbm, ⟨52, _⟩ => ⟨S256x4x64, .f32⟩
  | .hbm, ⟨53, _⟩ => ⟨S64, .f32⟩
  | .hbm, ⟨54, _⟩ => ⟨S256x4x64, .f32⟩
  | .hbm, ⟨55, _⟩ => ⟨S_, .f32⟩
  | .hbm, ⟨56, _⟩ => ⟨S256x4, .f32⟩
  | .hbm, ⟨57, _⟩ => ⟨S256x4x1, .f32⟩
  | .hbm, ⟨58, _⟩ => ⟨S_, .f32⟩
  | .hbm, ⟨59, _⟩ => ⟨S256x4x1, .f32⟩
  | .hbm, ⟨60, _⟩ => ⟨S256x4x1, .f32⟩
  | .hbm, ⟨61, _⟩ => ⟨S_, .f32⟩
  | .hbm, ⟨62, _⟩ => ⟨S256x4x1, .f32⟩
  | .hbm, ⟨63, _⟩ => ⟨S256x4x1, .f32⟩
  | .hbm, ⟨64, _⟩ => ⟨S256x4x1, .f32⟩
  | .hbm, ⟨65, _⟩ => ⟨S256x4x64, .f32⟩
  | .hbm, ⟨66, _⟩ => ⟨S256x4x64, .f32⟩
  | .hbm, ⟨67, _⟩ => ⟨S1x1x64, .f32⟩
  | .hbm, ⟨68, _⟩ => ⟨S256x4x64, .f32⟩
  | .hbm, ⟨69, _⟩ => ⟨S256x4x64, .f32⟩
  | .hbm, ⟨70, _⟩ => ⟨S256x256, .f32⟩
  | .hbm, ⟨71, _⟩ => ⟨S256x1024, .bf16⟩
  | .hbm, ⟨72, _⟩ => ⟨S256x256, .bf16⟩
  | .hbm, ⟨73, _⟩ => ⟨S256x256, .bf16⟩
  | .hbm, ⟨74, _⟩ => ⟨S256x1024, .bf16⟩
  | .hbm, ⟨75, _⟩ => ⟨S256x64, .bf16⟩
  | .hbm, ⟨76, _⟩ => ⟨S_, .f32⟩
  | .hbm, ⟨77, _⟩ => ⟨S256x16, .f32⟩
  | .hbm, ⟨78, _⟩ => ⟨S256x16, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Proof.RecMath.lean ====
module

public import Idealize.ShloMosaic.Lib.Pipeline.ValueKit

@[expose] public section

/-! The recurrence over one chunk of thirty-two rows, as a computation: log-decays accumulated over the chunk against
    log-decays accumulated over each half of it. -/

noncomputable section

namespace Cert.RecMath

open Idealize.ShloMosaic

/-- The log-decay accumulated from the chunk's first row. -/
def cs (L : Fin 32 → Fin 128 → ℝ) (t : Fin 32) (k : Fin 128) : ℝ := ∑ s : Fin 32, if s.val ≤ t.val then L s k else 0

/-- The log-decay accumulated from the first row of the row's half. -/
def bs (L : Fin 32 → Fin 128 → ℝ) (t : Fin 32) (k : Fin 128) : ℝ :=
  ∑ s : Fin 32, if s.val ≤ t.val ∧ s.val / 16 = t.val / 16 then L s k else 0

/-- In the first half the two accumulate the same rows. -/
theorem cs_low (L : Fin 32 → Fin 128 → ℝ) (t : Fin 32) (k : Fin 128) (h : t.val < 16) : cs L t k = bs L t k := by
  unfold cs bs
  refine Finset.sum_congr rfl fun s _ => ?_
  have := s.isLt
  by_cases hs : s.val ≤ t.val
  · rw [if_pos hs, if_pos ⟨hs, by omega⟩]
  · rw [if_neg hs, if_neg (fun h => hs h.1)]

/-- In the second half the whole first half comes on top. -/
theorem cs_high (L : Fin 32 → Fin 128 → ℝ) (t : Fin 32) (k : Fin 128) (h : 16 ≤ t.val) :
    cs L t k = bs L 15 k + bs L t k := by
  unfold cs bs
  rw [← Finset.sum_add_distrib]
  refine Finset.sum_congr rfl fun s _ => ?_
  have := s.isLt
  have h15 : ((15 : Fin 32)).val = 15 := rfl
  rw [h15]
  split_ifs <;> first | omega | simp

/-- Two exponentials of reals multiply. -/
theorem exp_mul_exp (a b : ℝ) : Ideal.exp (a : EReal) * Ideal.exp (b : EReal) = Ideal.exp ((a + b : ℝ) : EReal) := by
  rw [Ideal.exp_coe, Ideal.exp_coe, Ideal.exp_coe, Real.exp_add, EReal.coe_mul]

variable (L : Fin 32 → Fin 128 → ℝ) (q c : Fin 32 → Fin 128 → EReal)

/-- A row against an earlier one, over the whole chunk. -/
def W (t s : Fin 32) : EReal :=
  ∑ k : Fin 128, q t k * c s k * Ideal.exp (if s.val ≤ t.val then (cs L t k : EReal) - (cs L s k : EReal) else ⊥)

/-- The last row of a row's half. -/
def last (s : Fin 32) : Fin 32 := if s.val < 16 then 15 else 31

/-- A row against one of the half before: the row's decay inside its half times the rest of the earlier half. -/
def X (t s : Fin 32) : EReal :=
  ∑ k : Fin 128, (q t k * Ideal.exp (bs L t k : EReal)) * (c s k * Ideal.exp ((bs L (last s) k : EReal) - (bs L s k : EReal)))

/-- A row against one of its own half. -/
def D (t s : Fin 32) : EReal :=
  ∑ k : Fin 128, q t k * c s k * Ideal.exp (if s.val ≤ t.val then (bs L t k : EReal) - (bs L s k : EReal) else ⊥)

/-- Inside one half the two decays agree. -/
theorem W_same (t s : Fin 32) (h : s.val / 16 = t.val / 16) : W L q c t s = D L q c t s := by
  unfold W D
  refine Finset.sum_congr rfl fun k _ => ?_
  have := s.isLt
  have := t.isLt
  by_cases hs : s.val ≤ t.val
  · rw [if_pos hs, if_pos hs]
    by_cases ht : t.val < 16
    · rw [cs_low L t k ht, cs_low L s k (by omega)]
    · rw [cs_high L t k (by omega), cs_high L s k (by omega), ← EReal.coe_sub, ← EReal.coe_sub, add_sub_add_left_eq_sub]
  · rw [if_neg hs, if_neg hs]

/-- Across the halves the decay is the product of the two. -/
theorem W_cross (t s : Fin 32) (h : t.val / 16 = s.val / 16 + 1) : W L q c t s = X L q c t s := by
  unfold W X
  refine Finset.sum_congr rfl fun k _ => ?_
  have hs := s.isLt
  have ht := t.isLt
  have h1 : s.val < 16 := by omega
  have h2 : 16 ≤ t.val := by omega
  have hl : last s = 15 := if_pos h1
  rw [if_pos (by omega : s.val ≤ t.val), cs_low L s k h1, cs_high L t k h2, hl, ← EReal.coe_sub, ← EReal.coe_sub,
    mul_mul_mul_comm, exp_mul_exp]
  congr 3
  ring

/-- A later row counts nothing. -/
theorem W_later (t s : Fin 32) (h : t.val < s.val) : W L q c t s = 0 := by
  unfold W
  refine Finset.sum_eq_zero fun k _ => ?_
  rw [if_neg (by omega), Ideal.exp_bot, mul_zero]

/-- The chunk's scores times the values are the half before's and the row's own half's. -/
theorem scores (v : Fin 32 → EReal) (t : Fin 32) :
    ∑ s : Fin 32, W L q c t s * v s
      = (∑ s : Fin 32, (if t.val / 16 = s.val / 16 + 1 then X L q c t s else 0) * v s)
        + ∑ s : Fin 16, D L q c t ⟨16 * (t.val / 16) + s.val, by omega⟩ * v ⟨16 * (t.val / 16) + s.val, by omega⟩ := by
  have per : ∀ s : Fin 32, W L q c t s * v s = (if t.val / 16 = s.val / 16 + 1 then X L q c t s else 0) * v s
      + (if s.val / 16 = t.val / 16 then D L q c t s * v s else 0) := by
    intro s
    have hs := s.isLt
    have ht := t.isLt
    by_cases h : s.val / 16 = t.val / 16
    · rw [if_pos h, if_neg (by omega), zero_mul, zero_add, W_same L q c t s h]
    · by_cases h' : t.val / 16 = s.val / 16 + 1
      · rw [if_neg h, if_pos h', add_zero, W_cross L q c t s h']
      · rw [if_neg h, if_neg h', W_later L q c t s (by omega), zero_mul, zero_add]
  rw [Finset.sum_congr rfl fun s _ => per s, Finset.sum_add_distrib]
  congr 1
  rw [Fin.sum_univ_tiles 2 16 rfl]
  have ht := t.isLt
  rw [Finset.sum_eq_single (⟨t.val / 16, by omega⟩ : Fin 2)]
  · refine Finset.sum_congr rfl fun s _ => ?_
    have e : (⟨t.val / 16 * 16 + s.val, by omega⟩ : Fin 32) = ⟨16 * (t.val / 16) + s.val, by omega⟩ :=
      Fin.ext (by show t.val / 16 * 16 + s.val = 16 * (t.val / 16) + s.val; omega)
    have e' : (t.val / 16 * 16 + s.val) / 16 = t.val / 16 := by omega
    refine (if_pos e').trans ?_
    exact congrArg (fun z => D L q c t z * v z) e
  · intro j _ hj
    refine Finset.sum_eq_zero fun s _ => ?_
    have hj' : j.val ≠ t.val / 16 := fun h => hj (Fin.ext h)
    exact if_neg (by show ¬ (j.val * 16 + s.val) / 16 = t.val / 16; omega)
  · exact fun h => absurd (Finset.mem_univ _) h

/-- One term of the state carried out: the rest of the row's half, then the rest of the chunk. -/
theorem carry (a : EReal) (s : Fin 32) (k : Fin 128) :
    (a * Ideal.exp ((bs L (last s) k : EReal) - (bs L s k : EReal)))
        * Ideal.exp (if s.val < 16 then 0 + (bs L 31 k : EReal) else 0)
      = a * Ideal.exp ((cs L 31 k : EReal) - (cs L s k : EReal)) := by
  have hs := s.isLt
  rw [mul_assoc, cs_high L 31 k (by decide)]
  by_cases h : s.val < 16
  · have hl : last s = 15 := if_pos h
    rw [if_pos h, hl, cs_low L s k h, zero_add, ← EReal.coe_sub, ← EReal.coe_sub, exp_mul_exp]
    congr 3
    ring
  · have hl : last s = 31 := if_neg h
    rw [if_neg h, hl, cs_high L s k (by omega), ← EReal.coe_zero, ← EReal.coe_sub, ← EReal.coe_sub, exp_mul_exp]
    congr 3
    ring

/-- A logistic value is a nonnegative real at most one. -/
theorem logistic_real (x : EReal) : ∃ r : ℝ, 0 ≤ r ∧ r ≤ 1 ∧ Ideal.logistic x = (r : EReal) := by
  induction x with
  | bot => exact ⟨0, le_refl _, zero_le_one, by rw [Ideal.logistic_bot, EReal.coe_zero]⟩
  | top => exact ⟨1, zero_le_one, le_refl _, by rw [Ideal.logistic_top, EReal.coe_one]⟩
  | coe r =>
    refine ⟨(1 + Real.exp (-r))⁻¹, ?_, ?_, Ideal.logistic_coe ..⟩
    · positivity
    · exact inv_le_one_of_one_le₀ (by linarith [Real.exp_pos (-r)])

/-- A forget gate above a floor inside the unit interval has a real logarithm. -/
theorem log_gate (l : EReal) (x : EReal) (hl : ∃ p : ℝ, 0 < p ∧ p < 1 ∧ l = (p : EReal)) :
    ∃ r : ℝ, Ideal.log (l + (1 - l) * Ideal.logistic x) = (r : EReal) := by
  obtain ⟨p, h0, h1, rfl⟩ := hl
  obtain ⟨r, hr0, hr1, e⟩ := logistic_real x
  have e' : (p : EReal) + (1 - (p : EReal)) * (r : EReal) = ((p + (1 - p) * r : ℝ) : EReal) := by
    rw [← EReal.coe_one, ← EReal.coe_sub, ← EReal.coe_mul, ← EReal.coe_add]
  rw [e, e', Ideal.log_coe, if_neg]
  · exact ⟨_, rfl⟩
  · have : 0 ≤ (1 - p) * r := mul_nonneg (by linarith) hr0
    linarith

/-- Of two finite numbers, the first one's share of the exponentials lies strictly inside the unit interval. -/
theorem share (x y m : ℝ) : ∃ p : ℝ, 0 < p ∧ p < 1
    ∧ Ideal.div (Ideal.exp ((x : EReal) - (m : EReal))) (Ideal.exp ((x : EReal) - (m : EReal)) + Ideal.exp ((y : EReal) - (m : EReal)))
      = (p : EReal) := by
  have hx := Real.exp_pos (x - m)
  have hy := Real.exp_pos (y - m)
  refine ⟨Real.exp (x - m) * (Real.exp (x - m) + Real.exp (y - m))⁻¹, by positivity, ?_, ?_⟩
  · rw [← div_eq_mul_inv, div_lt_one (by positivity)]
    linarith
  · rw [← EReal.coe_sub, ← EReal.coe_sub, Ideal.exp_coe, Ideal.exp_coe, ← EReal.coe_add, Ideal.div, if_neg, ← EReal.coe_inv,
      ← EReal.coe_mul]
    intro h
    have := EReal.coe_eq_zero.mp h
    linarith

end Cert.RecMath

end
-- ==== Proof.RecZ.lean ====
module

public import proofs.«01_k».proof.Proof.Gen.KernelIdeal.Value
public import Idealize.ShloMosaic.Lib.Pipeline.ValueKit

@[expose] public section

set_option maxRecDepth 16384

/-! The rows of a sub-block of the recurrence against the sub-block: what each of the sixteen row tables holds. -/

noncomputable section

namespace Cert.KernelIdeal.Rec

open Idealize.ShloMosaic Idealize.SL.Sem Cert.KernelIdeal Cert.KernelIdeal.Gen

/-- The rows a sub-block's table runs over, as numbers. -/
abbrev I16 : IVec S16x128 32 := iota Kind.tc S16x128 32 [0] iota_S16x128_d0_w32

/-- The table of row `t`: the row's query times the keys times the decay between them, nothing past the row. -/
def Z (b q c : FVec Ideal S16x128 .f32) (t : Fin 16) : FVec Ideal S16x128 .f32 := fun j =>
  q (ix2 t (j 1)) * c (ix2 (j 0) (j 1)) * Ideal.exp (if (j 0).val ≤ t.val then b (ix2 t (j 1)) - b (ix2 (j 0) (j 1)) else ⊥)

/-- Comparing two row numbers below sixteen. -/
theorem sle16 : ∀ n t : Fin 16, IntOp.cmpi .sle (BitVec.ofNat 32 n.val) (BitVec.ofNat 32 t.val) = if n.val ≤ t.val then 1 else 0 := by
  decide +kernel

/-- The masked entry, read by the row numbers. -/
theorem sel16 (n t : Fin 16) (x : EReal) :
    Scalar.select (IntOp.cmpi .sle (BitVec.ofNat 32 n.val) (BitVec.ofNat 32 t.val)) x (Ideal.ofBits .f32 4286578688#32)
      = if n.val ≤ t.val then x else ⊥ := by
  have hb : Ideal.ofBits .f32 4286578688#32 = ⊥ := by
    simp [Ideal.ofBits, Ideal.ieee]
  rw [sle16, hb]
  unfold Scalar.select
  by_cases h : n.val ≤ t.val <;> simp [h]

/-- The table of row 0. -/
theorem a_z0 (BL QQ KK : FVec Ideal S32x128 .f32) : k0_pay33 I16 KK QQ BL = Z (k0_pay29 BL) (k0_pay30 QQ) (k0_pay31 KK) 0 := by
  funext j
  idx_vars j
  have hs := sel16 j0 (0 : Fin 16)
  pointwise [k0_pay33, k0_pay29, k0_pay30, k0_pay31, Z]
  first | exact congrArg _ (congrArg _ (hs _)) | (rw [← hs]; rfl)
/-- The table of row 1. -/
theorem a_z1 (BL QQ KK : FVec Ideal S32x128 .f32) : k0_pay34 I16 KK QQ BL = Z (k0_pay29 BL) (k0_pay30 QQ) (k0_pay31 KK) 1 := by
  funext j
  idx_vars j
  have hs := sel16 j0 (1 : Fin 16)
  pointwise [k0_pay34, k0_pay29, k0_pay30, k0_pay31, Z]
  first | exact congrArg _ (congrArg _ (hs _)) | (rw [← hs]; rfl)
/-- The table of row 2. -/
theorem a_z2 (BL QQ KK : FVec Ideal S32x128 .f32) : k0_pay35 I16 KK QQ BL = Z (k0_pay29 BL) (k0_pay30 QQ) (k0_pay31 KK) 2 := by
  funext j
  idx_vars j
  have hs := sel16 j0 (2 : Fin 16)
  pointwise [k0_pay35, k0_pay29, k0_pay30, k0_pay31, Z]
  first | exact congrArg _ (congrArg _ (hs _)) | (rw [← hs]; rfl)
/-- The table of row 3. -/
theorem a_z3 (b q c : FVec Ideal S16x128 .f32) : k0_pay36 I16 b q c = Z b q c 3 := by
  funext j
  idx_vars j
  have hs := sel16 j0 (3 : Fin 16)
  pointwise [k0_pay36, Z]
  first | exact congrArg _ (congrArg _ (hs _)) | (rw [← hs]; rfl)
/-- The table of row 4. -/
theorem a_z4 (b q c : FVec Ideal S16x128 .f32) : k0_pay37 I16 b q c = Z b q c 4 := by
  funext j
  idx_vars j
  have hs := sel16 j0 (4 : Fin 16)
  pointwise [k0_pay37, Z]
  first | exact congrArg _ (congrArg _ (hs _)) | (rw [← hs]; rfl)
/-- The table of row 5. -/
theorem a_z5 (b q c : FVec Ideal S16x128 .f32) : k0_pay38 I16 b q c = Z b q c 5 := by
  funext j
  idx_vars j
  have hs := sel16 j0 (5 : Fin 16)
  pointwise [k0_pay38, Z]
  first | exact congrArg _ (congrArg _ (hs _)) | (rw [← hs]; rfl)
/-- The table of row 6. -/
theorem a_z6 (b q c : FVec Ideal S16x128 .f32) : k0_pay39 I16 b q c = Z b q c 6 := by
  funext j
  idx_vars j
  have hs := sel16 j0 (6 : Fin 16)
  pointwise [k0_pay39, Z]
  first | exact congrArg _ (congrArg _ (hs _)) | (rw [← hs]; rfl)
/-- The table of row 7. -/
theorem a_z7 (b q c : FVec Ideal S16x128 .f32) : k0_pay42 b q c (k0_pay40 I16) (k0_pay41 b) = Z b q c 7 := by
  funext j
  idx_vars j
  have hs := sel16 j0 (7 : Fin 16)
  pointwise [k0_pay42, k0_pay40, k0_pay41, Z]
  first | exact congrArg _ (congrArg _ (hs _)) | (rw [← hs]; rfl)
/-- The table of row 8. -/
theorem a_z8 (b q c : FVec Ideal S16x128 .f32) : k0_pay43 I16 b q c = Z b q c 8 := by
  funext j
  idx_vars j
  have hs := sel16 j0 (8 : Fin 16)
  pointwise [k0_pay43, Z]
  first | exact congrArg _ (congrArg _ (hs _)) | (rw [← hs]; rfl)
/-- The table of row 9. -/
theorem a_z9 (b q c : FVec Ideal S16x128 .f32) : k0_pay44 I16 b q c = Z b q c 9 := by
  funext j
  idx_vars j
  have hs := sel16 j0 (9 : Fin 16)
  pointwise [k0_pay44, Z]
  first | exact congrArg _ (congrArg _ (hs _)) | (rw [← hs]; rfl)
/-- The table of row 10. -/
theorem a_z10 (b q c : FVec Ideal S16x128 .f32) : k0_pay45 I16 b q c = Z b q c 10 := by
  funext j
  idx_vars j
  have hs := sel16 j0 (10 : Fin 16)
  pointwise [k0_pay45, Z]
  first | exact congrArg _ (congrArg _ (hs _)) | (rw [← hs]; rfl)
/-- The table of row 11. -/
theorem a_z11 (b q c : FVec Ideal S16x128 .f32) : k0_pay49 q c (k0_pay46 I16) (k0_pay47 b) k0_pay48 = Z b q c 11 := by
  funext j
  idx_vars j
  have hs := sel16 j0 (11 : Fin 16)
  pointwise [k0_pay49, k0_pay46, k0_pay47, k0_pay48, Z]
  first | exact congrArg _ (congrArg _ (hs _)) | (rw [← hs]; rfl)
/-- The table of row 12. -/
theorem a_z12 (b q c : FVec Ideal S16x128 .f32) : k0_pay50 I16 b q c = Z b q c 12 := by
  funext j
  idx_vars j
  have hs := sel16 j0 (12 : Fin 16)
  pointwise [k0_pay50, Z]
  first | exact congrArg _ (congrArg _ (hs _)) | (rw [← hs]; rfl)
/-- The table of row 13. -/
theorem a_z13 (b q c : FVec Ideal S16x128 .f32) : k0_pay51 I16 b q c = Z b q c 13 := by
  funext j
  idx_vars j
  have hs := sel16 j0 (13 : Fin 16)
  pointwise [k0_pay51, Z]
  first | exact congrArg _ (congrArg _ (hs _)) | (rw [← hs]; rfl)
/-- The table of row 14. -/
theorem a_z14 (b q c : FVec Ideal S16x128 .f32) : k0_pay52 I16 b q c = Z b q c 14 := by
  funext j
  idx_vars j
  have hs := sel16 j0 (14 : Fin 16)
  pointwise [k0_pay52, Z]
  first | exact congrArg _ (congrArg _ (hs _)) | (rw [← hs]; rfl)
/-- The table of row 15. -/
theorem a_z15 (b q c : FVec Ideal S16x128 .f32) : mulf (k0_pay54 q c) (exp (k0_pay53 I16 b)) = Z b q c 15 := by
  funext j
  idx_vars j
  have hs := sel16 j0 (15 : Fin 16)
  pointwise [k0_pay54, k0_pay53, Z]
  first | exact congrArg _ (congrArg _ (hs _)) | (rw [← hs]; rfl)
/-- The table of row 0. -/
theorem b_z0 (BL QQ KK : FVec Ideal S32x128 .f32) : k0_pay76 I16 KK QQ BL = Z (k0_pay72 BL) (k0_pay73 QQ) (k0_pay74 KK) 0 := by
  funext j
  idx_vars j
  have hs := sel16 j0 (0 : Fin 16)
  pointwise [k0_pay76, k0_pay72, k0_pay73, k0_pay74, Z]
  first | exact congrArg _ (congrArg _ (hs _)) | (rw [← hs]; rfl)
/-- The table of row 1. -/
theorem b_z1 (BL QQ KK : FVec Ideal S32x128 .f32) : k0_pay79 (k0_pay77 I16 BL) (k0_pay78 KK QQ) = Z (k0_pay72 BL) (k0_pay73 QQ) (k0_pay74 KK) 1 := by
  funext j
  idx_vars j
  have hs := sel16 j0 (1 : Fin 16)
  pointwise [k0_pay79, k0_pay77, k0_pay78, k0_pay72, k0_pay73, k0_pay74, Z]
  first | exact congrArg _ (congrArg _ (hs _)) | (rw [← hs]; rfl)
/-- The table of row 2. -/
theorem b_z2 (b q c : FVec Ideal S16x128 .f32) : k0_pay80 I16 b q c = Z b q c 2 := by
  funext j
  idx_vars j
  have hs := sel16 j0 (2 : Fin 16)
  pointwise [k0_pay80, Z]
  first | exact congrArg _ (congrArg _ (hs _)) | (rw [← hs]; rfl)
/-- The table of row 3. -/
theorem b_z3 (b q c : FVec Ideal S16x128 .f32) : k0_pay81 I16 b q c = Z b q c 3 := by
  funext j
  idx_vars j
  have hs := sel16 j0 (3 : Fin 16)
  pointwise [k0_pay81, Z]
  first | exact congrArg _ (congrArg _ (hs _)) | (rw [← hs]; rfl)
/-- The table of row 4. -/
theorem b_z4 (b q c : FVec Ideal S16x128 .f32) : k0_pay82 I16 b q c = Z b q c 4 := by
  funext j
  idx_vars j
  have hs := sel16 j0 (4 : Fin 16)
  pointwise [k0_pay82, Z]
  first | exact congrArg _ (congrArg _ (hs _)) | (rw [← hs]; rfl)
/-- The table of row 5. -/
theorem b_z5 (b q c : FVec Ideal S16x128 .f32) : k0_pay83 I16 b q c = Z b q c 5 := by
  funext j
  idx_vars j
  have hs := sel16 j0 (5 : Fin 16)
  pointwise [k0_pay83, Z]
  first | exact congrArg _ (congrArg _ (hs _)) | (rw [← hs]; rfl)
/-- The table of row 6. -/
theorem b_z6 (b q c : FVec Ideal S16x128 .f32) : k0_pay85 I16 b q c k0_pay84 = Z b q c 6 := by
  funext j
  idx_vars j
  have hs := sel16 j0 (6 : Fin 16)
  pointwise [k0_pay85, k0_pay84, Z]
  first | exact congrArg _ (congrArg _ (hs _)) | (rw [← hs]; rfl)
/-- The table of row 7. -/
theorem b_z7 (b q c : FVec Ideal S16x128 .f32) : k0_pay86 I16 b q c = Z b q c 7 := by
  funext j
  idx_vars j
  have hs := sel16 j0 (7 : Fin 16)
  pointwise [k0_pay86, Z]
  first | exact congrArg _ (congrArg _ (hs _)) | (rw [← hs]; rfl)
/-- The table of row 8. -/
theorem b_z8 (b q c : FVec Ideal S16x128 .f32) : k0_pay87 I16 b q c = Z b q c 8 := by
  funext j
  idx_vars j
  have hs := sel16 j0 (8 : Fin 16)
  pointwise [k0_pay87, Z]
  first | exact congrArg _ (congrArg _ (hs _)) | (rw [← hs]; rfl)
/-- The table of row 9. -/
theorem b_z9 (b q c : FVec Ideal S16x128 .f32) : k0_pay88 I16 b q c = Z b q c 9 := by
  funext j
  idx_vars j
  have hs := sel16 j0 (9 : Fin 16)
  pointwise [k0_pay88, Z]
  first | exact congrArg _ (congrArg _ (hs _)) | (rw [← hs]; rfl)
/-- The table of row 10. -/
theorem b_z10 (b q c : FVec Ideal S16x128 .f32) : k0_pay91 q c (k0_pay89 I16) (k0_pay90 b) = Z b q c 10 := by
  funext j
  idx_vars j
  have hs := sel16 j0 (10 : Fin 16)
  pointwise [k0_pay91, k0_pay89, k0_pay90, Z]
  first | exact congrArg _ (congrArg _ (hs _)) | (rw [← hs]; rfl)
/-- The table of row 11. -/
theorem b_z11 (b q c : FVec Ideal S16x128 .f32) : k0_pay92 I16 b q c = Z b q c 11 := by
  funext j
  idx_vars j
  have hs := sel16 j0 (11 : Fin 16)
  pointwise [k0_pay92, Z]
  first | exact congrArg _ (congrArg _ (hs _)) | (rw [← hs]; rfl)
/-- The table of row 12. -/
theorem b_z12 (b q c : FVec Ideal S16x128 .f32) : k0_pay93 I16 b q c = Z b q c 12 := by
  funext j
  idx_vars j
  have hs := sel16 j0 (12 : Fin 16)
  pointwise [k0_pay93, Z]
  first | exact congrArg _ (congrArg _ (hs _)) | (rw [← hs]; rfl)
/-- The table of row 13. -/
theorem b_z13 (b q c : FVec Ideal S16x128 .f32) : k0_pay94 I16 b q c = Z b q c 13 := by
  funext j
  idx_vars j
  have hs := sel16 j0 (13 : Fin 16)
  pointwise [k0_pay94, Z]
  first | exact congrArg _ (congrArg _ (hs _)) | (rw [← hs]; rfl)
/-- The table of row 14 of the second sub-block, as the product takes it. -/
theorem b_z14 (b q c : FVec Ideal S16x128 .f32) :
    mulf (mulf (broadcastTo S16x128 (k0_pay96 q) broadcasts_S1x128_S16x128) c) (exp (k0_pay95 I16 b)) = Z b q c 14 := by
  funext j
  idx_vars j
  have hs := sel16 j0 (14 : Fin 16)
  pointwise [k0_pay96, k0_pay95, Z]
  first | exact congrArg _ (congrArg _ (hs _)) | (rw [← hs]; rfl)

end Cert.KernelIdeal.Rec

end
-- ==== Proof.RecRows.lean ====
module

public import proofs.«01_k».proof.Proof.Gen.KernelIdeal.Value
public import Idealize.ShloMosaic.Lib.Pipeline.ValueKit
public import proofs.«01_k».proof.Proof.RecZ

@[expose] public section

set_option maxRecDepth 16384

/-! The rows a sub-block adds from within itself: the row tables summed over the channels, weighted by the values, and stacked. -/

noncomputable section

namespace Cert.KernelIdeal.Rec

open Idealize.ShloMosaic Idealize.SL.Sem Cert.KernelIdeal Cert.KernelIdeal.Gen

/-- Sixteen tables stacked and summed over their channels by a product with `w`. -/
def ZS (f : Fin 16 → FVec Ideal S16x128 .f32) (w : Vec Ideal S128x128 .bf16) : FVec Ideal S256x128 .f32 :=
  matmul dot_S256x128_S128x128_S256x128_1_0_0_1_n_n none
    (truncf .bf16 (concatenate S256x128 0 [⟨S16x128, f 0⟩, ⟨S16x128, f 1⟩, ⟨S16x128, f 2⟩, ⟨S16x128, f 3⟩, ⟨S16x128, f 4⟩,
      ⟨S16x128, f 5⟩, ⟨S16x128, f 6⟩, ⟨S16x128, f 7⟩, ⟨S16x128, f 8⟩, ⟨S16x128, f 9⟩, ⟨S16x128, f 10⟩, ⟨S16x128, f 11⟩,
      ⟨S16x128, f 12⟩, ⟨S16x128, f 13⟩, ⟨S16x128, f 14⟩, ⟨S16x128, f 15⟩] concatenates_S16x128_S16x128_S16x128_S16x128_S16x128_S16x128_S16x128_S16x128_S16x128_S16x128_S16x128_S16x128_S16x128_S16x128_S16x128_S16x128_S256x128_d0) bitsLt_bf16_f32)
    (show FVec Ideal S128x128 .bf16 from shapeCast S128x128 w shapeCasts_S128x128_S128x128) (constant S256x128 .f32 0x00000000#32)

/-- A stacked row belongs to the table it falls in. -/
theorem ZS_apply (f : Fin 16 → FVec Ideal S16x128 .f32) (w : Vec Ideal S128x128 .bf16) (t s : Fin 16) (d : Fin 128) :
    ZS f w (ix2 (⟨16 * t.val + s.val, by omega⟩ : Fin 256) d) = ∑ k : Fin 128, f t (ix2 s k) * w (ix2 k d) := by
  have key : ∀ k : Fin 128, concatenate S256x128 0 [⟨S16x128, f 0⟩, ⟨S16x128, f 1⟩, ⟨S16x128, f 2⟩, ⟨S16x128, f 3⟩, ⟨S16x128, f 4⟩,
      ⟨S16x128, f 5⟩, ⟨S16x128, f 6⟩, ⟨S16x128, f 7⟩, ⟨S16x128, f 8⟩, ⟨S16x128, f 9⟩, ⟨S16x128, f 10⟩, ⟨S16x128, f 11⟩,
      ⟨S16x128, f 12⟩, ⟨S16x128, f 13⟩, ⟨S16x128, f 14⟩, ⟨S16x128, f 15⟩] concatenates_S16x128_S16x128_S16x128_S16x128_S16x128_S16x128_S16x128_S16x128_S16x128_S16x128_S16x128_S16x128_S16x128_S16x128_S16x128_S16x128_S256x128_d0
      (ix2 (⟨16 * t.val + s.val, by omega⟩ : Fin 256) k) = f t (ix2 s k) := by
    intro k
    refine concatenate_ofFn_apply (t := S256x128) (s₁ := S16x128) (0 : Fin S256x128.rank) (N := 16) f
      concatenates_S16x128_S16x128_S16x128_S16x128_S16x128_S16x128_S16x128_S16x128_S16x128_S16x128_S16x128_S16x128_S16x128_S16x128_S16x128_S16x128_S256x128_d0
      rfl 16 rfl (ix2 (⟨16 * t.val + s.val, by omega⟩ : Fin 256) k) t ?_ (ix2 s k) ?_ ?_
    · show (16 * t.val + s.val) / 16 = t.val
      omega
    · show s.val = (16 * t.val + s.val) % 16
      omega
    · intro b hb
      match b with
      | 0 => exact absurd rfl hb
      | 1 => rfl
  unfold ZS
  generalize hcat : concatenate S256x128 0 _ _ = x at key ⊢
  pointwise []
  exact Finset.sum_congr rfl fun k _ => congrArg (· * _) (key k)

/-- A stacked row of tables weighted by the values. -/
def ROWV (zs : FVec Ideal S256x128 .f32) (v : FVec Ideal S16x128 .f32) (t : Fin 16) : FVec Ideal S1x128 .f32 := fun j =>
  ∑ s : Fin 16, zs (ix2 (⟨16 * t.val + s.val, by omega⟩ : Fin 256) (j 1)) * v (ix2 s (j 1))

/-- The first sub-block's stacked tables. -/
theorem zsum_a (f : Fin 16 → FVec Ideal S16x128 .f32) (v330 v333 : FVec Ideal S16x128 .f32) (w : Vec Ideal S128x128 .bf16) (h : mulf v333 (exp v330) = f 15) :
    k0_pay55 (f 0) (f 1) (f 2) (f 3) (f 4) (f 5) (f 6) (f 7) (f 8) (f 9) (f 10) (f 11) (f 12) (f 13) (f 14) v330 v333 w = ZS f w := by
  unfold k0_pay55 ZS
  rw [← h]

/-- The second sub-block's stacked tables. -/
theorem zsum_b (b q c : FVec Ideal S16x128 .f32) (w : Vec Ideal S128x128 .bf16) :
    k0_pay97 I16 b q c (Z b q c 0) (Z b q c 1) (Z b q c 2) (Z b q c 3) (Z b q c 4) (Z b q c 5) (Z b q c 6) (Z b q c 7) (Z b q c 8) (Z b q c 9) (Z b q c 10) (Z b q c 11) (Z b q c 12) (Z b q c 13) (k0_pay95 I16 b) (k0_pay96 q) w = ZS (Z b q c) w := by
  unfold ZS
  rw [← b_z14 b q c, ← a_z15 b q c]
  rfl

/-- Row 0 of the first sub-block. -/
theorem row_a0 (f : Fin 16 → FVec Ideal S16x128 .f32) (v v330 v333 : FVec Ideal S16x128 .f32) (w : Vec Ideal S128x128 .bf16) (h : mulf v333 (exp v330) = f 15) :
    k0_pay56 v (f 0) (f 1) (f 2) (f 3) (f 4) (f 5) (f 6) (f 7) (f 8) (f 9) (f 10) (f 11) (f 12) (f 13) (f 14) v330 v333 w = ROWV (ZS f w) v 0 := by
  unfold k0_pay56
  rw [zsum_a f v330 v333 w h]
  funext j
  idx_vars j
  generalize ZS f w = zs
  pointwise [ROWV]
/-- Row 1 of the first sub-block. -/
theorem row_a1 (f : Fin 16 → FVec Ideal S16x128 .f32) (v v330 v333 : FVec Ideal S16x128 .f32) (w : Vec Ideal S128x128 .bf16) (h : mulf v333 (exp v330) = f 15) :
    k0_pay57 v (f 0) (f 1) (f 2) (f 3) (f 4) (f 5) (f 6) (f 7) (f 8) (f 9) (f 10) (f 11) (f 12) (f 13) (f 14) v330 v333 w = ROWV (ZS f w) v 1 := by
  unfold k0_pay57
  rw [zsum_a f v330 v333 w h]
  funext j
  idx_vars j
  generalize ZS f w = zs
  pointwise [ROWV]
/-- Row 2 of the first sub-block. -/
theorem row_a2 (f : Fin 16 → FVec Ideal S16x128 .f32) (v v330 v333 : FVec Ideal S16x128 .f32) (w : Vec Ideal S128x128 .bf16) (h : mulf v333 (exp v330) = f 15) :
    k0_pay58 v (f 0) (f 1) (f 2) (f 3) (f 4) (f 5) (f 6) (f 7) (f 8) (f 9) (f 10) (f 11) (f 12) (f 13) (f 14) v330 v333 w = ROWV (ZS f w) v 2 := by
  unfold k0_pay58
  rw [zsum_a f v330 v333 w h]
  funext j
  idx_vars j
  generalize ZS f w = zs
  pointwise [ROWV]
/-- Row 3 of the first sub-block. -/
theorem row_a3 (f : Fin 16 → FVec Ideal S16x128 .f32) (v v330 v333 : FVec Ideal S16x128 .f32) (w : Vec Ideal S128x128 .bf16) (h : mulf v333 (exp v330) = f 15) :
    k0_pay59 v (f 0) (f 1) (f 2) (f 3) (f 4) (f 5) (f 6) (f 7) (f 8) (f 9) (f 10) (f 11) (f 12) (f 13) (f 14) v330 v333 w = ROWV (ZS f w) v 3 := by
  unfold k0_pay59
  rw [zsum_a f v330 v333 w h]
  funext j
  idx_vars j
  generalize ZS f w = zs
  pointwise [ROWV]
/-- Row 4 of the first sub-block. -/
theorem row_a4 (f : Fin 16 → FVec Ideal S16x128 .f32) (v v330 v333 : FVec Ideal S16x128 .f32) (w : Vec Ideal S128x128 .bf16) (h : mulf v333 (exp v330) = f 15) :
    k0_pay60 v (f 0) (f 1) (f 2) (f 3) (f 4) (f 5) (f 6) (f 7) (f 8) (f 9) (f 10) (f 11) (f 12) (f 13) (f 14) v330 v333 w = ROWV (ZS f w) v 4 := by
  unfold k0_pay60
  rw [zsum_a f v330 v333 w h]
  funext j
  idx_vars j
  generalize ZS f w = zs
  pointwise [ROWV]
/-- Row 5 of the first sub-block. -/
theorem row_a5 (f : Fin 16 → FVec Ideal S16x128 .f32) (v v330 v333 : FVec Ideal S16x128 .f32) (w : Vec Ideal S128x128 .bf16) (h : mulf v333 (exp v330) = f 15) :
    k0_pay61 v (f 0) (f 1) (f 2) (f 3) (f 4) (f 5) (f 6) (f 7) (f 8) (f 9) (f 10) (f 11) (f 12) (f 13) (f 14) v330 v333 w = ROWV (ZS f w) v 5 := by
  unfold k0_pay61
  rw [zsum_a f v330 v333 w h]
  funext j
  idx_vars j
  generalize ZS f w = zs
  pointwise [ROWV]
/-- Row 6 of the first sub-block. -/
theorem row_a6 (f : Fin 16 → FVec Ideal S16x128 .f32) (v v330 v333 : FVec Ideal S16x128 .f32) (w : Vec Ideal S128x128 .bf16) (h : mulf v333 (exp v330) = f 15) :
    k0_pay62 v (f 0) (f 1) (f 2) (f 3) (f 4) (f 5) (f 6) (f 7) (f 8) (f 9) (f 10) (f 11) (f 12) (f 13) (f 14) v330 v333 w = ROWV (ZS f w) v 6 := by
  unfold k0_pay62
  rw [zsum_a f v330 v333 w h]
  funext j
  idx_vars j
  generalize ZS f w = zs
  pointwise [ROWV]
/-- Row 7 of the first sub-block. -/
theorem row_a7 (f : Fin 16 → FVec Ideal S16x128 .f32) (v v330 v333 : FVec Ideal S16x128 .f32) (w : Vec Ideal S128x128 .bf16) (h : mulf v333 (exp v330) = f 15) :
    k0_pay63 v (f 0) (f 1) (f 2) (f 3) (f 4) (f 5) (f 6) (f 7) (f 8) (f 9) (f 10) (f 11) (f 12) (f 13) (f 14) v330 v333 w = ROWV (ZS f w) v 7 := by
  unfold k0_pay63
  rw [zsum_a f v330 v333 w h]
  funext j
  idx_vars j
  generalize ZS f w = zs
  pointwise [ROWV]
/-- Row 8 of the first sub-block. -/
theorem row_a8 (f : Fin 16 → FVec Ideal S16x128 .f32) (v v330 v333 : FVec Ideal S16x128 .f32) (w : Vec Ideal S128x128 .bf16) (h : mulf v333 (exp v330) = f 15) :
    k0_pay64 v (f 0) (f 1) (f 2) (f 3) (f 4) (f 5) (f 6) (f 7) (f 8) (f 9) (f 10) (f 11) (f 12) (f 13) (f 14) v330 v333 w = ROWV (ZS f w) v 8 := by
  unfold k0_pay64
  rw [zsum_a f v330 v333 w h]
  funext j
  idx_vars j
  generalize ZS f w = zs
  pointwise [ROWV]
/-- Row 9 of the first sub-block. -/
theorem row_a9 (f : Fin 16 → FVec Ideal S16x128 .f32) (v v330 v333 : FVec Ideal S16x128 .f32) (w : Vec Ideal S128x128 .bf16) (h : mulf v333 (exp v330) = f 15) :
    k0_pay65 v (f 0) (f 1) (f 2) (f 3) (f 4) (f 5) (f 6) (f 7) (f 8) (f 9) (f 10) (f 11) (f 12) (f 13) (f 14) v330 v333 w = ROWV (ZS f w) v 9 := by
  unfold k0_pay65
  rw [zsum_a f v330 v333 w h]
  funext j
  idx_vars j
  generalize ZS f w = zs
  pointwise [ROWV]
/-- Row 10 of the first sub-block. -/
theorem row_a10 (v : FVec Ideal S16x128 .f32) (zs : FVec Ideal S256x128 .f32) : k0_pay66 v zs = ROWV zs v 10 := by
  funext j
  idx_vars j
  pointwise [k0_pay66, ROWV]
/-- Row 11 of the first sub-block. -/
theorem row_a11 (v : FVec Ideal S16x128 .f32) (zs : FVec Ideal S256x128 .f32) : k0_pay67 v zs = ROWV zs v 11 := by
  funext j
  idx_vars j
  pointwise [k0_pay67, ROWV]
/-- Row 12 of the first sub-block. -/
theorem row_a12 (v : FVec Ideal S16x128 .f32) (zs : FVec Ideal S256x128 .f32) : k0_pay68 v zs = ROWV zs v 12 := by
  funext j
  idx_vars j
  pointwise [k0_pay68, ROWV]
/-- Row 13 of the first sub-block. -/
theorem row_a13 (v : FVec Ideal S16x128 .f32) (zs : FVec Ideal S256x128 .f32) : k0_pay69 v zs = ROWV zs v 13 := by
  funext j
  idx_vars j
  pointwise [k0_pay69, ROWV]
/-- Row 14 of the first sub-block. -/
theorem row_a14 (v : FVec Ideal S16x128 .f32) (zs : FVec Ideal S256x128 .f32) : k0_pay70 v zs = ROWV zs v 14 := by
  funext j
  idx_vars j
  pointwise [k0_pay70, ROWV]
/-- Row 15 of the first sub-block. -/
theorem row_a15 (v : FVec Ideal S16x128 .f32) (zs : FVec Ideal S256x128 .f32) : k0_pay71 v zs = ROWV zs v 15 := by
  funext j
  idx_vars j
  pointwise [k0_pay71, ROWV]
/-- Row 0 of the second sub-block. -/
theorem row_b0 (b q c v : FVec Ideal S16x128 .f32) (w : Vec Ideal S128x128 .bf16) :
    k0_pay98 I16 b q c v (Z b q c 0) (Z b q c 1) (Z b q c 2) (Z b q c 3) (Z b q c 4) (Z b q c 5) (Z b q c 6) (Z b q c 7) (Z b q c 8) (Z b q c 9) (Z b q c 10) (Z b q c 11) (Z b q c 12) (Z b q c 13) (k0_pay95 I16 b) (k0_pay96 q) w = ROWV (ZS (Z b q c) w) v 0 := by
  unfold k0_pay98
  rw [zsum_b b q c w]
  funext j
  idx_vars j
  generalize ZS (Z b q c) w = zs
  pointwise [ROWV]
/-- Row 1 of the second sub-block. -/
theorem row_b1 (b q c v : FVec Ideal S16x128 .f32) (w : Vec Ideal S128x128 .bf16) :
    k0_pay99 I16 b q c v (Z b q c 0) (Z b q c 1) (Z b q c 2) (Z b q c 3) (Z b q c 4) (Z b q c 5) (Z b q c 6) (Z b q c 7) (Z b q c 8) (Z b q c 9) (Z b q c 10) (Z b q c 11) (Z b q c 12) (Z b q c 13) (k0_pay95 I16 b) (k0_pay96 q) w = ROWV (ZS (Z b q c) w) v 1 := by
  unfold k0_pay99
  rw [zsum_b b q c w]
  funext j
  idx_vars j
  generalize ZS (Z b q c) w = zs
  pointwise [ROWV]
/-- Row 2 of the second sub-block. -/
theorem row_b2 (b q c v : FVec Ideal S16x128 .f32) (w : Vec Ideal S128x128 .bf16) :
    k0_pay100 I16 b q c v (Z b q c 0) (Z b q c 1) (Z b q c 2) (Z b q c 3) (Z b q c 4) (Z b q c 5) (Z b q c 6) (Z b q c 7) (Z b q c 8) (Z b q c 9) (Z b q c 10) (Z b q c 11) (Z b q c 12) (Z b q c 13) (k0_pay95 I16 b) (k0_pay96 q) w = ROWV (ZS (Z b q c) w) v 2 := by
  unfold k0_pay100
  rw [zsum_b b q c w]
  funext j
  idx_vars j
  generalize ZS (Z b q c) w = zs
  pointwise [ROWV]
/-- Row 3 of the second sub-block. -/
theorem row_b3 (b q c v : FVec Ideal S16x128 .f32) (w : Vec Ideal S128x128 .bf16) :
    k0_pay101 I16 b q c v (Z b q c 0) (Z b q c 1) (Z b q c 2) (Z b q c 3) (Z b q c 4) (Z b q c 5) (Z b q c 6) (Z b q c 7) (Z b q c 8) (Z b q c 9) (Z b q c 10) (Z b q c 11) (Z b q c 12) (Z b q c 13) (k0_pay95 I16 b) (k0_pay96 q) w = ROWV (ZS (Z b q c) w) v 3 := by
  unfold k0_pay101
  rw [zsum_b b q c w]
  funext j
  idx_vars j
  generalize ZS (Z b q c) w = zs
  pointwise [ROWV]
/-- Row 4 of the second sub-block. -/
theorem row_b4 (b q c v : FVec Ideal S16x128 .f32) (w : Vec Ideal S128x128 .bf16) :
    k0_pay102 I16 b q c v (Z b q c 0) (Z b q c 1) (Z b q c 2) (Z b q c 3) (Z b q c 4) (Z b q c 5) (Z b q c 6) (Z b q c 7) (Z b q c 8) (Z b q c 9) (Z b q c 10) (Z b q c 11) (Z b q c 12) (Z b q c 13) (k0_pay95 I16 b) (k0_pay96 q) w = ROWV (ZS (Z b q c) w) v 4 := by
  unfold k0_pay102
  rw [zsum_b b q c w]
  funext j
  idx_vars j
  generalize ZS (Z b q c) w = zs
  pointwise [ROWV]
/-- Row 5 of the second sub-block. -/
theorem row_b5 (b q c v : FVec Ideal S16x128 .f32) (w : Vec Ideal S128x128 .bf16) :
    k0_pay103 I16 b q c v (Z b q c 0) (Z b q c 1) (Z b q c 2) (Z b q c 3) (Z b q c 4) (Z b q c 5) (Z b q c 6) (Z b q c 7) (Z b q c 8) (Z b q c 9) (Z b q c 10) (Z b q c 11) (Z b q c 12) (Z b q c 13) (k0_pay95 I16 b) (k0_pay96 q) w = ROWV (ZS (Z b q c) w) v 5 := by
  unfold k0_pay103
  rw [zsum_b b q c w]
  funext j
  idx_vars j
  generalize ZS (Z b q c) w = zs
  pointwise [ROWV]
/-- Row 6 of the second sub-block. -/
theorem row_b6 (b q c v : FVec Ideal S16x128 .f32) (w : Vec Ideal S128x128 .bf16) :
    k0_pay104 I16 b q c v (Z b q c 0) (Z b q c 1) (Z b q c 2) (Z b q c 3) (Z b q c 4) (Z b q c 5) (Z b q c 6) (Z b q c 7) (Z b q c 8) (Z b q c 9) (Z b q c 10) (Z b q c 11) (Z b q c 12) (Z b q c 13) (k0_pay95 I16 b) (k0_pay96 q) w = fun j => ROWV (ZS (Z b q c) w) v 6 (ix2 (0 : Fin 1) (j 0)) := by
  unfold k0_pay104
  rw [zsum_b b q c w]
  funext j
  idx_vars j
  generalize ZS (Z b q c) w = zs
  pointwise [ROWV]
/-- Row 0 of the stacked output. -/
theorem out_row0 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (0 : Fin 32) d) = v139 (ix2 (0 : Fin 32) d) + v344 (ix2 (0 : Fin 1) d) := by
  pointwise [k0_pay105]
/-- Row 1 of the stacked output. -/
theorem out_row1 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (1 : Fin 32) d) = v139 (ix2 (1 : Fin 32) d) + v348 (ix2 (0 : Fin 1) d) := by
  pointwise [k0_pay105]
/-- Row 2 of the stacked output. -/
theorem out_row2 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (2 : Fin 32) d) = v139 (ix2 (2 : Fin 32) d) + v352 (ix2 (0 : Fin 1) d) := by
  pointwise [k0_pay105]
/-- Row 3 of the stacked output. -/
theorem out_row3 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (3 : Fin 32) d) = v139 (ix2 (3 : Fin 32) d) + v356 (ix2 (0 : Fin 1) d) := by
  pointwise [k0_pay105]
/-- Row 4 of the stacked output. -/
theorem out_row4 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (4 : Fin 32) d) = v139 (ix2 (4 : Fin 32) d) + v360 (ix2 (0 : Fin 1) d) := by
  pointwise [k0_pay105]
/-- Row 5 of the stacked output. -/
theorem out_row5 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (5 : Fin 32) d) = v139 (ix2 (5 : Fin 32) d) + v364 (ix2 (0 : Fin 1) d) := by
  pointwise [k0_pay105]
/-- Row 6 of the stacked output. -/
theorem out_row6 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (6 : Fin 32) d) = v139 (ix2 (6 : Fin 32) d) + v368 (ix2 (0 : Fin 1) d) := by
  pointwise [k0_pay105]
/-- Row 7 of the stacked output. -/
theorem out_row7 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (7 : Fin 32) d) = v139 (ix2 (7 : Fin 32) d) + v372 (ix2 (0 : Fin 1) d) := by
  pointwise [k0_pay105]
/-- Row 8 of the stacked output. -/
theorem out_row8 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (8 : Fin 32) d) = v139 (ix2 (8 : Fin 32) d) + v376 (ix2 (0 : Fin 1) d) := by
  pointwise [k0_pay105]
/-- Row 9 of the stacked output. -/
theorem out_row9 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (9 : Fin 32) d) = v139 (ix2 (9 : Fin 32) d) + v380 (ix2 (0 : Fin 1) d) := by
  pointwise [k0_pay105]
/-- Row 10 of the stacked output. -/
theorem out_row10 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (10 : Fin 32) d) = v139 (ix2 (10 : Fin 32) d) + v384 (ix2 (0 : Fin 1) d) := by
  pointwise [k0_pay105]
/-- Row 11 of the stacked output. -/
theorem out_row11 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (11 : Fin 32) d) = v139 (ix2 (11 : Fin 32) d) + v388 (ix2 (0 : Fin 1) d) := by
  pointwise [k0_pay105]
/-- Row 12 of the stacked output. -/
theorem out_row12 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (12 : Fin 32) d) = v139 (ix2 (12 : Fin 32) d) + v392 (ix2 (0 : Fin 1) d) := by
  pointwise [k0_pay105]
/-- Row 13 of the stacked output. -/
theorem out_row13 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (13 : Fin 32) d) = v139 (ix2 (13 : Fin 32) d) + v396 (ix2 (0 : Fin 1) d) := by
  pointwise [k0_pay105]
/-- Row 14 of the stacked output. -/
theorem out_row14 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (14 : Fin 32) d) = v139 (ix2 (14 : Fin 32) d) + v400 (ix2 (0 : Fin 1) d) := by
  pointwise [k0_pay105]
/-- Row 15 of the stacked output. -/
theorem out_row15 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (15 : Fin 32) d) = v139 (ix2 (15 : Fin 32) d) + v404 (ix2 (0 : Fin 1) d) := by
  pointwise [k0_pay105]
/-- Row 16 of the stacked output. -/
theorem out_row16 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (16 : Fin 32) d) = v139 (ix2 (16 : Fin 32) d) + v609 (ix2 (0 : Fin 1) d) := by
  pointwise [k0_pay105]
/-- Row 17 of the stacked output. -/
theorem out_row17 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (17 : Fin 32) d) = v139 (ix2 (17 : Fin 32) d) + v613 (ix2 (0 : Fin 1) d) := by
  pointwise [k0_pay105]
/-- Row 18 of the stacked output. -/
theorem out_row18 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (18 : Fin 32) d) = v139 (ix2 (18 : Fin 32) d) + v617 (ix2 (0 : Fin 1) d) := by
  pointwise [k0_pay105]
/-- Row 19 of the stacked output. -/
theorem out_row19 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (19 : Fin 32) d) = v139 (ix2 (19 : Fin 32) d) + v621 (ix2 (0 : Fin 1) d) := by
  pointwise [k0_pay105]
/-- Row 20 of the stacked output. -/
theorem out_row20 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (20 : Fin 32) d) = v139 (ix2 (20 : Fin 32) d) + v625 (ix2 (0 : Fin 1) d) := by
  pointwise [k0_pay105]
/-- Row 21 of the stacked output. -/
theorem out_row21 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (21 : Fin 32) d) = v139 (ix2 (21 : Fin 32) d) + v629 (ix2 (0 : Fin 1) d) := by
  pointwise [k0_pay105]
/-- Row 22 of the stacked output. -/
theorem out_row22 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (22 : Fin 32) d) = v139 (ix2 (22 : Fin 32) d) + v632 (ix1 d) := by
  pointwise [k0_pay105]
/-- Row 23 of the stacked output. -/
theorem out_row23 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (23 : Fin 32) d) = v139 (ix2 (23 : Fin 32) d) + ROWV v605 v408 7 (ix2 (0 : Fin 1) d) := by
  pointwise [k0_pay105, ROWV]
/-- Row 24 of the stacked output. -/
theorem out_row24 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (24 : Fin 32) d) = v139 (ix2 (24 : Fin 32) d) + ROWV v605 v408 8 (ix2 (0 : Fin 1) d) := by
  pointwise [k0_pay105, ROWV]
/-- Row 25 of the stacked output. -/
theorem out_row25 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (25 : Fin 32) d) = v139 (ix2 (25 : Fin 32) d) + ROWV v605 v408 9 (ix2 (0 : Fin 1) d) := by
  pointwise [k0_pay105, ROWV]
/-- Row 26 of the stacked output. -/
theorem out_row26 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (26 : Fin 32) d) = v139 (ix2 (26 : Fin 32) d) + ROWV v605 v408 10 (ix2 (0 : Fin 1) d) := by
  pointwise [k0_pay105, ROWV]
/-- Row 27 of the stacked output. -/
theorem out_row27 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (27 : Fin 32) d) = v139 (ix2 (27 : Fin 32) d) + ROWV v605 v408 11 (ix2 (0 : Fin 1) d) := by
  pointwise [k0_pay105, ROWV]
/-- Row 28 of the stacked output. -/
theorem out_row28 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (28 : Fin 32) d) = v139 (ix2 (28 : Fin 32) d) + ROWV v605 v408 12 (ix2 (0 : Fin 1) d) := by
  pointwise [k0_pay105, ROWV]
/-- Row 29 of the stacked output. -/
theorem out_row29 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (29 : Fin 32) d) = v139 (ix2 (29 : Fin 32) d) + ROWV v605 v408 13 (ix2 (0 : Fin 1) d) := by
  pointwise [k0_pay105, ROWV]
/-- Row 30 of the stacked output. -/
theorem out_row30 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (30 : Fin 32) d) = v139 (ix2 (30 : Fin 32) d) + ROWV v605 v408 14 (ix2 (0 : Fin 1) d) := by
  pointwise [k0_pay105, ROWV]
/-- Row 31 of the stacked output. -/
theorem out_row31 (v139 : FVec Ideal S32x128 .f32) (v344 : FVec Ideal S1x128 .f32) (v348 : FVec Ideal S1x128 .f32) (v352 : FVec Ideal S1x128 .f32) (v356 : FVec Ideal S1x128 .f32) (v360 : FVec Ideal S1x128 .f32) (v364 : FVec Ideal S1x128 .f32) (v368 : FVec Ideal S1x128 .f32) (v372 : FVec Ideal S1x128 .f32) (v376 : FVec Ideal S1x128 .f32) (v380 : FVec Ideal S1x128 .f32) (v384 : FVec Ideal S1x128 .f32) (v388 : FVec Ideal S1x128 .f32) (v392 : FVec Ideal S1x128 .f32) (v396 : FVec Ideal S1x128 .f32) (v400 : FVec Ideal S1x128 .f32) (v404 : FVec Ideal S1x128 .f32) (v408 : FVec Ideal S16x128 .f32) (v605 : FVec Ideal S256x128 .f32) (v609 : FVec Ideal S1x128 .f32) (v613 : FVec Ideal S1x128 .f32) (v617 : FVec Ideal S1x128 .f32) (v621 : FVec Ideal S1x128 .f32) (v625 : FVec Ideal S1x128 .f32) (v629 : FVec Ideal S1x128 .f32) (v632 : FVec Ideal S128 .f32) (d : Fin 128) :
    k0_pay105 v139 v344 v348 v352 v356 v360 v364 v368 v372 v376 v380 v384 v388 v392 v396 v400 v404 v408 v605 v609 v613 v617 v621 v625 v629 v632 (ix2 (31 : Fin 32) d) = v139 (ix2 (31 : Fin 32) d) + ROWV v605 v408 15 (ix2 (0 : Fin 1) d) := by
  pointwise [k0_pay105, ROWV]
/-- The output rows before the norm: what is carried into the rows and what each sub-block adds from within itself. -/
def OUT (v139 BL QQ KK VV : FVec Ideal S32x128 .f32) (w : Vec Ideal S128x128 .bf16) : FVec Ideal S32x128 .f32 :=
  k0_pay105 v139 (k0_pay56 (k0_pay32 VV) (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w) (k0_pay57 (k0_pay32 VV) (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w) (k0_pay58 (k0_pay32 VV) (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w) (k0_pay59 (k0_pay32 VV) (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w) (k0_pay60 (k0_pay32 VV) (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w) (k0_pay61 (k0_pay32 VV) (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w) (k0_pay62 (k0_pay32 VV) (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w) (k0_pay63 (k0_pay32 VV) (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w) (k0_pay64 (k0_pay32 VV) (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w) (k0_pay65 (k0_pay32 VV) (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w) (k0_pay66 (k0_pay32 VV) (k0_pay55 (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w)) (k0_pay67 (k0_pay32 VV) (k0_pay55 (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w)) (k0_pay68 (k0_pay32 VV) (k0_pay55 (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w)) (k0_pay69 (k0_pay32 VV) (k0_pay55 (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w)) (k0_pay70 (k0_pay32 VV) (k0_pay55 (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w)) (k0_pay71 (k0_pay32 VV) (k0_pay55 (k0_pay33 I16 KK QQ BL) (k0_pay34 I16 KK QQ BL) (k0_pay35 I16 KK QQ BL) (k0_pay36 I16 (k0_pay29 BL) (k0_pay30 QQ) (k0_pay31 KK)) (k0_pay37 I16 (k0_pay29 BL) (k0_pay30 QQ) (k0_pay31 KK)) (k0_pay38 I16 (k0_pay29 BL) (k0_pay30 QQ) (k0_pay31 KK)) (k0_pay39 I16 (k0_pay29 BL) (k0_pay30 QQ) (k0_pay31 KK)) (k0_pay42 (k0_pay29 BL) (k0_pay30 QQ) (k0_pay31 KK) (k0_pay40 I16) (k0_pay41 (k0_pay29 BL))) (k0_pay43 I16 (k0_pay29 BL) (k0_pay30 QQ) (k0_pay31 KK)) (k0_pay44 I16 (k0_pay29 BL) (k0_pay30 QQ) (k0_pay31 KK)) (k0_pay45 I16 (k0_pay29 BL) (k0_pay30 QQ) (k0_pay31 KK)) (k0_pay49 (k0_pay30 QQ) (k0_pay31 KK) (k0_pay46 I16) (k0_pay47 (k0_pay29 BL)) k0_pay48) (k0_pay50 I16 (k0_pay29 BL) (k0_pay30 QQ) (k0_pay31 KK)) (k0_pay51 I16 (k0_pay29 BL) (k0_pay30 QQ) (k0_pay31 KK)) (k0_pay52 I16 (k0_pay29 BL) (k0_pay30 QQ) (k0_pay31 KK)) (k0_pay53 I16 (k0_pay29 BL)) (k0_pay54 (k0_pay30 QQ) (k0_pay31 KK)) w)) (k0_pay75 VV) (k0_pay97 I16 (k0_pay72 BL) (k0_pay73 QQ) (k0_pay74 KK) (k0_pay76 I16 KK QQ BL) (k0_pay79 (k0_pay77 I16 BL) (k0_pay78 KK QQ)) (k0_pay80 I16 (k0_pay72 BL) (k0_pay73 QQ) (k0_pay74 KK)) (k0_pay81 I16 (k0_pay72 BL) (k0_pay73 QQ) (k0_pay74 KK)) (k0_pay82 I16 (k0_pay72 BL) (k0_pay73 QQ) (k0_pay74 KK)) (k0_pay83 I16 (k0_pay72 BL) (k0_pay73 QQ) (k0_pay74 KK)) (k0_pay85 I16 (k0_pay72 BL) (k0_pay73 QQ) (k0_pay74 KK) k0_pay84) (k0_pay86 I16 (k0_pay72 BL) (k0_pay73 QQ) (k0_pay74 KK)) (k0_pay87 I16 (k0_pay72 BL) (k0_pay73 QQ) (k0_pay74 KK)) (k0_pay88 I16 (k0_pay72 BL) (k0_pay73 QQ) (k0_pay74 KK)) (k0_pay91 (k0_pay73 QQ) (k0_pay74 KK) (k0_pay89 I16) (k0_pay90 (k0_pay72 BL))) (k0_pay92 I16 (k0_pay72 BL) (k0_pay73 QQ) (k0_pay74 KK)) (k0_pay93 I16 (k0_pay72 BL) (k0_pay73 QQ) (k0_pay74 KK)) (k0_pay94 I16 (k0_pay72 BL) (k0_pay73 QQ) (k0_pay74 KK)) (k0_pay95 I16 (k0_pay72 BL)) (k0_pay96 (k0_pay73 QQ)) w) (k0_pay98 I16 (k0_pay72 BL) (k0_pay73 QQ) (k0_pay74 KK) (k0_pay75 VV) (k0_pay76 I16 KK QQ BL) (k0_pay79 (k0_pay77 I16 BL) (k0_pay78 KK QQ)) (k0_pay80 I16 (k0_pay72 BL) (k0_pay73 QQ) (k0_pay74 KK)) (k0_pay81 I16 (k0_pay72 BL) (k0_pay73 QQ) (k0_pay74 KK)) (k0_pay82 I16 (k0_pay72 BL) (k0_pay73 QQ) (k0_pay74 KK)) (k0_pay83 I16 (k0_pay72 BL) (k0_pay73 QQ) (k0_pay74 KK)) (k0_pay85 I16 (k0_pay72 BL) (k0_pay73 QQ) (k0_pay74 KK) k0_pay84) (k0_pay86 I16 (k0_pay72 BL) (k0_pay73 QQ) (k0_pay74 KK)) (k0_pay87 I16 (k0_pay72 BL) (k0_pay73 QQ) (k0_pay74 KK)) (k0_pay88 I16 (k0_pay72 BL) (k0_pay73 QQ) (k0_pay74 KK)) (k0_pay91 (k0_pay73 QQ) (k0_pay74 KK) (k0_pay89 I16) (k0_pay90 (k0_pay72 BL))) (k0_pay92 I16 (k0_pay72 BL) (k0_pay73 QQ) (k0_pay74 KK)) (k0_pay93 I16 (k0_pay72 BL) (k0_pay73 QQ) (k0_pay74 KK)) (k0_pay94 I16 (k0_pay72 BL) (k0_pay73 QQ) (k0_pay74 KK)) (k0_pay95 I16 (k0_pay72 BL)) (k0_pay96 (k0_pay73 QQ)) w) (k0_pay99 I16 (k0_pay72 BL) (k0_pay73 QQ) (k0_pay74 KK) (k0_pay75 VV) (k0_pay76 I16 KK QQ BL) (k0_pay79 (k0_pay77 I16 BL) (k0_pay78 KK QQ)) (k0_pay80 I16 (k0_pay72 BL) (k0_pay73 QQ) (k0_pay74 KK)) (k0_pay81 I16 (k0_pay72 BL) (k0_pay73 QQ) (k0_pay74 KK)) (k0_pay82 I16 (k0_pay72 BL) (k0_pay73 QQ) (k0_pay74 KK)) (k0_pay83 I16 (k0_pay72 BL) (k0_pay73 QQ) (k0_pay74 KK)) (k0_pay85 I16 (k0_pay72 BL) (k0_pay73 QQ) (k0_pay74 KK) k0_pay84) (k0_pay86 I16 (k0_pay72 BL) (k0_pay73 QQ) (k0_pay74 KK)) (k0_pay87 I16 (k0_pay72 BL) (k0_pay73 QQ) (k0_pay74 KK)) (k0_pay88 I16 (k0_pay72 BL) (k0_pay73 QQ) (k0_pay74 KK)) (k0_pay91 (k0_pay73 QQ) (k0_pay74 KK) (k0_pay89 I16) (k0_pay90 (k0_pay72 BL))) (k0_pay92 I16 (k0_pay72 BL) (k0_pay73 QQ) (k0_pay74 KK)) (k0_pay93 I16 (k0_pay72 BL) (k0_pay73 QQ) (k0_pay74 KK)) (k0_pay94 I16 (k0_pay72 BL) (k0_pay73 QQ) (k0_pay74 KK)) (k0_pay95 I16 (k0_pay72 BL)) (k0_pay96 (k0_pay73 QQ)) w) (k0_pay100 I16 (k0_pay72 BL) (k0_pay73 QQ) (k0_pay74 KK) (k0_pay75 VV) (k0_pay76 I16 KK QQ BL) (k0_pay79 (k0_pay77 I16 BL) (k0_pay78 KK QQ)) (k0_pay80 I16 (k0_pay72 BL) (k0_pay73 QQ) (k0_pay74 KK)) (k0_pay81 I16 (k0_pay72 BL) (k0_pay73 QQ) (k0_pay74 KK)) (k0_pay82 I16 (k0_pay72 BL) (k0_pay73 QQ) (k0_pay74 KK)) (k0_pay83 I16 (k0_pay72 BL) (k0_pay73 QQ) (k0_pay74 KK)) (k0_pay85 I16 (k0_pay72 BL) (k0_pay73 QQ) (k0_pay74 KK) k0_pay84) (k0_pay86 I16 (k0_pay72 BL) (k0_pay73 QQ) (k0_pay74 KK)) (k0_pay87 I16 (k0_pay72 BL) (k0_pay73 QQ) (k0_pay74 KK)) (k0_pay88 I16 (k0_pay72 BL) (k0_pay73 QQ) (k0_pay74 KK)) (k0_pay91 (k0_pay73 QQ) (k0_pay74 KK) (k0_pay89 I16) (k0_pay90 (k0_pay72 BL))) (k0_pay92 I16 (k0_pay72 BL) (k0_pay73 QQ) (k0_pay74 KK)) (k0_pay93 I16 (k0_pay72 BL) (k0_pay73 QQ) (k0_pay74 KK)) (k0_pay94 I16 (k0_pay72 BL) (k0_pay73 QQ) (k0_pay74 KK)) (k0_pay95 I16 (k0_pay72 BL)) (k0_pay96 (k0_pay73 QQ)) w) (k0_pay101 I16 (k0_pay72 BL) (k0_pay73 QQ) (k0_pay74 KK) (k0_pay75 VV) (k0_pay76 I16 KK QQ BL) (k0_pay79 (k0_pay77 I16 BL) (k0_pay78 KK QQ)) (k0_pay80 I16 (k0_pay72 BL) (k0_pay73 QQ) (k0_pay74 KK)) (k0_pay81 I16 (k0_pay72 BL) (k0_pay73 QQ) (k0_pay74 KK)) (k0_pay82 I16 (k0_pay72 BL) (k0_pay73 QQ) (k0_pay74 KK)) (k0_pay83 I16 (k0_pay72 BL) (k0_pay73 QQ) (k0_pay74 KK)) (k0_pay85 I16 (k0_pay72 BL) (k0_pay73 QQ) (k0_pay74 KK) k0_pay84) (k0_pay86 I16 (k0_pay72 BL) (k0_pay73 QQ) (k0_pay74 KK)) (k0_pay87 I16 (k0_pay72 BL) (k0_pay73 QQ) (k0_pay74 KK)) (k0_pay88 I16 (k0_pay72 BL) (k0_pay73 QQ) (k0_pay74 KK)) (k0_pay91 (k0_pay73 QQ) (k0_pay74 KK) (k0_pay89 I16) (k0_pay90 (k0_pay72 BL))) (k0_pay92 I16 (k0_pay72 BL) (k0_pay73 QQ) (k0_pay74 KK)) (k0_pay93 I16 (k0_pay72 BL) (k0_pay73 QQ) (k0_pay74 KK)) (k0_pay94 I16 (k0_pay72 BL) (k0_pay73 QQ) (k0_pay74 KK)) (k0_pay95 I16 (k0_pay72 BL)) (k0_pay96 (k0_pay73 QQ)) w) (k0_pay102 I16 (k0_pay72 BL) (k0_pay73 QQ) (k0_pay74 KK) (k0_pay75 VV) (k0_pay76 I16 KK QQ BL) (k0_pay79 (k0_pay77 I16 BL) (k0_pay78 KK QQ)) (k0_pay80 I16 (k0_pay72 BL) (k0_pay73 QQ) (k0_pay74 KK)) (k0_pay81 I16 (k0_pay72 BL) (k0_pay73 QQ) (k0_pay74 KK)) (k0_pay82 I16 (k0_pay72 BL) (k0_pay73 QQ) (k0_pay74 KK)) (k0_pay83 I16 (k0_pay72 BL) (k0_pay73 QQ) (k0_pay74 KK)) (k0_pay85 I16 (k0_pay72 BL) (k0_pay73 QQ) (k0_pay74 KK) k0_pay84) (k0_pay86 I16 (k0_pay72 BL) (k0_pay73 QQ) (k0_pay74 KK)) (k0_pay87 I16 (k0_pay72 BL) (k0_pay73 QQ) (k0_pay74 KK)) (k0_pay88 I16 (k0_pay72 BL) (k0_pay73 QQ) (k0_pay74 KK)) (k0_pay91 (k0_pay73 QQ) (k0_pay74 KK) (k0_pay89 I16) (k0_pay90 (k0_pay72 BL))) (k0_pay92 I16 (k0_pay72 BL) (k0_pay73 QQ) (k0_pay74 KK)) (k0_pay93 I16 (k0_pay72 BL) (k0_pay73 QQ) (k0_pay74 KK)) (k0_pay94 I16 (k0_pay72 BL) (k0_pay73 QQ) (k0_pay74 KK)) (k0_pay95 I16 (k0_pay72 BL)) (k0_pay96 (k0_pay73 QQ)) w) (k0_pay103 I16 (k0_pay72 BL) (k0_pay73 QQ) (k0_pay74 KK) (k0_pay75 VV) (k0_pay76 I16 KK QQ BL) (k0_pay79 (k0_pay77 I16 BL) (k0_pay78 KK QQ)) (k0_pay80 I16 (k0_pay72 BL) (k0_pay73 QQ) (k0_pay74 KK)) (k0_pay81 I16 (k0_pay72 BL) (k0_pay73 QQ) (k0_pay74 KK)) (k0_pay82 I16 (k0_pay72 BL) (k0_pay73 QQ) (k0_pay74 KK)) (k0_pay83 I16 (k0_pay72 BL) (k0_pay73 QQ) (k0_pay74 KK)) (k0_pay85 I16 (k0_pay72 BL) (k0_pay73 QQ) (k0_pay74 KK) k0_pay84) (k0_pay86 I16 (k0_pay72 BL) (k0_pay73 QQ) (k0_pay74 KK)) (k0_pay87 I16 (k0_pay72 BL) (k0_pay73 QQ) (k0_pay74 KK)) (k0_pay88 I16 (k0_pay72 BL) (k0_pay73 QQ) (k0_pay74 KK)) (k0_pay91 (k0_pay73 QQ) (k0_pay74 KK) (k0_pay89 I16) (k0_pay90 (k0_pay72 BL))) (k0_pay92 I16 (k0_pay72 BL) (k0_pay73 QQ) (k0_pay74 KK)) (k0_pay93 I16 (k0_pay72 BL) (k0_pay73 QQ) (k0_pay74 KK)) (k0_pay94 I16 (k0_pay72 BL) (k0_pay73 QQ) (k0_pay74 KK)) (k0_pay95 I16 (k0_pay72 BL)) (k0_pay96 (k0_pay73 QQ)) w) (k0_pay104 I16 (k0_pay72 BL) (k0_pay73 QQ) (k0_pay74 KK) (k0_pay75 VV) (k0_pay76 I16 KK QQ BL) (k0_pay79 (k0_pay77 I16 BL) (k0_pay78 KK QQ)) (k0_pay80 I16 (k0_pay72 BL) (k0_pay73 QQ) (k0_pay74 KK)) (k0_pay81 I16 (k0_pay72 BL) (k0_pay73 QQ) (k0_pay74 KK)) (k0_pay82 I16 (k0_pay72 BL) (k0_pay73 QQ) (k0_pay74 KK)) (k0_pay83 I16 (k0_pay72 BL) (k0_pay73 QQ) (k0_pay74 KK)) (k0_pay85 I16 (k0_pay72 BL) (k0_pay73 QQ) (k0_pay74 KK) k0_pay84) (k0_pay86 I16 (k0_pay72 BL) (k0_pay73 QQ) (k0_pay74 KK)) (k0_pay87 I16 (k0_pay72 BL) (k0_pay73 QQ) (k0_pay74 KK)) (k0_pay88 I16 (k0_pay72 BL) (k0_pay73 QQ) (k0_pay74 KK)) (k0_pay91 (k0_pay73 QQ) (k0_pay74 KK) (k0_pay89 I16) (k0_pay90 (k0_pay72 BL))) (k0_pay92 I16 (k0_pay72 BL) (k0_pay73 QQ) (k0_pay74 KK)) (k0_pay93 I16 (k0_pay72 BL) (k0_pay73 QQ) (k0_pay74 KK)) (k0_pay94 I16 (k0_pay72 BL) (k0_pay73 QQ) (k0_pay74 KK)) (k0_pay95 I16 (k0_pay72 BL)) (k0_pay96 (k0_pay73 QQ)) w)

/-- The output rows over the row tables. -/
theorem OUT_eq (v139 BL QQ KK VV : FVec Ideal S32x128 .f32) (w : Vec Ideal S128x128 .bf16) :
    OUT v139 BL QQ KK VV w = k0_pay105 v139 (ROWV (ZS (Z (k0_pay29 BL) (k0_pay30 QQ) (k0_pay31 KK)) w) (k0_pay32 VV) 0) (ROWV (ZS (Z (k0_pay29 BL) (k0_pay30 QQ) (k0_pay31 KK)) w) (k0_pay32 VV) 1) (ROWV (ZS (Z (k0_pay29 BL) (k0_pay30 QQ) (k0_pay31 KK)) w) (k0_pay32 VV) 2) (ROWV (ZS (Z (k0_pay29 BL) (k0_pay30 QQ) (k0_pay31 KK)) w) (k0_pay32 VV) 3) (ROWV (ZS (Z (k0_pay29 BL) (k0_pay30 QQ) (k0_pay31 KK)) w) (k0_pay32 VV) 4) (ROWV (ZS (Z (k0_pay29 BL) (k0_pay30 QQ) (k0_pay31 KK)) w) (k0_pay32 VV) 5) (ROWV (ZS (Z (k0_pay29 BL) (k0_pay30 QQ) (k0_pay31 KK)) w) (k0_pay32 VV) 6) (ROWV (ZS (Z (k0_pay29 BL) (k0_pay30 QQ) (k0_pay31 KK)) w) (k0_pay32 VV) 7) (ROWV (ZS (Z (k0_pay29 BL) (k0_pay30 QQ) (k0_pay31 KK)) w) (k0_pay32 VV) 8) (ROWV (ZS (Z (k0_pay29 BL) (k0_pay30 QQ) (k0_pay31 KK)) w) (k0_pay32 VV) 9) (ROWV (ZS (Z (k0_pay29 BL) (k0_pay30 QQ) (k0_pay31 KK)) w) (k0_pay32 VV) 10) (ROWV (ZS (Z (k0_pay29 BL) (k0_pay30 QQ) (k0_pay31 KK)) w) (k0_pay32 VV) 11) (ROWV (ZS (Z (k0_pay29 BL) (k0_pay30 QQ) (k0_pay31 KK)) w) (k0_pay32 VV) 12) (ROWV (ZS (Z (k0_pay29 BL) (k0_pay30 QQ) (k0_pay31 KK)) w) (k0_pay32 VV) 13) (ROWV (ZS (Z (k0_pay29 BL) (k0_pay30 QQ) (k0_pay31 KK)) w) (k0_pay32 VV) 14) (ROWV (ZS (Z (k0_pay29 BL) (k0_pay30 QQ) (k0_pay31 KK)) w) (k0_pay32 VV) 15) (k0_pay75 VV)
      (ZS (Z (k0_pay72 BL) (k0_pay73 QQ) (k0_pay74 KK)) w) (ROWV (ZS (Z (k0_pay72 BL) (k0_pay73 QQ) (k0_pay74 KK)) w) (k0_pay75 VV) 0) (ROWV (ZS (Z (k0_pay72 BL) (k0_pay73 QQ) (k0_pay74 KK)) w) (k0_pay75 VV) 1) (ROWV (ZS (Z (k0_pay72 BL) (k0_pay73 QQ) (k0_pay74 KK)) w) (k0_pay75 VV) 2) (ROWV (ZS (Z (k0_pay72 BL) (k0_pay73 QQ) (k0_pay74 KK)) w) (k0_pay75 VV) 3) (ROWV (ZS (Z (k0_pay72 BL) (k0_pay73 QQ) (k0_pay74 KK)) w) (k0_pay75 VV) 4) (ROWV (ZS (Z (k0_pay72 BL) (k0_pay73 QQ) (k0_pay74 KK)) w) (k0_pay75 VV) 5) (fun j => ROWV (ZS (Z (k0_pay72 BL) (k0_pay73 QQ) (k0_pay74 KK)) w) (k0_pay75 VV) 6 (ix2 (0 : Fin 1) (j 0))) := by
  unfold OUT
  rw [a_z0, a_z1, a_z2, a_z3, a_z4, a_z5, a_z6, a_z7, a_z8, a_z9, a_z10, a_z11, a_z12, a_z13, a_z14, b_z0, b_z1, b_z2, b_z3, b_z4, b_z5, b_z6, b_z7, b_z8, b_z9, b_z10, b_z11, b_z12, b_z13,
    zsum_a _ _ _ _ (a_z15 _ _ _), zsum_b, row_a0 _ _ _ _ _ (a_z15 _ _ _), row_a1 _ _ _ _ _ (a_z15 _ _ _), row_a2 _ _ _ _ _ (a_z15 _ _ _), row_a3 _ _ _ _ _ (a_z15 _ _ _), row_a4 _ _ _ _ _ (a_z15 _ _ _), row_a5 _ _ _ _ _ (a_z15 _ _ _), row_a6 _ _ _ _ _ (a_z15 _ _ _), row_a7 _ _ _ _ _ (a_z15 _ _ _), row_a8 _ _ _ _ _ (a_z15 _ _ _), row_a9 _ _ _ _ _ (a_z15 _ _ _), row_a10, row_a11, row_a12, row_a13, row_a14, row_a15,
    row_b0, row_b1, row_b2, row_b3, row_b4, row_b5, row_b6]

/-- What row `t` gets from within its sub-block. -/
def DG (BL QQ KK VV : FVec Ideal S32x128 .f32) (w : Vec Ideal S128x128 .bf16) (t : Fin 32) (d : Fin 128) : EReal :=
  if h : t.val < 16 then ROWV (ZS (Z (k0_pay29 BL) (k0_pay30 QQ) (k0_pay31 KK)) w) (k0_pay32 VV) ⟨t.val, h⟩ (ix2 (0 : Fin 1) d)
  else ROWV (ZS (Z (k0_pay72 BL) (k0_pay73 QQ) (k0_pay74 KK)) w) (k0_pay75 VV) ⟨t.val - 16, by omega⟩ (ix2 (0 : Fin 1) d)

/-- The output rows, row by row. -/
theorem OUT_apply (v139 BL QQ KK VV : FVec Ideal S32x128 .f32) (w : Vec Ideal S128x128 .bf16) (t : Fin 32) (d : Fin 128) :
    OUT v139 BL QQ KK VV w (ix2 t d) = v139 (ix2 t d) + DG BL QQ KK VV w t d := by
  rw [OUT_eq]
  match t with
  | ⟨0, _⟩ => exact out_row0 _ _ _ _ _ _ _ _ _ _ _ _ _ _ _ _ _ _ _ _ _ _ _ _ _ _ d
  | ⟨1, _⟩ => exact out_row1 _ _ _ _ _ _ _ _ _ _ _ _ _ _ _ _ _ _ _ _ _ _ _ _ _ _ d
  | ⟨2, _⟩ => exact out_row2 _ _ _ _ _ _ _ _ _ _ _ _ _ _ _ _ _ _ _ _ _ _ _ _ _ _ d
  | ⟨3, _⟩ => exact out_row3 _ _ _ _ _ _ _ _ _ _ _ _ _ _ _ _ _ _ _ _ _ _ _ _ _ _ d
  | ⟨4, _⟩ => exact out_row4 _ _ _ _ _ _ _ _ _ _ _ _ _ _ _ _ _ _ _ _ _ _ _ _ _ _ d
  | ⟨5, _⟩ => exact out_row5 _ _ _ _ _ _ _ _ _ _ _ _ _ _ _ _ _ _ _ _ _ _ _ _ _ _ d
  | ⟨6, _⟩ => exact out_row6 _ _ _ _ _ _ _ _ _ _ _ _ _ _ _ _ _ _ _ _ _ _ _ _ _ _ d
  | ⟨7, _⟩ => exact out_row7 _ _ _ _ _ _ _ _ _ _ _ _ _ _ _ _ _ _ _ _ _ _ _ _ _ _ d
  | ⟨8, _⟩ => exact out_row8 _ _ _ _ _ _ _ _ _ _ _ _ _ _ _ _ _ _ _ _ _ _ _ _ _ _ d
  | ⟨9, _⟩ => exact out_row9 _ _ _ _ _ _ _ _ _ _ _ _ _ _ _ _ _ _ _ _ _ _ _ _ _ _ d
  | ⟨10, _⟩ => exact out_row10 _ _ _ _ _ _ _ _ _ _ _ _ _ _ _ _ _ _ _ _ _ _ _ _ _ _ d
  | ⟨11, _⟩ => exact out_row11 _ _ _ _ _ _ _ _ _ _ _ _ _ _ _ _ _ _ _ _ _ _ _ _ _ _ d
  | ⟨12, _⟩ => exact out_row12 _ _ _ _ _ _ _ _ _ _ _ _ _ _ _ _ _ _ _ _ _ _ _ _ _ _ d
  | ⟨13, _⟩ => exact out_row13 _ _ _ _ _ _ _ _ _ _ _ _ _ _ _ _ _ _ _ _ _ _ _ _ _ _ d
  | ⟨14, _⟩ => exact out_row14 _ _ _ _ _ _ _ _ _ _ _ _ _ _ _ _ _ _ _ _ _ _ _ _ _ _ d
  | ⟨15, _⟩ => exact out_row15 _ _ _ _ _ _ _ _ _ _ _ _ _ _ _ _ _ _ _ _ _ _ _ _ _ _ d
  | ⟨16, _⟩ => exact out_row16 _ _ _ _ _ _ _ _ _ _ _ _ _ _ _ _ _ _ _ _ _ _ _ _ _ _ d
  | ⟨17, _⟩ => exact out_row17 _ _ _ _ _ _ _ _ _ _ _ _ _ _ _ _ _ _ _ _ _ _ _ _ _ _ d
  | ⟨18, _⟩ => exact out_row18 _ _ _ _ _ _ _ _ _ _ _ _ _ _ _ _ _ _ _ _ _ _ _ _ _ _ d
  | ⟨19, _⟩ => exact out_row19 _ _ _ _ _ _ _ _ _ _ _ _ _ _ _ _ _ _ _ _ _ _ _ _ _ _ d
  | ⟨20, _⟩ => exact out_row20 _ _ _ _ _ _ _ _ _ _ _ _ _ _ _ _ _ _ _ _ _ _ _ _ _ _ d
  | ⟨21, _⟩ => exact out_row21 _ _ _ _ _ _ _ _ _ _ _ _ _ _ _ _ _ _ _ _ _ _ _ _ _ _ d
  | ⟨22, _⟩ => exact out_row22 _ _ _ _ _ _ _ _ _ _ _ _ _ _ _ _ _ _ _ _ _ _ _ _ _ _ d
  | ⟨23, _⟩ => exact out_row23 _ _ _ _ _ _ _ _ _ _ _ _ _ _ _ _ _ _ _ _ _ _ _ _ _ _ d
  | ⟨24, _⟩ => exact out_row24 _ _ _ _ _ _ _ _ _ _ _ _ _ _ _ _ _ _ _ _ _ _ _ _ _ _ d
  | ⟨25, _⟩ => exact out_row25 _ _ _ _ _ _ _ _ _ _ _ _ _ _ _ _ _ _ _ _ _ _ _ _ _ _ d
  | ⟨26, _⟩ => exact out_row26 _ _ _ _ _ _ _ _ _ _ _ _ _ _ _ _ _ _ _ _ _ _ _ _ _ _ d
  | ⟨27, _⟩ => exact out_row27 _ _ _ _ _ _ _ _ _ _ _ _ _ _ _ _ _ _ _ _ _ _ _ _ _ _ d
  | ⟨28, _⟩ => exact out_row28 _ _ _ _ _ _ _ _ _ _ _ _ _ _ _ _ _ _ _ _ _ _ _ _ _ _ d
  | ⟨29, _⟩ => exact out_row29 _ _ _ _ _ _ _ _ _ _ _ _ _ _ _ _ _ _ _ _ _ _ _ _ _ _ d
  | ⟨30, _⟩ => exact out_row30 _ _ _ _ _ _ _ _ _ _ _ _ _ _ _ _ _ _ _ _ _ _ _ _ _ _ d
  | ⟨31, _⟩ => exact out_row31 _ _ _ _ _ _ _ _ _ _ _ _ _ _ _ _ _ _ _ _ _ _ _ _ _ _ d
  | ⟨n + 32, h⟩ => omega

end Cert.KernelIdeal.Rec

end
-- ==== Proof.RecKernel.lean ====
module

public import proofs.«01_k».proof.Proof.Gen.KernelIdeal.Value
public import Idealize.ShloMosaic.Lib.Pipeline.ValueKit
public import proofs.«01_k».proof.Proof.RecMath
public import proofs.«01_k».proof.Proof.RecRows

@[expose] public section

set_option maxRecDepth 16384

/-! The recurrence's kernel at one grid point: what it stores, over the blocks it reads. -/

noncomputable section

namespace Cert.KernelIdeal.Rec

open Idealize.ShloMosaic Idealize.SL.Sem Cert.KernelIdeal Cert.KernelIdeal.Gen Cert.RecMath

/-- Which pairs of rows lie in neighbouring halves. -/
abbrev MASK : IVec S32x32 1 :=
  k0_pay26 k0_pay4 (k0_pay7 (iota .tc S32x32 32 [1] iota_S32x32_d1_w32) 16#32 k0_pay5 k0_pay6 0#32)

/-- The pairs, by their numbers. -/
theorem mask_apply : ∀ t s : Fin 32, MASK (ix2 t s) = if t.val / 16 = s.val / 16 + 1 then 1#1 else 0#1 := by
  decide +kernel

/-- Sums of reals, read as extended reals. -/
theorem coe_sum {n : ℕ} (f : Fin n → ℝ) : ((∑ s, f s : ℝ) : EReal) = ∑ s, (f s : EReal) := by
  classical
  induction (Finset.univ : Finset (Fin n)) using Finset.induction_on with
  | empty => simp
  | insert a s ha ih => rw [Finset.sum_insert ha, Finset.sum_insert ha, EReal.coe_add, ih]

variable (L : Fin 32 → Fin 128 → ℝ)

/-- A sum over a table of ones and zeros. -/
theorem tab_sum (p : Fin 32 → Prop) [DecidablePred p] (w : Fin 32 → EReal) (hw : ∀ s, w s = if p s then 1 else 0) (k : Fin 128) :
    ∑ s : Fin 32, w s * (L s k : EReal) = ((∑ s : Fin 32, if p s then L s k else 0 : ℝ) : EReal) := by
  rw [coe_sum]
  refine Finset.sum_congr rfl fun s _ => ?_
  rw [hw s]
  by_cases h : p s
  · rw [if_pos h, if_pos h, one_mul]
  · rw [if_neg h, if_neg h, zero_mul, EReal.coe_zero]

/-- The half-wise accumulated log-decay. -/
theorem bl_apply (LG : FVec Ideal S32x128 .f32) (x8 : Vec Ideal S32x32 .bf16)
    (hL : ∀ s k, LG (ix2 s k) = (L s k : EReal))
    (h8 : ∀ t s : Fin 32, (show EReal from x8 (ix2 t s)) = if s.val ≤ t.val ∧ s.val / 16 = t.val / 16 then 1 else 0)
    (t : Fin 32) (k : Fin 128) : k0_pay20 (F := Ideal) LG x8 (ix2 t k) = (bs L t k : EReal) := by
  have e : k0_pay20 (F := Ideal) LG x8 (ix2 t k)
      = (∑ s : Fin 32, (show EReal from x8 (ix2 t s)) * LG (ix2 s k)) + (∑ s : Fin 32, (show EReal from x8 (ix2 t s)) * (LG (ix2 s k) - LG (ix2 s k)))
        + ∑ s : Fin 32, (show EReal from x8 (ix2 t s)) * (LG (ix2 s k) - LG (ix2 s k) - (LG (ix2 s k) - LG (ix2 s k))) := by
    pointwise [k0_pay20]
  rw [e]
  have z : ∀ s, LG (ix2 s k) - LG (ix2 s k) = 0 := fun s => by
    rw [hL, ← EReal.coe_sub, sub_self, EReal.coe_zero]
  simp only [z, sub_zero, mul_zero, Finset.sum_const_zero, add_zero]
  simp only [hL]
  exact tab_sum L _ (fun s => show EReal from x8 (ix2 t s)) (h8 t) k

/-- The log-decay accumulated over the chunk. -/
theorem b_apply (LB : FVec Ideal S1x128 .f32) (x0 : Vec Ideal S1x32x128 .f32) (x7 : Vec Ideal S32x32 .bf16)
    (hL : ∀ s k, k0_pay9 (F := Ideal) LB x0 (ix2 s k) = (L s k : EReal))
    (h7 : ∀ t s : Fin 32, (show EReal from x7 (ix2 t s)) = if s.val ≤ t.val then 1 else 0)
    (t : Fin 32) (k : Fin 128) :
    k0_pay19 (F := Ideal) x7 (k0_pay16 LB x0) (k0_pay17 LB x0) (k0_pay18 LB x0 x7) (ix2 t k) = (cs L t k : EReal) := by
  have e : k0_pay19 (F := Ideal) x7 (k0_pay16 LB x0) (k0_pay17 LB x0) (k0_pay18 LB x0 x7) (ix2 t k)
      = (∑ s : Fin 32, (show EReal from x7 (ix2 t s)) * k0_pay9 (F := Ideal) LB x0 (ix2 s k))
        + (∑ s : Fin 32, (show EReal from x7 (ix2 t s)) * (k0_pay9 (F := Ideal) LB x0 (ix2 s k) - k0_pay9 (F := Ideal) LB x0 (ix2 s k)))
        + ∑ s : Fin 32, (show EReal from x7 (ix2 t s)) * (k0_pay9 (F := Ideal) LB x0 (ix2 s k) - k0_pay9 (F := Ideal) LB x0 (ix2 s k)
          - (k0_pay9 (F := Ideal) LB x0 (ix2 s k) - k0_pay9 (F := Ideal) LB x0 (ix2 s k))) := by
    unfold k0_pay16 k0_pay17 k0_pay18 k0_pay16 k0_pay15 k0_pay14
    generalize k0_pay9 (F := Ideal) LB x0 = LG
    pointwise [k0_pay19]
  rw [e]
  have z : ∀ s, k0_pay9 (F := Ideal) LB x0 (ix2 s k) - k0_pay9 (F := Ideal) LB x0 (ix2 s k) = 0 := fun s => by
    rw [hL, ← EReal.coe_sub, sub_self, EReal.coe_zero]
  simp only [z, sub_zero, mul_zero, Finset.sum_const_zero, add_zero]
  simp only [hL]
  exact tab_sum L _ (fun s => show EReal from x7 (ix2 t s)) (h7 t) k

/-- The keys decayed to the end of their half. -/
theorem kend_apply (LG KK : FVec Ideal S32x128 .f32) (x8 : Vec Ideal S32x32 .bf16)
    (hB : ∀ t k, k0_pay20 (F := Ideal) LG x8 (ix2 t k) = (bs L t k : EReal)) (s : Fin 32) (k : Fin 128) :
    k0_pay24 (F := Ideal) LG KK x8 (ix2 s k)
      = KK (ix2 s k) * Ideal.exp ((bs L (last s) k : EReal) - (bs L s k : EReal)) := by
  unfold k0_pay24 k0_pay21
  generalize k0_pay20 (F := Ideal) LG x8 = BL at hB ⊢
  by_cases h : s.val < 16
  · have hl : last s = 15 := if_pos h
    rw [hl, ← hB, ← hB]
    pointwise []
    rw [dif_pos h]
  · have hl : last s = 31 := if_neg h
    rw [hl, ← hB, ← hB]
    pointwise []
    rw [dif_neg h]
    have e : (⟨16 + (s.val - 16), by omega⟩ : Fin 32) = s := Fin.ext (by show 16 + (s.val - 16) = s.val; omega)
    rw [e]

/-- The scores across the halves. -/
theorem cross_apply (LG KK QQ : FVec Ideal S32x128 .f32) (x8 : Vec Ideal S32x32 .bf16)
    (hB : ∀ t k, k0_pay20 (F := Ideal) LG x8 (ix2 t k) = (bs L t k : EReal)) (t s : Fin 32) :
    k0_pay27 (F := Ideal) LG KK QQ x8 (ix2 t s) = X L (fun t k => QQ (ix2 t k)) (fun t k => KK (ix2 t k)) t s := by
  have hK := kend_apply L LG KK x8 hB
  unfold k0_pay27 X
  generalize k0_pay24 (F := Ideal) LG KK x8 = KE at hK ⊢
  generalize k0_pay20 (F := Ideal) LG x8 = BL at hB ⊢
  simp only [← hK, ← hB]
  pointwise []
  refine Finset.sum_congr rfl fun x _ => ?_
  rw [hK, ← hB, ← hB]
  by_cases h : t.val < 16
  · rw [dif_pos h]
  · rw [dif_neg h]
    have e : (⟨16 + (t.val - 16), by omega⟩ : Fin 32) = t := Fin.ext (by show 16 + (t.val - 16) = t.val; omega)
    rw [e]

/-- What a row gets from the half before it and from the state at the chunk's start. -/
theorem before_apply (QQ : FVec Ideal S32x128 .f32) (x2 : Vec Ideal S1x32x128 .f32) (B : FVec Ideal S32x128 .f32)
    (S : FVec Ideal S128x128 .f32) (P : FVec Ideal S32x32 .f32) (t : Fin 32) (d : Fin 128) :
    k0_pay28 (F := Ideal) QQ (k0_pay13 x2) B S k0_pay25 MASK P (ix2 t d)
      = (∑ s : Fin 32, (if t.val / 16 = s.val / 16 + 1 then P (ix2 t s) else 0) * k0_pay12 (F := Ideal) x2 (ix2 s d))
        + ∑ k : Fin 128, (QQ (ix2 t k) * Ideal.exp (B (ix2 t k))) * S (ix2 d k) := by
  have hM := mask_apply
  unfold k0_pay13
  generalize MASK = M at hM ⊢
  generalize k0_pay12 (F := Ideal) x2 = VV
  pointwise [k0_pay28, k0_pay25]
  refine congrArg (· + _) (Finset.sum_congr rfl fun s _ => ?_)
  rw [hM]
  by_cases h : t.val / 16 = s.val / 16 + 1
  · rw [if_pos h, if_pos h]
    rfl
  · rw [if_neg h, if_neg h, zero_mul]
    rfl

/-- What a row gets from the rows of its own half. -/
theorem own_apply (BL QQ KK VV : FVec Ideal S32x128 .f32) (w : Vec Ideal S128x128 .bf16)
    (hB : ∀ t k, BL (ix2 t k) = (bs L t k : EReal)) (hw : ∀ k d : Fin 128, (show EReal from w (ix2 k d)) = 1)
    (t : Fin 32) (d : Fin 128) :
    DG BL QQ KK VV w t d = ∑ s : Fin 16, D L (fun t k => QQ (ix2 t k)) (fun t k => KK (ix2 t k)) t ⟨16 * (t.val / 16) + s.val, by omega⟩
      * VV (ix2 ⟨16 * (t.val / 16) + s.val, by omega⟩ d) := by
  have ht := t.isLt
  unfold DG
  split
  · rename_i h
    unfold ROWV
    refine Finset.sum_congr rfl fun s _ => ?_
    have hs := s.isLt
    have es : (⟨16 * (t.val / 16) + s.val, by omega⟩ : Fin 32) = ⟨s.val, by omega⟩ := Fin.ext (by show 16 * (t.val / 16) + s.val = s.val; omega)
    rw [es]
    have ev : k0_pay32 (F := Ideal) VV (ix2 s d) = VV (ix2 ⟨s.val, by omega⟩ d) := by pointwise [k0_pay32]
    refine congrArg₂ (· * ·) ?_ ev
    refine (ZS_apply _ w ⟨t.val, h⟩ s d).trans ?_
    unfold D
    refine Finset.sum_congr rfl fun k _ => ?_
    rw [show w (ix2 k d) = (1 : EReal) from hw k d, ← hB, ← hB]
    unfold Z
    have eb : ∀ r : Fin 16, k0_pay29 (F := Ideal) BL (ix2 r k) = BL (ix2 ⟨r.val, by omega⟩ k) := fun r => by pointwise [k0_pay29]
    have eq : ∀ r : Fin 16, k0_pay30 (F := Ideal) QQ (ix2 r k) = QQ (ix2 ⟨r.val, by omega⟩ k) := fun r => by pointwise [k0_pay30]
    have ek : ∀ r : Fin 16, k0_pay31 (F := Ideal) KK (ix2 r k) = KK (ix2 ⟨r.val, by omega⟩ k) := fun r => by pointwise [k0_pay31]
    show k0_pay30 (F := Ideal) QQ (ix2 ⟨t.val, h⟩ k) * k0_pay31 (F := Ideal) KK (ix2 s k) * Ideal.exp (if s.val ≤ t.val then
      k0_pay29 (F := Ideal) BL (ix2 ⟨t.val, h⟩ k) - k0_pay29 (F := Ideal) BL (ix2 s k) else ⊥) * 1 = _
    rw [eb, eb, eq, ek, mul_one]
  · rename_i h
    unfold ROWV
    refine Finset.sum_congr rfl fun s _ => ?_
    have hs := s.isLt
    have es : (⟨16 * (t.val / 16) + s.val, by omega⟩ : Fin 32) = ⟨16 + s.val, by omega⟩ := Fin.ext (by show 16 * (t.val / 16) + s.val = 16 + s.val; omega)
    have et : (⟨16 + (t.val - 16), by omega⟩ : Fin 32) = t := Fin.ext (by show 16 + (t.val - 16) = t.val; omega)
    rw [es]
    have ev : k0_pay75 (F := Ideal) VV (ix2 s d) = VV (ix2 ⟨16 + s.val, by omega⟩ d) := by pointwise [k0_pay75]
    refine congrArg₂ (· * ·) ?_ ev
    refine (ZS_apply _ w ⟨t.val - 16, by omega⟩ s d).trans ?_
    unfold D
    refine Finset.sum_congr rfl fun k _ => ?_
    rw [show w (ix2 k d) = (1 : EReal) from hw k d, ← hB, ← hB]
    unfold Z
    have eb : ∀ r : Fin 16, k0_pay72 (F := Ideal) BL (ix2 r k) = BL (ix2 ⟨16 + r.val, by omega⟩ k) := fun r => by pointwise [k0_pay72]
    have eq : ∀ r : Fin 16, k0_pay73 (F := Ideal) QQ (ix2 r k) = QQ (ix2 ⟨16 + r.val, by omega⟩ k) := fun r => by pointwise [k0_pay73]
    have ek : ∀ r : Fin 16, k0_pay74 (F := Ideal) KK (ix2 r k) = KK (ix2 ⟨16 + r.val, by omega⟩ k) := fun r => by pointwise [k0_pay74]
    show k0_pay73 (F := Ideal) QQ (ix2 ⟨t.val - 16, by omega⟩ k) * k0_pay74 (F := Ideal) KK (ix2 s k) * Ideal.exp (if s.val ≤ t.val - 16 then
      k0_pay72 (F := Ideal) BL (ix2 ⟨t.val - 16, by omega⟩ k) - k0_pay72 (F := Ideal) BL (ix2 s k) else ⊥) * 1 = _
    rw [eb, eb, eq, ek, mul_one, et]
    have ec : (s.val ≤ t.val - 16) = (16 + s.val ≤ t.val) := propext (by omega)
    simp only [ec]

/-- The state at the chunk's end. -/
theorem state_apply (S : FVec Ideal S128x128 .f32) (x2 : Vec Ideal S1x32x128 .f32) (KE : FVec Ideal S32x128 .f32) (B : FVec Ideal S1x128 .f32)
    (tot : FVec Ideal S1x128 .f32) (d k : Fin 128) :
    k0_pay108 (F := Ideal) (k0_pay12 x2) S (k0_pay106 tot KE) (k0_pay107 B) (ix4 0 0 d k)
      = S (ix2 d k) * Ideal.exp (B (ix2 0 k))
        + ∑ s : Fin 32, k0_pay12 (F := Ideal) x2 (ix2 s d) * (KE (ix2 s k) * Ideal.exp (if s.val < 16 then 0 + tot (ix2 0 k) else 0)) := by
  generalize k0_pay12 (F := Ideal) x2 = VV
  pointwise [k0_pay108, k0_pay106, k0_pay107]

/-- The chunk's rows before the norm, over the blocks. -/
abbrev ROWS (x0 x1 x2 : Vec Ideal S1x32x128 .f32) (x4 : Vec Ideal S1x128 .f32) (x6 : Vec Ideal S1x1x128x128 .f32)
    (x7 x8 : Vec Ideal S32x32 .bf16) (x9 : Vec Ideal S128x128 .bf16) : FVec Ideal S32x128 .f32 :=
  OUT (k0_pay28 (k0_pay11 x1) (k0_pay13 x2) (k0_pay19 x7 (k0_pay16 (k0_pay3 x4) x0) (k0_pay17 (k0_pay3 x4) x0) (k0_pay18 (k0_pay3 x4) x0 x7))
      (k0_pay23 x6) k0_pay25 MASK (k0_pay27 (k0_pay9 (k0_pay3 x4) x0) (k0_pay10 (k0_pay3 x4) x0) (k0_pay11 x1) x8))
    (k0_pay20 (k0_pay9 (k0_pay3 x4) x0) x8) (k0_pay11 x1) (k0_pay10 (k0_pay3 x4) x0) (k0_pay12 x2) x9

/-- The chunk's normed and gated rows, over the blocks. -/
abbrev K10 (x0 x1 x2 x3 : Vec Ideal S1x32x128 .f32) (x4 x5 : Vec Ideal S1x128 .f32) (x6 : Vec Ideal S1x1x128x128 .f32)
    (x7 x8 : Vec Ideal S32x32 .bf16) (x9 : Vec Ideal S128x128 .bf16) : FVec Ideal S1x32x128 .bf16 :=
  k0_pay1 (k0_pay109 (ROWS x0 x1 x2 x4 x6 x7 x8 x9) x5 x3)

/-- The state at the chunk's end, over the blocks. -/
abbrev K11 (x0 x2 : Vec Ideal S1x32x128 .f32) (x4 : Vec Ideal S1x128 .f32) (x6 : Vec Ideal S1x1x128x128 .f32)
    (x7 x8 : Vec Ideal S32x32 .bf16) : FVec Ideal S1x1x128x128 .f32 :=
  k0_pay108 (k0_pay12 x2) (k0_pay23 x6)
    (k0_pay106 (k0_pay21 (k0_pay9 (k0_pay3 x4) x0) x8) (k0_pay24 (k0_pay9 (k0_pay3 x4) x0) (k0_pay10 (k0_pay3 x4) x0) x8))
    (k0_pay107 (k0_pay22 x7 (k0_pay16 (k0_pay3 x4) x0) (k0_pay17 (k0_pay3 x4) x0) (k0_pay18 (k0_pay3 x4) x0 x7)))

section over_blocks

variable (x0 x1 x2 x3 : Vec Ideal S1x32x128 .f32) (x4 x5 : Vec Ideal S1x128 .f32) (x6 : Vec Ideal S1x1x128x128 .f32)
  (x7 x8 : Vec Ideal S32x32 .bf16) (x9 : Vec Ideal S128x128 .bf16)
  (hL : ∀ s k, k0_pay9 (F := Ideal) (k0_pay3 x4) x0 (ix2 s k) = (L s k : EReal))
  (h7 : ∀ t s : Fin 32, (show EReal from x7 (ix2 t s)) = if s.val ≤ t.val then 1 else 0)
  (h8 : ∀ t s : Fin 32, (show EReal from x8 (ix2 t s)) = if s.val ≤ t.val ∧ s.val / 16 = t.val / 16 then 1 else 0)
  (h9 : ∀ k d : Fin 128, (show EReal from x9 (ix2 k d)) = 1)

include hL h7 h8 h9 in
/-- A row is what the state gives it and what the rows up to it give it. -/
theorem rows_apply (t : Fin 32) (d : Fin 128) :
    ROWS x0 x1 x2 x4 x6 x7 x8 x9 (ix2 t d)
      = (∑ k : Fin 128, (k0_pay11 (F := Ideal) x1 (ix2 t k) * Ideal.exp (cs L t k : EReal)) * k0_pay23 (F := Ideal) x6 (ix2 d k))
        + ∑ s : Fin 32, W L (fun t k => k0_pay11 (F := Ideal) x1 (ix2 t k)) (fun t k => k0_pay10 (F := Ideal) (k0_pay3 x4) x0 (ix2 t k)) t s
          * k0_pay12 (F := Ideal) x2 (ix2 s d) := by
  have hB := bl_apply L _ x8 hL h8
  refine (OUT_apply _ _ _ _ _ x9 t d).trans ?_
  rw [scores, before_apply, own_apply L _ _ _ _ x9 hB h9]
  simp only [cross_apply L _ _ _ x8 hB, b_apply L _ x0 x7 hL h7]
  rw [add_comm (∑ s : Fin 32, _) (∑ k : Fin 128, _), add_assoc]

include hL h7 h8 in
/-- The state at the chunk's end. -/
theorem end_apply (d k : Fin 128) :
    K11 x0 x2 x4 x6 x7 x8 (ix4 0 0 d k)
      = k0_pay23 (F := Ideal) x6 (ix2 d k) * Ideal.exp (cs L 31 k : EReal)
        + ∑ s : Fin 32, k0_pay12 (F := Ideal) x2 (ix2 s d)
          * (k0_pay10 (F := Ideal) (k0_pay3 x4) x0 (ix2 s k) * Ideal.exp ((cs L 31 k : EReal) - (cs L s k : EReal))) := by
  have hB := bl_apply L _ x8 hL h8
  have e1 : k0_pay21 (F := Ideal) (k0_pay9 (k0_pay3 x4) x0) x8 (ix2 0 k) = (bs L 31 k : EReal) := by
    rw [← hB]
    unfold k0_pay21
    generalize k0_pay20 (F := Ideal) _ _ = BL
    pointwise []
  have e2 : k0_pay22 (F := Ideal) x7 (k0_pay16 (k0_pay3 x4) x0) (k0_pay17 (k0_pay3 x4) x0) (k0_pay18 (k0_pay3 x4) x0 x7) (ix2 0 k)
      = (cs L 31 k : EReal) := by
    rw [← b_apply L _ x0 x7 hL h7]
    unfold k0_pay22
    generalize k0_pay19 (F := Ideal) _ _ _ _ = BL
    pointwise []
  refine (state_apply _ _ _ _ _ d k).trans ?_
  rw [e1, e2]
  simp only [kend_apply L _ _ x8 hB, carry]

end over_blocks

section tiles

variable (m : (ℓ : Loc nD τ sig) → Buf (Elt Ideal) ℓ) (c : Dev nD)

/-- What a grid point stores in the state block. -/
theorem tile11 (t : Fin cfg0.N) : (outsAt0 m c t).2
    = K11 (iblk m c 0 t) (iblk m c 2 t) (iblk m c 4 t) (k0_pay2 (F := Ideal) (iblk m c 6 t)) (iblk m c 7 t) (iblk m c 8 t) := by
  have e3 : ∀ x : Vec Ideal S1x128 .f32, k0_pay3 (F := Ideal) x = shapeCast S1x128 x shapeCasts_S1x128_S1x128 := fun _ => rfl
  have e2 : ∀ x : Vec Ideal S1x1x128x128 .f32, k0_pay2 (F := Ideal) x = shapeCast S1x1x128x128 x shapeCasts_S1x1x128x128_S1x1x128x128 := fun _ => rfl
  simp only [K11, e3, e2]
  unfold outsAt0
  dsimp only
  frame_out

/-- What a grid point stores in the output block. -/
theorem tile10 (t : Fin cfg0.N) : (outsAt0 m c t).1
    = K10 (iblk m c 0 t) (iblk m c 1 t) (iblk m c 2 t) (iblk m c 3 t) (iblk m c 4 t) (iblk m c 5 t) (k0_pay2 (F := Ideal) (iblk m c 6 t))
        (iblk m c 7 t) (iblk m c 8 t) (iblk m c 9 t) := by
  have e3 : ∀ x : Vec Ideal S1x128 .f32, k0_pay3 (F := Ideal) x = shapeCast S1x128 x shapeCasts_S1x128_S1x128 := fun _ => rfl
  have e2 : ∀ x : Vec Ideal S1x1x128x128 .f32, k0_pay2 (F := Ideal) x = shapeCast S1x1x128x128 x shapeCasts_S1x1x128x128_S1x1x128x128 := fun _ => rfl
  simp only [K10, ROWS, OUT, MASK, e3, e2]
  unfold outsAt0
  dsimp only
  frame_out
  refine congrArg (k0_pay1 (F:=Ideal)) (congrArg (fun o => k0_pay109 (F := Ideal) o _ _) ?_)
  congr 1

end tiles

end Cert.KernelIdeal.Rec

end
-- ==== Proof.RecSum.lean ====
module

public import proofs.«01_k».proof.Proof.Gen.ReferenceIdeal.Run
public import Idealize.ShloMosaic.Lib.Pipeline.ValueKit

@[expose] public section

set_option maxRecDepth 16384

/-! The running sums of the recurrence's reference: a windowed sum, read at an index, is a sum over the earlier rows. -/

noncomputable section

namespace Cert.ReferenceIdeal.Rec

open Idealize.ShloMosaic Cert.ReferenceIdeal Cert.ReferenceIdeal.Gen

/-- A left fold of additions is a sum. -/
theorem fold_sum (n : ℕ) (f : Fin n → EReal) (v : EReal) :
    (List.finRange n).foldl (fun r k => r + f k) v = v + ∑ k, f k := by
  have gen : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [gen, ← List.ofFn_eq_map, List.sum_ofFn]

/-- The window's positions over the 32 rows. -/
theorem win32 : ∀ n : Fin 32, ∀ a : Fin S8x8x32x128.rank,
    (((⟨S8x8x32x128.rank, ![1, 1, 32, 1]⟩ : Shape).rowMajor.symm n) a).val = if a.val = 2 then n.val else 0 := by
  decide +kernel

/-- The running sum over the rows of a chunk. -/
theorem cum32 (x : FVec Ideal S8x8x32x128 .f32) (b h : Fin 8) (t : Fin 32) (d : Fin 128) :
    Host.reduceWindowAdd ![1, 1, 32, 1] ![1, 1, 1, 1] ![0, 0, 31, 0] ![0, 0, 0, 0] x (broadcastInDim S_ ![] bcast_S_S_ (constant S_ .f32 0x00000000#32))
      reduceWindows_S8x8x32x128_S8x8x32x128_w1s1p0_0_w1s1p0_0_w32s1p31_0_w1s1p0_0 h_S_ (ix4 b h t d)
      = ∑ s : Fin 32, if s.val ≤ t.val then x (ix4 b h s d) else 0 := by
  have ev : (broadcastInDim S_ ![] bcast_S_S_ (constant (F := Ideal) S_ .f32 0x00000000#32)) (Shape.Idx.first h_S_) = (0 : EReal) := Ideal.ofBits_zero_f32
  unfold Host.reduceWindowAdd
  simp only [Ideal.hostReduceWindowAdd_def]
  unfold Ideal.hostReduceWindowAdd
  rw [ev]
  unfold Host.reduceWindow
  refine (fold_sum (⟨4, ![1, 1, 32, 1]⟩ : Shape).numel _ _).trans ?_
  rw [zero_add]
  refine Eq.trans ?_ (Equiv.sum_comp (Equiv.addRight (⟨(t.val + 1) % 32, by omega⟩ : Fin 32)) _)
  refine Finset.sum_congr rfl fun n _ => ?_
  have hn : n.val < 32 := n.isLt
  have ht := t.isLt
  have hr : ((Equiv.addRight (⟨(t.val + 1) % 32, by omega⟩ : Fin 32)) n).val = (n.val + (t.val + 1) % 32) % 32 := rfl
  generalize (Equiv.addRight (⟨(t.val + 1) % 32, by omega⟩ : Fin 32)) n = r at hr ⊢
  have w0 := (win32 n 0).trans (if_neg (by decide))
  have w1 := (win32 n 1).trans (if_neg (by decide))
  have w2 := (win32 n 2).trans (if_pos (by decide))
  have w3 := (win32 n 3).trans (if_neg (by decide))
  by_cases hc : 31 ≤ t.val + n.val
  · rw [if_pos (by omega)]
    refine (dif_pos ?_).trans (congrArg x ?_)
    · intro a
      match a with
      | ⟨0, _⟩ => exact ⟨Nat.zero_le _, by show b.val * 1 + (((⟨S8x8x32x128.rank, ![1, 1, 32, 1]⟩ : Shape).rowMajor.symm n) 0).val - 0 < 8; omega⟩
      | ⟨1, _⟩ => exact ⟨Nat.zero_le _, by show h.val * 1 + (((⟨S8x8x32x128.rank, ![1, 1, 32, 1]⟩ : Shape).rowMajor.symm n) 1).val - 0 < 8; omega⟩
      | ⟨2, _⟩ => exact ⟨by show 31 ≤ t.val * 1 + (((⟨S8x8x32x128.rank, ![1, 1, 32, 1]⟩ : Shape).rowMajor.symm n) 2).val; omega,
          by show t.val * 1 + (((⟨S8x8x32x128.rank, ![1, 1, 32, 1]⟩ : Shape).rowMajor.symm n) 2).val - 31 < 32; omega⟩
      | ⟨3, _⟩ => exact ⟨Nat.zero_le _, by show d.val * 1 + (((⟨S8x8x32x128.rank, ![1, 1, 32, 1]⟩ : Shape).rowMajor.symm n) 3).val - 0 < 128; omega⟩
    · funext a
      match a with
      | ⟨0, _⟩ => exact Fin.ext (by show b.val * 1 + (((⟨S8x8x32x128.rank, ![1, 1, 32, 1]⟩ : Shape).rowMajor.symm n) 0).val - 0 = b.val; omega)
      | ⟨1, _⟩ => exact Fin.ext (by show h.val * 1 + (((⟨S8x8x32x128.rank, ![1, 1, 32, 1]⟩ : Shape).rowMajor.symm n) 1).val - 0 = h.val; omega)
      | ⟨2, _⟩ => exact Fin.ext (by show t.val * 1 + (((⟨S8x8x32x128.rank, ![1, 1, 32, 1]⟩ : Shape).rowMajor.symm n) 2).val - 31 = r.val; omega)
      | ⟨3, _⟩ => exact Fin.ext (by show d.val * 1 + (((⟨S8x8x32x128.rank, ![1, 1, 32, 1]⟩ : Shape).rowMajor.symm n) 3).val - 0 = d.val; omega)
  · rw [if_neg (by omega)]
    refine dif_neg fun hin => ?_
    have h2 : 31 ≤ t.val * 1 + (((⟨S8x8x32x128.rank, ![1, 1, 32, 1]⟩ : Shape).rowMajor.symm n) 2).val := (hin 2).1
    omega

/-- The window's positions over the two rows. -/
theorem win2 : ∀ n : Fin 2, ∀ a : Fin S2x1024.rank,
    (((⟨S2x1024.rank, ![2, 1]⟩ : Shape).rowMajor.symm n) a).val = if a.val = 0 then n.val else 0 := by
  decide +kernel

/-- The running sum's first row is the first row. -/
theorem cum2 (x : FVec Ideal S2x1024 .f32) (d : Fin 1024) :
    Host.reduceWindowAdd ![2, 1] ![1, 1] ![1, 0] ![0, 0] x (broadcastInDim S_ ![] bcast_S_S_ (constant S_ .f32 0x00000000#32))
      reduceWindows_S2x1024_S2x1024_w2s1p1_0_w1s1p0_0 h_S_ (ix2 0 d) = x (ix2 0 d) := by
  have ev : (broadcastInDim S_ ![] bcast_S_S_ (constant (F := Ideal) S_ .f32 0x00000000#32)) (Shape.Idx.first h_S_) = (0 : EReal) := Ideal.ofBits_zero_f32
  unfold Host.reduceWindowAdd
  simp only [Ideal.hostReduceWindowAdd_def]
  unfold Ideal.hostReduceWindowAdd
  rw [ev]
  unfold Host.reduceWindow
  refine (fold_sum (⟨2, ![2, 1]⟩ : Shape).numel _ _).trans ?_
  rw [zero_add]
  refine (Fin.sum_univ_two _).trans ?_
  have a0 := (win2 0 0).trans (if_pos (by decide))
  have b0 := (win2 1 0).trans (if_pos (by decide))
  have b1 := (win2 1 1).trans (if_neg (by decide))
  have e0 : ((0 : Fin 2)).val = 0 := rfl
  have e1 : ((1 : Fin 2)).val = 1 := rfl
  refine (congrArg₂ (· + ·) (dif_neg fun hin => ?_) ((dif_pos ?_).trans (congrArg x ?_))).trans (zero_add _)
  · have h2 : 1 ≤ 0 * 1 + (((⟨S2x1024.rank, ![2, 1]⟩ : Shape).rowMajor.symm (0 : Fin 2)) 0).val := (hin 0).1
    omega
  · intro a
    match a with
    | ⟨0, _⟩ => exact ⟨by show 1 ≤ 0 * 1 + (((⟨S2x1024.rank, ![2, 1]⟩ : Shape).rowMajor.symm (1 : Fin 2)) 0).val; omega,
        by show 0 * 1 + (((⟨S2x1024.rank, ![2, 1]⟩ : Shape).rowMajor.symm (1 : Fin 2)) 0).val - 1 < 2; omega⟩
    | ⟨1, _⟩ => exact ⟨Nat.zero_le _, by show d.val * 1 + (((⟨S2x1024.rank, ![2, 1]⟩ : Shape).rowMajor.symm (1 : Fin 2)) 1).val - 0 < 1024; omega⟩
  · funext a
    match a with
    | ⟨0, _⟩ => exact Fin.ext (by show 0 * 1 + (((⟨S2x1024.rank, ![2, 1]⟩ : Shape).rowMajor.symm (1 : Fin 2)) 0).val - 1 = 0; omega)
    | ⟨1, _⟩ => exact Fin.ext (by show d.val * 1 + (((⟨S2x1024.rank, ![2, 1]⟩ : Shape).rowMajor.symm (1 : Fin 2)) 1).val - 0 = d.val; omega)

end Cert.ReferenceIdeal.Rec

end
-- ==== Proof.RecRef.lean ====
module

public import proofs.«01_k».proof.Proof.RecSum
public import proofs.«01_k».proof.Proof.RecMath

@[expose] public section

set_option maxRecDepth 16384

/-! The recurrence's reference, in stages over its argument arrays, and each stage read at an index. -/

noncomputable section

namespace Cert.ReferenceIdeal.Rec

open Idealize.ShloMosaic Idealize.SL.Sem Cert.ReferenceIdeal Cert.ReferenceIdeal.Gen Cert.RecMath

/-- The two rows' exponentials after their maximum is taken off. -/
def EXPS (a1 : FVec Ideal S2x1024 .f32) : FVec Ideal S2x1024 .f32 :=
  Host.exp (subf a1 (broadcastInDim S2x1024 ![0, 1] bcast_S1x1024_S2x1024_0_1 (broadcastInDim S1x1024 ![1] bcast_S1024_S1x1024_1
    (maximumf (broadcastInDim S1024 ![] bcast_S_S1024 (constant S_ .f32 0xFF800000#32))
      (Host.reduce FloatOps.maximumf a1 (constant S_ .f32 0xFF800000#32) reducesTo_S2x1024_S1024_d0 h_S_)))))

/-- The lower bounds of the forget gates. -/
def LOW (a1 : FVec Ideal S2x1024 .f32) : FVec Ideal S1024 .f32 :=
  shapeCast _ (extractStridedSlice S1x1024 ![0, 0] (Host.reduceWindowAdd ![2, 1] ![1, 1] ![1, 0] ![0, 0]
    (Host.divf (EXPS a1) (broadcastInDim S2x1024 ![0, 1] bcast_S1x1024_S2x1024_0_1 (broadcastInDim S1x1024 ![1] bcast_S1024_S1x1024_1
      (Host.reduceAdd (EXPS a1) (constant S_ .f32 0x00000000#32) reducesTo_S2x1024_S1024_d0 h_S_))))
    (broadcastInDim S_ ![] bcast_S_S_ (constant S_ .f32 0x00000000#32)) reduceWindows_S2x1024_S2x1024_w2s1p1_0_w1s1p0_0 h_S_)
    slices_S2x1024_S1x1024_0_0) shapeCasts_S1x1024_S1024

/-- The logistic function of an array. -/
def SIG (x : FVec Ideal S8x32x1024 .f32) : FVec Ideal S8x32x1024 .f32 :=
  Host.divf (broadcastInDim S8x32x1024 ![] bcast_S_S8x32x1024 (constant S_ .f32 0x3F800000#32))
    (addf (broadcastInDim S8x32x1024 ![] bcast_S_S8x32x1024 (constant S_ .f32 0x3F800000#32)) (Host.exp (Host.negf x)))

/-- Every head's rows. -/
def HEADS (x : FVec Ideal S8x32x1024 .f32) : FVec Ideal S8x8x32x128 .f32 :=
  transpose S8x8x32x128 [0, 2, 1, 3] (shapeCast _ x shapeCasts_S8x32x1024_S8x32x8x128) transposes_S8x32x8x128_S8x8x32x128_0_2_1_3

/-- The forget gates. -/
def GATE (a0 : FVec Ideal S8x32x4096 .f32) (lb : FVec Ideal S1024 .f32) : FVec Ideal S8x32x1024 .f32 :=
  addf (broadcastInDim S8x32x1024 ![0, 1, 2] bcast_S1x1x1024_S8x32x1024_0_1_2 (broadcastInDim S1x1x1024 ![2] bcast_S1024_S1x1x1024_2 lb))
    (mulf (broadcastInDim S8x32x1024 ![0, 1, 2] bcast_S1x1x1024_S8x32x1024_0_1_2 (broadcastInDim S1x1x1024 ![2] bcast_S1024_S1x1x1024_2
        (subf (broadcastInDim S1024 ![] bcast_S_S1024 (constant S_ .f32 0x3F800000#32)) lb)))
      (SIG (extractStridedSlice S8x32x1024 ![0, 0, 0] a0 slices_S8x32x4096_S8x32x1024_0_0_0)))

/-- The log-decays of every head. -/
def LOGF (g : FVec Ideal S8x32x1024 .f32) : FVec Ideal S8x8x32x128 .f32 := HEADS (Host.log g)

/-- The keys of every head. -/
def KEYS (g : FVec Ideal S8x32x1024 .f32) : FVec Ideal S8x8x32x128 .f32 :=
  HEADS (subf (broadcastInDim S8x32x1024 ![] bcast_S_S8x32x1024 (constant S_ .f32 0x3F800000#32)) g)

/-- The queries of every head. -/
def QRS (a0 : FVec Ideal S8x32x4096 .f32) : FVec Ideal S8x8x32x128 .f32 :=
  HEADS (mulf (extractStridedSlice S8x32x1024 ![0, 0, 1024] a0 slices_S8x32x4096_S8x32x1024_0_0_1024)
    (SIG (extractStridedSlice S8x32x1024 ![0, 0, 1024] a0 slices_S8x32x4096_S8x32x1024_0_0_1024)))

/-- The values of every head. -/
def VALS (a0 : FVec Ideal S8x32x4096 .f32) : FVec Ideal S8x8x32x128 .f32 :=
  HEADS (extractStridedSlice S8x32x1024 ![0, 0, 2048] a0 slices_S8x32x4096_S8x32x1024_0_0_2048)

/-- The log-decays summed over the rows. -/
def CUM (lf : FVec Ideal S8x8x32x128 .f32) : FVec Ideal S8x8x32x128 .f32 :=
  Host.reduceWindowAdd ![1, 1, 32, 1] ![1, 1, 1, 1] ![0, 0, 31, 0] ![0, 0, 0, 0] lf (broadcastInDim S_ ![] bcast_S_S_ (constant S_ .f32 0x00000000#32))
    reduceWindows_S8x8x32x128_S8x8x32x128_w1s1p0_0_w1s1p0_0_w32s1p31_0_w1s1p0_0 h_S_

/-- Which row may see which. -/
def CAUSAL : IVec S32x32 1 :=
  select (cmpi .sge (addi (iotaInDim S32x32 32 0) (broadcastInDim S32x32 ![] bcast_S_S32x32 (constantI S_ 32 0#32))) (iotaInDim S32x32 32 1))
    (broadcastInDim S32x32 ![] bcast_S_S32x32 (constantI S_ 1 1#1)) (broadcastInDim S32x32 ![] bcast_S_S32x32 (constantI S_ 1 0#1))

/-- The scores within the chunk. -/
def SCORES (q k b : FVec Ideal S8x8x32x128 .f32) : FVec Ideal S8x8x32x32 .f32 :=
  Host.reduceAdd (mulf (mulf
      (broadcastInDim S8x8x32x32x128 ![0, 1, 2, 3, 4] bcast_S8x8x32x1x128_S8x8x32x32x128_0_1_2_3_4 (broadcastInDim S8x8x32x1x128 ![0, 1, 2, 4] bcast_S8x8x32x128_S8x8x32x1x128_0_1_2_4 q))
      (broadcastInDim S8x8x32x32x128 ![0, 1, 2, 3, 4] bcast_S8x8x1x32x128_S8x8x32x32x128_0_1_2_3_4 (broadcastInDim S8x8x1x32x128 ![0, 1, 3, 4] bcast_S8x8x32x128_S8x8x1x32x128_0_1_3_4 k)))
    (Host.exp (select (broadcastInDim S8x8x32x32x128 ![2, 3, 4] bcast_S32x32x1_S8x8x32x32x128_2_3_4 (broadcastInDim S32x32x1 ![0, 1] bcast_S32x32_S32x32x1_0_1 CAUSAL))
      (subf (broadcastInDim S8x8x32x32x128 ![0, 1, 2, 3, 4] bcast_S8x8x32x1x128_S8x8x32x32x128_0_1_2_3_4 (broadcastInDim S8x8x32x1x128 ![0, 1, 2, 4] bcast_S8x8x32x128_S8x8x32x1x128_0_1_2_4 b))
        (broadcastInDim S8x8x32x32x128 ![0, 1, 2, 3, 4] bcast_S8x8x1x32x128_S8x8x32x32x128_0_1_2_3_4 (broadcastInDim S8x8x1x32x128 ![0, 1, 3, 4] bcast_S8x8x32x128_S8x8x1x32x128_0_1_3_4 b)))
      (broadcastInDim S8x8x32x32x128 ![] bcast_S_S8x8x32x32x128 (id (constant S_ .f32 0xFF800000#32))))))
    (constant S_ .f32 0x00000000#32) reducesTo_S8x8x32x32x128_S8x8x32x32_d4 h_S_

/-- The rows before the norm. -/
def ROWS (q k v b : FVec Ideal S8x8x32x128 .f32) (S : FVec Ideal S8x8x128x128 .f32) : FVec Ideal S8x8x32x128 .f32 :=
  addf (Host.dotGeneral dot_S8x8x32x128_S8x8x128x128_S8x8x32x128_3_2_2_3_01_01 none (mulf q (Host.exp b)) S)
    (Host.dotGeneral dot_S8x8x32x32_S8x8x32x128_S8x8x32x128_3_2_2_3_01_01 none (SCORES q k b) v)

/-- The state at the chunk's end, transposed. -/
def STATE (k v b : FVec Ideal S8x8x32x128 .f32) (S : FVec Ideal S8x8x128x128 .f32) : FVec Ideal S8x8x128x128 .f32 :=
  transpose S8x8x128x128 [0, 1, 3, 2] (addf
    (mulf (broadcastInDim S8x8x128x128 ![0, 1, 2, 3] bcast_S8x8x128x1_S8x8x128x128_0_1_2_3 (broadcastInDim S8x8x128x1 ![0, 1, 2] bcast_S8x8x128_S8x8x128x1_0_1_2
        (Host.exp (shapeCast _ (extractStridedSlice S8x8x1x128 ![0, 0, 31, 0] b slices_S8x8x32x128_S8x8x1x128_0_0_31_0) shapeCasts_S8x8x1x128_S8x8x128)))) S)
    (Host.dotGeneral dot_S8x8x32x128_S8x8x32x128_S8x8x128x128_2_2_3_3_01_01 none
      (mulf k (Host.exp (subf (broadcastInDim S8x8x32x128 ![0, 1, 2, 3] bcast_S8x8x1x128_S8x8x32x128_0_1_2_3 (extractStridedSlice S8x8x1x128 ![0, 0, 31, 0] b slices_S8x8x32x128_S8x8x1x128_0_0_31_0)) b))) v))
    transposes_S8x8x128x128_S8x8x128x128_0_1_3_2

/-- The rows normed and gated. -/
def NORMED (o : FVec Ideal S8x8x32x128 .f32) (a0 : FVec Ideal S8x32x4096 .f32) (a2 : FVec Ideal S1x128 .f32) : FVec Ideal S8x32x1024 .bf16 :=
  truncf .bf16 (mulf (shapeCast _ (mulf (mulf (transpose S8x32x8x128 [0, 2, 1, 3] o transposes_S8x8x32x128_S8x32x8x128_0_2_1_3)
      (broadcastInDim S8x32x8x128 ![0, 1, 2, 3] bcast_S8x32x8x1_S8x32x8x128_0_1_2_3 (Host.rsqrt (addf
        (Host.divf (broadcastInDim S8x32x8x1 ![0, 1, 2] bcast_S8x32x8_S8x32x8x1_0_1_2
            (Host.reduceAdd (mulf (transpose S8x32x8x128 [0, 2, 1, 3] o transposes_S8x8x32x128_S8x32x8x128_0_2_1_3) (transpose S8x32x8x128 [0, 2, 1, 3] o transposes_S8x8x32x128_S8x32x8x128_0_2_1_3))
              (constant S_ .f32 0x00000000#32) reducesTo_S8x32x8x128_S8x32x8_d3 h_S_))
          (broadcastInDim S8x32x8x1 ![] bcast_S_S8x32x8x1 (constant S_ .f32 0x43000000#32)))
        (broadcastInDim S8x32x8x1 ![] bcast_S_S8x32x8x1 (constant S_ .f32 0x358637BD#32))))))
      (broadcastInDim S8x32x8x128 ![0, 1, 2, 3] bcast_S1x1x1x128_S8x32x8x128_0_1_2_3 (broadcastInDim S1x1x1x128 ![3] bcast_S128_S1x1x1x128_3 (shapeCast _ a2 shapeCasts_S1x128_S128))))
      shapeCasts_S8x32x8x128_S8x32x1024)
    (mulf (extractStridedSlice S8x32x1024 ![0, 0, 3072] a0 slices_S8x32x4096_S8x32x1024_0_0_3072)
      (SIG (extractStridedSlice S8x32x1024 ![0, 0, 3072] a0 slices_S8x32x4096_S8x32x1024_0_0_3072)))) bitsLt_bf16_f32

/-- The state array without its leading axis. -/
def ST0 (a3 : FVec Ideal S1x8x8x128x128 .f32) : FVec Ideal S8x8x128x128 .f32 := shapeCast _ a3 shapeCasts_S1x8x8x128x128_S8x8x128x128

/-- The first result over the argument arrays. -/
def REF0 (a0 : FVec Ideal S8x32x4096 .f32) (a1 : FVec Ideal S2x1024 .f32) (a2 : FVec Ideal S1x128 .f32) (a3 : FVec Ideal S1x8x8x128x128 .f32) :
    FVec Ideal S8x32x1024 .bf16 :=
  NORMED (ROWS (QRS a0) (KEYS (GATE a0 (LOW a1))) (VALS a0) (CUM (LOGF (GATE a0 (LOW a1)))) (ST0 a3)) a0 a2

/-- The second result over the argument arrays. -/
def REF1 (a0 : FVec Ideal S8x32x4096 .f32) (a1 : FVec Ideal S2x1024 .f32) (a3 : FVec Ideal S1x8x8x128x128 .f32) : FVec Ideal S8x8x128x128 .f32 :=
  STATE (KEYS (GATE a0 (LOW a1))) (VALS a0) (CUM (LOGF (GATE a0 (LOW a1)))) (ST0 a3)

section
variable (m : (ℓ : Loc nD τ sig) → Buf (Elt Ideal) ℓ) (c : Dev nD)

/-- The run's first result is the staged one. -/
theorem res0 : Value.res_main_v98 (F := Ideal) m c = REF0 (m ((c.tc : Thread nD τ).loc main_arg0)) (m ((c.tc : Thread nD τ).loc main_arg1)) (m ((c.tc : Thread nD τ).loc main_arg2)) (m ((c.tc : Thread nD τ).loc main_arg3)) := by
  simp only [REF0, NORMED, ROWS, QRS, KEYS, VALS, CUM, LOGF, GATE, LOW, EXPS, ST0, SCORES, SIG, HEADS, CAUSAL]
  unfold Value.res_main_v98
  rfl

/-- The run's second result is the staged one. -/
theorem res1 : Value.res_main_v99 (F := Ideal) m c = REF1 (m ((c.tc : Thread nD τ).loc main_arg0)) (m ((c.tc : Thread nD τ).loc main_arg1)) (m ((c.tc : Thread nD τ).loc main_arg3)) := by
  simp only [REF1, STATE, ROWS, QRS, KEYS, VALS, CUM, LOGF, GATE, LOW, EXPS, ST0, SCORES, SIG, HEADS, CAUSAL]
  unfold Value.res_main_v99
  rfl

end

/-- The least extended real, by its bits. -/
theorem neg_inf : Ideal.ofBits .f32 0xFF800000#32 = (⊥ : EReal) := by
  simp [Ideal.ofBits, Ideal.ieee]

/-- The logistic function at an index. -/
theorem sig_apply (x : FVec Ideal S8x32x1024 .f32) (j : S8x32x1024.Idx) : SIG x j = Ideal.logistic (x j) := by
  pointwise [SIG]
  unfold Ideal.logistic
  rfl

/-- A head's row read in the array. -/
theorem heads_apply (x : FVec Ideal S8x32x1024 .f32) (b h : Fin 8) (t : Fin 32) (d : Fin 128) :
    HEADS x (ix4 b h t d) = x (ix3 b t ⟨128 * h.val + d.val, by omega⟩) := by
  pointwise [HEADS]
  exact congrArg x (congrArg (ix3 b t) (Fin.ext (by show h.val * 128 + d.val = 128 * h.val + d.val; omega)))

/-- The causal mask at a pair of rows. -/
theorem causal_apply : ∀ t s : Fin 32, CAUSAL (ix2 t s) = if s.val ≤ t.val then 1#1 else 0#1 := by
  decide +kernel

/-- A forget gate. -/
theorem gate_apply (a0 : FVec Ideal S8x32x4096 .f32) (lb : FVec Ideal S1024 .f32) (b : Fin 8) (t : Fin 32) (e : Fin 1024) :
    GATE a0 lb (ix3 b t e) = lb (ix1 e) + (1 - lb (ix1 e)) * Ideal.logistic (a0 (ix3 b t ⟨e.val, by omega⟩)) := by
  have hs := sig_apply (extractStridedSlice S8x32x1024 ![0, 0, 0] a0 slices_S8x32x4096_S8x32x1024_0_0_0) (ix3 b t e)
  unfold GATE
  generalize SIG (extractStridedSlice S8x32x1024 ![0, 0, 0] a0 slices_S8x32x4096_S8x32x1024_0_0_0) = sg at hs ⊢
  pointwise []
  rw [hs]
  refine congrArg (fun z => lb (ix1 e) + (1 - lb (ix1 e)) * Ideal.logistic z) ?_
  pointwise []

/-- A query. -/
theorem qrs_apply (a0 : FVec Ideal S8x32x4096 .f32) (b h : Fin 8) (t : Fin 32) (d : Fin 128) :
    QRS a0 (ix4 b h t d) = a0 (ix3 b t ⟨1024 + (128 * h.val + d.val), by omega⟩) * Ideal.logistic (a0 (ix3 b t ⟨1024 + (128 * h.val + d.val), by omega⟩)) := by
  unfold QRS
  rw [heads_apply]
  refine (congrArg (_ * ·) (sig_apply _ _)).trans ?_
  pointwise []

/-- A key. -/
theorem keys_apply (g : FVec Ideal S8x32x1024 .f32) (b h : Fin 8) (t : Fin 32) (d : Fin 128) :
    KEYS g (ix4 b h t d) = 1 - g (ix3 b t ⟨128 * h.val + d.val, by omega⟩) := by
  unfold KEYS
  rw [heads_apply]
  pointwise []

/-- A log-decay. -/
theorem logf_apply (g : FVec Ideal S8x32x1024 .f32) (b h : Fin 8) (t : Fin 32) (d : Fin 128) :
    LOGF g (ix4 b h t d) = Ideal.log (g (ix3 b t ⟨128 * h.val + d.val, by omega⟩)) := by
  unfold LOGF
  rw [heads_apply]
  pointwise []

/-- A value. -/
theorem vals_apply (a0 : FVec Ideal S8x32x4096 .f32) (b h : Fin 8) (t : Fin 32) (d : Fin 128) :
    VALS a0 (ix4 b h t d) = a0 (ix3 b t ⟨2048 + (128 * h.val + d.val), by omega⟩) := by
  unfold VALS
  rw [heads_apply]
  pointwise []

/-- A normed and gated entry: of a head's row, a weight and a gate. -/
def NRM (o : Fin 128 → EReal) (g x : EReal) (d : Fin 128) : EReal :=
  o d * Ideal.rsqrt (Ideal.div (∑ k : Fin 128, o k * o k) (Ideal.ofBits .f32 0x43000000#32) + Ideal.ofBits .f32 0x358637BD#32) * g * (x * Ideal.logistic x)

/-- The normed and gated rows at an index. -/
theorem normed_apply (o : FVec Ideal S8x8x32x128 .f32) (a0 : FVec Ideal S8x32x4096 .f32) (a2 : FVec Ideal S1x128 .f32) (b : Fin 8) (t : Fin 32) (e : Fin 1024) :
    NORMED o a0 a2 (ix3 b t e) = NRM (fun k => o (ix4 b ⟨e.val / 128, by omega⟩ t k)) (a2 (ix2 0 ⟨e.val % 128, by omega⟩)) (a0 (ix3 b t ⟨3072 + e.val, by omega⟩)) ⟨e.val % 128, by omega⟩ := by
  have hs := sig_apply (extractStridedSlice S8x32x1024 ![0, 0, 3072] a0 slices_S8x32x4096_S8x32x1024_0_0_3072) (ix3 b t e)
  have hx : extractStridedSlice S8x32x1024 ![0, 0, 3072] a0 slices_S8x32x4096_S8x32x1024_0_0_3072 (ix3 b t e) = a0 (ix3 b t ⟨3072 + e.val, by omega⟩) := by
    pointwise []
  rw [hx] at hs
  unfold NORMED NRM
  rw [← hs]
  generalize SIG (extractStridedSlice S8x32x1024 ![0, 0, 3072] a0 slices_S8x32x4096_S8x32x1024_0_0_3072) = sg
  pointwise []

/-- A row is what the state gives it and what the rows up to it give it. -/
theorem rows_apply (q k v b : FVec Ideal S8x8x32x128 .f32) (S : FVec Ideal S8x8x128x128 .f32) (i h : Fin 8) (t : Fin 32) (d : Fin 128) :
    ROWS q k v b S (ix4 i h t d) = (∑ e : Fin 128, (q (ix4 i h t e) * Ideal.exp (b (ix4 i h t e))) * S (ix4 i h e d))
      + ∑ s : Fin 32, (∑ e : Fin 128, q (ix4 i h t e) * k (ix4 i h s e) * Ideal.exp (if s.val ≤ t.val then b (ix4 i h t e) - b (ix4 i h s e) else ⊥))
        * v (ix4 i h s d) := by
  have hc := causal_apply
  unfold ROWS SCORES
  generalize CAUSAL = C at hc ⊢
  pointwise []
  refine congrArg (_ + ·) (Finset.sum_congr rfl fun s _ => congrArg (· * _) (Finset.sum_congr rfl fun e _ => ?_))
  rw [hc]
  have hb : (id (constant (F := Ideal) S_ .f32 0xFF800000#32) : FVec Ideal S_ .f32) ix0 = (⊥ : EReal) := neg_inf
  by_cases hs : s.val ≤ t.val
  · rw [if_pos hs, if_pos hs]
    rfl
  · rw [if_neg hs, if_neg hs, hb]
    rfl

/-- The state at the chunk's end, at an index. -/
theorem state_apply (k v b : FVec Ideal S8x8x32x128 .f32) (S : FVec Ideal S8x8x128x128 .f32) (i h : Fin 8) (d e : Fin 128) :
    STATE k v b S (ix4 i h d e) = Ideal.exp (b (ix4 i h 31 e)) * S (ix4 i h e d)
      + ∑ s : Fin 32, (k (ix4 i h s e) * Ideal.exp (b (ix4 i h 31 e) - b (ix4 i h s e))) * v (ix4 i h s d) := by
  pointwise [STATE]

/-- An exponential after the maximum is taken off. -/
theorem exps_apply (a1 : FVec Ideal S2x1024 .f32) (r : Fin 2) (d : Fin 1024) :
    EXPS a1 (ix2 r d) = Ideal.exp (a1 (ix2 r d) - max ⊥ (max (a1 (ix2 0 d)) (a1 (ix2 1 d)))) := by
  pointwise [EXPS]
  rw [show (Finset.univ : Finset (Fin 2)) = {0, 1} from rfl, Finset.fold_insert (by decide), Finset.fold_singleton, neg_inf]
  simp only [bot_le, max_eq_left, max_eq_right]

/-- A lower bound is the first row's share of the two exponentials. -/
theorem low_apply (a1 : FVec Ideal S2x1024 .f32) (d : Fin 1024) :
    LOW a1 (ix1 d) = Ideal.div (EXPS a1 (ix2 0 d)) (EXPS a1 (ix2 0 d) + EXPS a1 (ix2 1 d)) := by
  unfold LOW
  generalize EXPS a1 = E
  pointwise []
  rw [cum2]
  pointwise []
  exact congrArg _ (Fin.sum_univ_two _)

/-- Where the raw bounds are finite, a lower bound lies strictly between nought and one. -/
theorem low_share (a1 : FVec Ideal S2x1024 .f32) (hf : ∀ (r : Fin 2) (d : Fin 1024), ∃ x : ℝ, a1 (ix2 r d) = (x : EReal)) (d : Fin 1024) :
    ∃ p : ℝ, 0 < p ∧ p < 1 ∧ LOW a1 (ix1 d) = (p : EReal) := by
  obtain ⟨x, hx⟩ := hf 0 d
  obtain ⟨y, hy⟩ := hf 1 d
  rw [low_apply, exps_apply, exps_apply, hx, hy]
  have hm : max ⊥ (max (x : EReal) (y : EReal)) = ((max x y : ℝ) : EReal) := by
    rw [max_eq_right bot_le]
    exact (EReal.coe_strictMono.monotone.map_max).symm
  rw [hm]
  exact share x y (max x y)

end Cert.ReferenceIdeal.Rec

end
-- ==== Proof.RecFinal.lean ====
module

public import proofs.«01_k».proof.Proof.RecKernel
public import proofs.«01_k».proof.Proof.RecRef

@[expose] public section

set_option maxRecDepth 16384

/-! The recurrence's two arrays are the reference's two results. -/

noncomputable section

namespace Cert.KernelIdeal.Rec

open Idealize.ShloMosaic Idealize.ShloMosaic.TcCoe Idealize.SL.Sem Cert.KernelIdeal Cert.KernelIdeal.Gen Cert.RecMath
open Idealize.ShloMosaic.Pipeline (Dat)

variable (m : (ℓ : Loc nD τ sig) → Buf (Elt Ideal) ℓ) (c : Dev nD)

/-- The block indices of the windows at a grid point: the sequence by `t / 8`, the head by `t % 8`. -/
theorem idx : ∀ t : Fin cfg0.N, win0_0.index t = ![t.val / 8, 0, t.val % 8] ∧ win0_1.index t = ![t.val / 8, 0, 8 + t.val % 8]
    ∧ win0_2.index t = ![t.val / 8, 0, 16 + t.val % 8] ∧ win0_3.index t = ![t.val / 8, 0, 24 + t.val % 8] ∧ win0_4.index t = ![0, t.val % 8]
    ∧ win0_5.index t = ![0, 0] ∧ win0_6.index t = ![t.val / 8, t.val % 8, 0, 0] ∧ win0_7.index t = ![0, 0] ∧ win0_8.index t = ![0, 0]
    ∧ win0_9.index t = ![0, 0] ∧ win0_10.index t = ![t.val / 8, 0, t.val % 8] ∧ win0_11.index t = ![t.val / 8, t.val % 8, 0, 0]
    ∧ t.val < 64 :=
  (by decide +kernel : ∀ t : Fin grid0.N, _)

/-- The lower bounds as the kernel finds them. -/
theorem entry15 : V m c main_v15 = shapeCast S1x1024 (Cert.ReferenceIdeal.Rec.LOW (m ((c.tc : Thread nD τ).loc main_arg1))) shapeCasts_S1024_S1x1024 := by
  entry_read
  rfl

/-- The norm's weights as the kernel finds them. -/
theorem entry17 : V m c main_v17 = shapeCast S1x128 (shapeCast S128 (m ((c.tc : Thread nD τ).loc main_arg2)) shapeCasts_S1x128_S128) shapeCasts_S128_S1x128 := by
  entry_read
  rfl

/-- The state as the kernel finds it. -/
theorem entry18 : V m c main_v18 = transpose S8x8x128x128 [0, 1, 3, 2] (Cert.ReferenceIdeal.Rec.ST0 (m ((c.tc : Thread nD τ).loc main_arg3))) transposes_S8x8x128x128_S8x8x128x128_0_1_3_2 := by
  entry_read
  rfl

/-- The first table as the kernel finds it. -/
theorem entryA : V m c main_cst = fun i => FloatOps.ofBits (F := Ideal) .bf16 (lit0 (S32x32.rowMajor i)) := by
  entry_read
  rfl

/-- The second table as the kernel finds it. -/
theorem entryB : V m c main_cst_0 = fun i => FloatOps.ofBits (F := Ideal) .bf16 (lit1 (S32x32.rowMajor i)) := by
  entry_read
  rfl

/-- The table of ones as the kernel finds it. -/
theorem entry19 : V m c main_v19 = broadcastInDim S128x128 ![] bcast_S_S128x128 (constant (F := Ideal) S_ .bf16 0x3F80#16) := by
  entry_read
  rfl

/-- The first table's words. -/
theorem words0 : ∀ t s : Fin 32, lit0 (S32x32.rowMajor (ix2 t s)) = if s.val ≤ t.val then 0x3F80#16 else 0#16 := by
  decide +kernel

/-- The second table's words. -/
theorem words1 : ∀ t s : Fin 32, lit1 (S32x32.rowMajor (ix2 t s)) = if s.val ≤ t.val ∧ s.val / 16 = t.val / 16 then 0x3F80#16 else 0#16 := by
  decide +kernel

/-- One, by its bits. -/
theorem one_bf16 : Ideal.ofBits .bf16 0x3F80#16 = (1 : EReal) := by
  simp [Ideal.ofBits, Ideal.ieee, -EReal.coe_mul]
  norm_num

/-- Nought, by its bits. -/
theorem zero_bf16 : Ideal.ofBits .bf16 0#16 = (0 : EReal) := by
  simp [Ideal.ofBits, Ideal.ieee, -EReal.coe_mul]

/-- The first table. -/
theorem tab7 (t : Fin cfg0.N) (r s : Fin 32) : (show EReal from iblk m c 7 t (ix2 r s)) = if s.val ≤ r.val then 1 else 0 := by
  have e : iblk m c 7 t = V m c main_cst := by blk_ext! [iblk, idx t]
  rw [e, entryA]
  show Ideal.ofBits .bf16 (lit0 (S32x32.rowMajor (ix2 r s))) = _
  rw [words0]
  by_cases h : s.val ≤ r.val
  · rw [if_pos h, if_pos h, one_bf16]
  · rw [if_neg h, if_neg h, zero_bf16]

/-- The second table. -/
theorem tab8 (t : Fin cfg0.N) (r s : Fin 32) :
    (show EReal from iblk m c 8 t (ix2 r s)) = if s.val ≤ r.val ∧ s.val / 16 = r.val / 16 then 1 else 0 := by
  have e : iblk m c 8 t = V m c main_cst_0 := by blk_ext! [iblk, idx t]
  rw [e, entryB]
  show Ideal.ofBits .bf16 (lit1 (S32x32.rowMajor (ix2 r s))) = _
  rw [words1]
  by_cases h : s.val ≤ r.val ∧ s.val / 16 = r.val / 16
  · rw [if_pos h, if_pos h, one_bf16]
  · rw [if_neg h, if_neg h, zero_bf16]

/-- The table of ones. -/
theorem tab9 (t : Fin cfg0.N) (r s : Fin 128) : (show EReal from iblk m c 9 t (ix2 r s)) = 1 := by
  have e : iblk m c 9 t = V m c main_v19 := by blk_ext! [iblk, idx t]
  rw [e, entry19]
  exact one_bf16

section reads

variable (t : Fin cfg0.N) (b h : Fin 8) (hb : b.val = t.val / 8) (hh : h.val = t.val % 8)

include hb hh

/-- The forget gate's input as the kernel reads it. -/
theorem read0 (r : Fin 32) (k : Fin 128) :
    iblk m c 0 t (ix3 0 r k) = m ((c.tc : Thread nD τ).loc main_arg0) (ix3 b r ⟨128 * h.val + k.val, by omega⟩) := by
  blk_ext [iblk, V, idx t]

/-- The query's input as the kernel reads it. -/
theorem read1 (r : Fin 32) (k : Fin 128) :
    iblk m c 1 t (ix3 0 r k) = m ((c.tc : Thread nD τ).loc main_arg0) (ix3 b r ⟨1024 + (128 * h.val + k.val), by omega⟩) := by
  blk_ext [iblk, V, idx t]

/-- The value's input as the kernel reads it. -/
theorem read2 (r : Fin 32) (k : Fin 128) :
    iblk m c 2 t (ix3 0 r k) = m ((c.tc : Thread nD τ).loc main_arg0) (ix3 b r ⟨2048 + (128 * h.val + k.val), by omega⟩) := by
  blk_ext [iblk, V, idx t]

/-- The output gate's input as the kernel reads it. -/
theorem read3 (r : Fin 32) (k : Fin 128) :
    iblk m c 3 t (ix3 0 r k) = m ((c.tc : Thread nD τ).loc main_arg0) (ix3 b r ⟨3072 + (128 * h.val + k.val), by omega⟩) := by
  blk_ext [iblk, V, idx t]

/-- The lower bound as the kernel reads it. -/
theorem read4 (k : Fin 128) :
    iblk m c 4 t (ix2 0 k) = Cert.ReferenceIdeal.Rec.LOW (m ((c.tc : Thread nD τ).loc main_arg1)) (ix1 ⟨128 * h.val + k.val, by omega⟩) := by
  have e : iblk m c 4 t (ix2 0 k) = V m c main_v15 (ix2 0 ⟨128 * h.val + k.val, by omega⟩) := by blk_ext [iblk, idx t]
  rw [e, entry15]
  pointwise []

/-- The norm's weight as the kernel reads it. -/
theorem read5 (k : Fin 128) :
    iblk m c 5 t (ix2 0 k) = m ((c.tc : Thread nD τ).loc main_arg2) (ix2 0 k) := by
  have e : iblk m c 5 t (ix2 0 k) = V m c main_v17 (ix2 0 k) := by blk_ext [iblk, idx t]
  rw [e, entry17]
  pointwise []

/-- The state as the kernel reads it: transposed. -/
theorem read6 (d k : Fin 128) :
    iblk m c 6 t (ix4 0 0 d k) = Cert.ReferenceIdeal.Rec.ST0 (m ((c.tc : Thread nD τ).loc main_arg3)) (ix4 b h k d) := by
  have e : iblk m c 6 t (ix4 0 0 d k) = V m c main_v18 (ix4 b h d k) := by blk_ext [iblk, idx t]
  rw [e, entry18]
  pointwise []

end reads

end Cert.KernelIdeal.Rec

end
-- ==== Proof.RecEnd.lean ====
module

public import proofs.«01_k».proof.Proof.RecFinal

@[expose] public section

set_option maxRecDepth 16384

/-! The recurrence's two arrays are the reference's two results, where the raw lower bounds are finite. -/

noncomputable section

namespace Cert.KernelIdeal.Rec

open Idealize.ShloMosaic Idealize.ShloMosaic.TcCoe Idealize.SL.Sem Cert.KernelIdeal Cert.KernelIdeal.Gen Cert.RecMath
open Idealize.ShloMosaic.Pipeline (Dat)

variable (m : (ℓ : Loc nD τ sig) → Buf (Elt Ideal) ℓ) (c : Dev nD)

/-- A log-decay of the kernel's block. -/
theorem blk_logf (x0 : Vec Ideal S1x32x128 .f32) (x4 : Vec Ideal S1x128 .f32) (s : Fin 32) (k : Fin 128) :
    k0_pay9 (F := Ideal) (k0_pay3 x4) x0 (ix2 s k) = Ideal.log (x4 (ix2 0 k) + (1 - x4 (ix2 0 k)) * Ideal.logistic (x0 (ix3 0 s k))) := by
  pointwise [k0_pay9, k0_pay8, k0_pay3]

/-- A key of the kernel's block. -/
theorem blk_key (x0 : Vec Ideal S1x32x128 .f32) (x4 : Vec Ideal S1x128 .f32) (s : Fin 32) (k : Fin 128) :
    k0_pay10 (F := Ideal) (k0_pay3 x4) x0 (ix2 s k) = 1 - (x4 (ix2 0 k) + (1 - x4 (ix2 0 k)) * Ideal.logistic (x0 (ix3 0 s k))) := by
  pointwise [k0_pay10, k0_pay8, k0_pay3]

/-- A query of the kernel's block. -/
theorem blk_qry (x1 : Vec Ideal S1x32x128 .f32) (s : Fin 32) (k : Fin 128) :
    k0_pay11 (F := Ideal) x1 (ix2 s k) = x1 (ix3 0 s k) * Ideal.logistic (x1 (ix3 0 s k)) := by
  pointwise [k0_pay11]

/-- A value of the kernel's block. -/
theorem blk_val (x2 : Vec Ideal S1x32x128 .f32) (s : Fin 32) (k : Fin 128) :
    k0_pay12 (F := Ideal) x2 (ix2 s k) = x2 (ix3 0 s k) := by
  pointwise [k0_pay12]

/-- The state of the kernel's block. -/
theorem blk_state (x6 : Vec Ideal S1x1x128x128 .f32) (d k : Fin 128) :
    k0_pay23 (F := Ideal) (k0_pay2 x6) (ix2 d k) = x6 (ix4 0 0 d k) := by
  pointwise [k0_pay23, k0_pay2]

/-- The kernel's norm and gate at an index. -/
theorem blk_norm (o : FVec Ideal S32x128 .f32) (x5 : Vec Ideal S1x128 .f32) (x3 : Vec Ideal S1x32x128 .f32) (r : Fin 32) (d : Fin 128) :
    k0_pay1 (F := Ideal) (k0_pay109 o x5 x3) (ix3 0 r d)
      = Cert.ReferenceIdeal.Rec.NRM (fun k => o (ix2 r k)) (x5 (ix2 0 d)) (x3 (ix3 0 r d)) d := by
  unfold Cert.ReferenceIdeal.Rec.NRM
  pointwise [k0_pay1, k0_pay109]

/-- The forget gates over the arguments. -/
abbrev G : FVec Ideal Cert.ReferenceIdeal.S8x32x1024 .f32 :=
  Cert.ReferenceIdeal.Rec.GATE (m ((c.tc : Thread nD τ).loc main_arg0)) (Cert.ReferenceIdeal.Rec.LOW (m ((c.tc : Thread nD τ).loc main_arg1)))

section point

variable (t : Fin cfg0.N) (b h : Fin 8) (hb : b.val = t.val / 8) (hh : h.val = t.val % 8)

include hb hh

/-- The block's log-decays are the reference's. -/
theorem logf_eq (s : Fin 32) (k : Fin 128) :
    k0_pay9 (F := Ideal) (k0_pay3 (iblk m c 4 t)) (iblk m c 0 t) (ix2 s k) = Cert.ReferenceIdeal.Rec.LOGF (G m c) (ix4 b h s k) := by
  rw [blk_logf, Cert.ReferenceIdeal.Rec.logf_apply, G, Cert.ReferenceIdeal.Rec.gate_apply, read4 m c t b h hb hh, read0 m c t b h hb hh]

/-- The block's keys are the reference's. -/
theorem key_eq (s : Fin 32) (k : Fin 128) :
    k0_pay10 (F := Ideal) (k0_pay3 (iblk m c 4 t)) (iblk m c 0 t) (ix2 s k) = Cert.ReferenceIdeal.Rec.KEYS (G m c) (ix4 b h s k) := by
  rw [blk_key, Cert.ReferenceIdeal.Rec.keys_apply, G, Cert.ReferenceIdeal.Rec.gate_apply, read4 m c t b h hb hh, read0 m c t b h hb hh]

/-- The block's queries are the reference's. -/
theorem qry_eq (s : Fin 32) (k : Fin 128) :
    k0_pay11 (F := Ideal) (iblk m c 1 t) (ix2 s k) = Cert.ReferenceIdeal.Rec.QRS (m ((c.tc : Thread nD τ).loc main_arg0)) (ix4 b h s k) := by
  rw [blk_qry, Cert.ReferenceIdeal.Rec.qrs_apply, read1 m c t b h hb hh]

/-- The block's values are the reference's. -/
theorem val_eq (s : Fin 32) (k : Fin 128) :
    k0_pay12 (F := Ideal) (iblk m c 2 t) (ix2 s k) = Cert.ReferenceIdeal.Rec.VALS (m ((c.tc : Thread nD τ).loc main_arg0)) (ix4 b h s k) := by
  rw [blk_val, Cert.ReferenceIdeal.Rec.vals_apply, read2 m c t b h hb hh]

/-- The block's state is the reference's, transposed. -/
theorem state_eq (d k : Fin 128) :
    k0_pay23 (F := Ideal) (k0_pay2 (iblk m c 6 t)) (ix2 d k) = Cert.ReferenceIdeal.Rec.ST0 (m ((c.tc : Thread nD τ).loc main_arg3)) (ix4 b h k d) := by
  rw [blk_state, read6 m c t b h hb hh]

end point

/-- The raw lower bounds are finite. -/
abbrev Fin1 : Prop := ∀ (r : Fin 2) (d : Fin 1024), ∃ x : ℝ, m ((c.tc : Thread nD τ).loc main_arg1) (ix2 r d) = (x : EReal)

/-- Every log-decay is then a real. -/
theorem logf_real (hf : Fin1 m c) (b h : Fin 8) : ∃ L : Fin 32 → Fin 128 → ℝ, ∀ s k, Cert.ReferenceIdeal.Rec.LOGF (G m c) (ix4 b h s k) = (L s k : EReal) := by
  have one : ∀ s k, ∃ r : ℝ, Cert.ReferenceIdeal.Rec.LOGF (G m c) (ix4 b h s k) = (r : EReal) := fun s k => by
    rw [Cert.ReferenceIdeal.Rec.logf_apply, G, Cert.ReferenceIdeal.Rec.gate_apply]
    exact log_gate _ _ (Cert.ReferenceIdeal.Rec.low_share _ hf _)
  choose L hL using one
  exact ⟨L, hL⟩

/-- The reference's summed log-decays are then sums of reals. -/
theorem cum_real (lf : FVec Ideal Cert.ReferenceIdeal.S8x8x32x128 .f32) (b h : Fin 8) (L : Fin 32 → Fin 128 → ℝ)
    (hL : ∀ s k, lf (ix4 b h s k) = (L s k : EReal)) (t : Fin 32) (k : Fin 128) :
    Cert.ReferenceIdeal.Rec.CUM lf (ix4 b h t k) = (cs L t k : EReal) := by
  unfold Cert.ReferenceIdeal.Rec.CUM cs
  rw [Cert.ReferenceIdeal.Rec.cum32, coe_sum]
  refine Finset.sum_congr rfl fun s _ => ?_
  by_cases hs : s.val ≤ t.val
  · rw [if_pos hs, if_pos hs, hL]
  · rw [if_neg hs, if_neg hs, EReal.coe_zero]

/-- The reference's rows over the arguments. -/
abbrev RR : FVec Ideal Cert.ReferenceIdeal.S8x8x32x128 .f32 :=
  Cert.ReferenceIdeal.Rec.ROWS (Cert.ReferenceIdeal.Rec.QRS (m ((c.tc : Thread nD τ).loc main_arg0))) (Cert.ReferenceIdeal.Rec.KEYS (G m c))
    (Cert.ReferenceIdeal.Rec.VALS (m ((c.tc : Thread nD τ).loc main_arg0))) (Cert.ReferenceIdeal.Rec.CUM (Cert.ReferenceIdeal.Rec.LOGF (G m c)))
    (Cert.ReferenceIdeal.Rec.ST0 (m ((c.tc : Thread nD τ).loc main_arg3)))

section point

variable (hf : Fin1 m c) (t : Fin cfg0.N) (b h : Fin 8) (hb : b.val = t.val / 8) (hh : h.val = t.val % 8)

include hf hb hh

/-- The rows of a grid point are the reference's. -/
theorem rows_eq (r : Fin 32) (d : Fin 128) :
    ROWS (iblk m c 0 t) (iblk m c 1 t) (iblk m c 2 t) (iblk m c 4 t) (k0_pay2 (F := Ideal) (iblk m c 6 t)) (iblk m c 7 t) (iblk m c 8 t) (iblk m c 9 t) (ix2 r d)
      = RR m c (ix4 b h r d) := by
  obtain ⟨L, hL⟩ := logf_real m c hf b h
  have hK : ∀ s k, k0_pay9 (F := Ideal) (k0_pay3 (iblk m c 4 t)) (iblk m c 0 t) (ix2 s k) = (L s k : EReal) := fun s k =>
    (logf_eq m c t b h hb hh s k).trans (hL s k)
  refine (rows_apply L _ _ _ _ _ _ _ _ hK (tab7 m c t) (tab8 m c t) (tab9 m c t) r d).trans ?_
  refine Eq.trans ?_ (Cert.ReferenceIdeal.Rec.rows_apply _ _ _ _ _ b h r d).symm
  unfold W
  simp only [qry_eq m c t b h hb hh, key_eq m c t b h hb hh, val_eq m c t b h hb hh, state_eq m c t b h hb hh, cum_real _ b h L hL]

/-- The state of a grid point is the reference's. -/
theorem end_eq (d k : Fin 128) :
    K11 (iblk m c 0 t) (iblk m c 2 t) (iblk m c 4 t) (k0_pay2 (F := Ideal) (iblk m c 6 t)) (iblk m c 7 t) (iblk m c 8 t) (ix4 0 0 d k)
      = Cert.ReferenceIdeal.Rec.REF1 (m ((c.tc : Thread nD τ).loc main_arg0)) (m ((c.tc : Thread nD τ).loc main_arg1)) (m ((c.tc : Thread nD τ).loc main_arg3)) (ix4 b h d k) := by
  obtain ⟨L, hL⟩ := logf_real m c hf b h
  have hK : ∀ s k, k0_pay9 (F := Ideal) (k0_pay3 (iblk m c 4 t)) (iblk m c 0 t) (ix2 s k) = (L s k : EReal) := fun s k =>
    (logf_eq m c t b h hb hh s k).trans (hL s k)
  refine (end_apply L _ _ _ _ _ _ hK (tab7 m c t) (tab8 m c t) d k).trans ?_
  refine Eq.trans ?_ (Cert.ReferenceIdeal.Rec.state_apply _ _ _ _ b h d k).symm
  simp only [key_eq m c t b h hb hh, val_eq m c t b h hb hh, state_eq m c t b h hb hh, cum_real _ b h L hL]
  rw [mul_comm]
  refine congrArg (_ + ·) (Finset.sum_congr rfl fun s _ => ?_)
  rw [mul_comm]

end point

/-- The rows of a grid point, normed and gated, are the reference's at the point's place. -/
theorem point10 (hf : Fin1 m c) (t : Fin cfg0.N) (y : S1x32x128.Idx) :
    K10 (iblk m c 0 t) (iblk m c 1 t) (iblk m c 2 t) (iblk m c 3 t) (iblk m c 4 t) (iblk m c 5 t) (k0_pay2 (F := Ideal) (iblk m c 6 t)) (iblk m c 7 t) (iblk m c 8 t) (iblk m c 9 t) y
      = Cert.ReferenceIdeal.Rec.REF0 (m ((c.tc : Thread nD τ).loc main_arg0)) (m ((c.tc : Thread nD τ).loc main_arg1)) (m ((c.tc : Thread nD τ).loc main_arg2)) (m ((c.tc : Thread nD τ).loc main_arg3)) ((win0_10.blk t).view.emb y) := by
  idx_vars y
  have h64 : t.val < 64 := (idx t).2.2.2.2.2.2.2.2.2.2.2.2
  obtain ⟨b, hb⟩ : ∃ b : Fin 8, b.val = t.val / 8 := ⟨⟨t.val / 8, by omega⟩, rfl⟩
  obtain ⟨h, hh⟩ : ∃ h : Fin 8, h.val = t.val % 8 := ⟨⟨t.val % 8, by omega⟩, rfl⟩
  have place : Cert.ReferenceIdeal.Rec.REF0 (m ((c.tc : Thread nD τ).loc main_arg0)) (m ((c.tc : Thread nD τ).loc main_arg1)) (m ((c.tc : Thread nD τ).loc main_arg2)) (m ((c.tc : Thread nD τ).loc main_arg3)) ((win0_10.blk t).view.emb (ix3 y0 y1 y2))
      = Cert.ReferenceIdeal.Rec.REF0 (m ((c.tc : Thread nD τ).loc main_arg0)) (m ((c.tc : Thread nD τ).loc main_arg1)) (m ((c.tc : Thread nD τ).loc main_arg2)) (m ((c.tc : Thread nD τ).loc main_arg3)) (ix3 b y1 ⟨128 * h.val + y2.val, by omega⟩) := by
    blk_ext [idx t]
  refine Eq.trans ?_ place.symm
  obtain rfl : y0 = 0 := Subsingleton.elim _ _
  refine (blk_norm _ _ _ y1 y2).trans ?_
  refine Eq.trans ?_ (Cert.ReferenceIdeal.Rec.normed_apply _ _ _ b y1 _).symm
  have e1 : (⟨(128 * h.val + y2.val) / 128, by omega⟩ : Fin 8) = h := Fin.ext (by show (128 * h.val + y2.val) / 128 = h.val; omega)
  have e2 : (⟨(128 * h.val + y2.val) % 128, by omega⟩ : Fin 128) = y2 := Fin.ext (by show (128 * h.val + y2.val) % 128 = y2.val; omega)
  simp only [e1, e2]
  rw [read5 m c t b h hb hh, read3 m c t b h hb hh]
  refine congrArg (fun o => Cert.ReferenceIdeal.Rec.NRM o _ _ y2) (funext fun k => ?_)
  exact rows_eq m c hf t b h hb hh y1 k

/-- The state of a grid point is the reference's at the point's place. -/
theorem point11 (hf : Fin1 m c) (t : Fin cfg0.N) (y : S1x1x128x128.Idx) :
    K11 (iblk m c 0 t) (iblk m c 2 t) (iblk m c 4 t) (k0_pay2 (F := Ideal) (iblk m c 6 t)) (iblk m c 7 t) (iblk m c 8 t) y
      = Cert.ReferenceIdeal.Rec.REF1 (m ((c.tc : Thread nD τ).loc main_arg0)) (m ((c.tc : Thread nD τ).loc main_arg1)) (m ((c.tc : Thread nD τ).loc main_arg3)) ((win0_11.blk t).view.emb y) := by
  idx_vars y
  have h64 : t.val < 64 := (idx t).2.2.2.2.2.2.2.2.2.2.2.2
  obtain ⟨b, hb⟩ : ∃ b : Fin 8, b.val = t.val / 8 := ⟨⟨t.val / 8, by omega⟩, rfl⟩
  obtain ⟨h, hh⟩ : ∃ h : Fin 8, h.val = t.val % 8 := ⟨⟨t.val % 8, by omega⟩, rfl⟩
  have place : Cert.ReferenceIdeal.Rec.REF1 (m ((c.tc : Thread nD τ).loc main_arg0)) (m ((c.tc : Thread nD τ).loc main_arg1)) (m ((c.tc : Thread nD τ).loc main_arg3)) ((win0_11.blk t).view.emb (ix4 y0 y1 y2 y3))
      = Cert.ReferenceIdeal.Rec.REF1 (m ((c.tc : Thread nD τ).loc main_arg0)) (m ((c.tc : Thread nD τ).loc main_arg1)) (m ((c.tc : Thread nD τ).loc main_arg3)) (ix4 b h y2 y3) := by
    blk_ext [idx t]
  refine Eq.trans ?_ place.symm
  obtain rfl : y0 = 0 := Subsingleton.elim _ _
  obtain rfl : y1 = 0 := Subsingleton.elim _ _
  exact end_eq m c hf t b h hb hh y2 y3

/-- The kernel's first array is the reference's first result. -/
theorem final10 (hf : Fin1 m c) : (dats m 0 c).arrAt 10 cfg0.N
    = Cert.ReferenceIdeal.Rec.REF0 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 10 _ (by decide +kernel) fun t _ y => ?_
  blk_simp
  rw [after0_10, tile10]
  exact point10 m c hf t y

/-- The kernel's second array is the reference's second result. -/
theorem final11 (hf : Fin1 m c) : (dats m 0 c).arrAt 11 cfg0.N
    = Cert.ReferenceIdeal.Rec.REF1 (m ((c.tc : Thread nD τ).loc main_arg0)) (m ((c.tc : Thread nD τ).loc main_arg1)) (m ((c.tc : Thread nD τ).loc main_arg3)) := by
  refine (dats m 0 c).arrAt_eq_of_covers 11 _ (by decide +kernel) fun t _ y => ?_
  blk_simp
  rw [after0_11, tile11]
  exact point11 m c hf t y

end Cert.KernelIdeal.Rec

end
-- ==== Proof.RecPre.lean ====
module

public import proofs.«01_k».proof.Proof.RecEnd
public import proofs.«01_k».proof.Defs
public import Idealize.ShloMosaic.Lib.ReduceAll

@[expose] public section

set_option maxRecDepth 16384

/-! What the precondition says of the raw lower bounds. -/

noncomputable section

namespace Cert.KernelIdeal.Rec

open Idealize.ShloMosaic Idealize.ShloMosaic.TcCoe Idealize.SL.Sem Cert.KernelIdeal Cert.KernelIdeal.Gen

variable (m : (ℓ : Loc nD τ sig) → Buf (Elt Ideal) ℓ) (c : Dev nD)

/-- A number that is below positive infinity with its negation is a real. -/
theorem real_of_lt (x : EReal) (h : max x (-x) < ⊤) : ∃ r : ℝ, x = (r : EReal) := by
  induction x using EReal.rec with
  | bot => exact absurd h (by simp)
  | top => exact absurd h (by simp)
  | coe r => exact ⟨r, rfl⟩

/-- The word of positive infinity is positive infinity. -/
theorem top_f32 : Ideal.ofBits .f32 0x7F800000#32 = (⊤ : EReal) := by
  simp [Ideal.ofBits, Ideal.ieee]

/-- The precondition is that the raw lower bounds are finite. -/
theorem fin1_of_pre [hP : Cert.Pre_lb_finite.Facts] (h : Cert.Pre_KernelIdeal_lb_finite m) : Fin1 m c := fun r d => by
  have : Subsingleton Cert.Pre_lb_finite.S_.Idx := ⟨fun a b => funext fun i => i.elim0⟩
  have e := Host.reduce_andi_all _ _ _ _ (fun i => i.elim0) (congrFun (h c) _) (ix2 r d)
  have e' : Ideal.cmp .olt (max (m ((c.tc : Thread nD τ).loc main_arg1) (ix2 r d) : EReal) (-(show EReal from m ((c.tc : Thread nD τ).loc main_arg1) (ix2 r d)))) (Ideal.ofBits .f32 0x7F800000#32) = 1#1 := e
  rw [top_f32] at e'
  exact real_of_lt _ ((Ideal.cmp_olt_eq_one _ _).1 e')

end Cert.KernelIdeal.Rec

end
-- ==== Proof.RecClaims.lean ====
module

public import proofs.«01_k».proof.Defs
public import proofs.«01_k».proof.Proof.Gen.Kernel.Frame
public import proofs.«01_k».proof.Proof.RecPre

@[expose] public section

set_option maxRecDepth 16384

/-! The claims of the recurrence. -/

noncomputable section

namespace Cert.Proof

open Idealize.ShloMosaic Idealize.SL.Sem

/-- The recurrence ends with its arguments unchanged and its counters at zero. -/
theorem frame_Kernel : Cert.quiescent_Kernel := fun m ρ _ => Cert.Kernel.Gen.frame m ρ

/-- So does its idealized program. -/
theorem frame_KernelIdeal : Cert.quiescent_KernelIdeal := fun m ρ _ => Cert.KernelIdeal.Gen.frame m ρ

/-- So does its idealized program where the raw lower bounds are finite. -/
theorem frame_KernelIdeal_pre [hP : Cert.Pre_lb_finite.Facts] : Cert.quiescent_KernelIdeal_pre_lb_finite := fun m ρ _ => Cert.KernelIdeal.Gen.frame m ρ

/-- So does its reference. -/
theorem frame_ReferenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- So does its reference where the raw lower bounds are finite. -/
theorem frame_ReferenceIdeal_pre [hP : Cert.Pre_lb_finite.Facts] : Cert.quiescent_ReferenceIdeal_pre_lb_finite := fun m ρ _ => frame_ReferenceIdeal m ρ trivial

/-- The idealized program of the recurrence is the program: nothing was rewritten. -/
theorem preserves : Cert.preserves_Kernel_KernelIdeal := trivial

/-- Where the raw lower bounds are finite, the recurrence and its reference end with the same two results on the same arguments. -/
theorem algebraic [hP : Cert.Pre_lb_finite.Facts] : Cert.algebraic_KernelIdeal_ReferenceIdeal_pre_lb_finite := by
  intro m ρ m' ρ' pre hag
  refine ⟨fun c => Cert.ReferenceIdeal.Rec.REF0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Rec.REF1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)), ?_, ?_⟩
  · exact (θ_run Cert.KernelIdeal.defs _ _).mono (fun _ h c => ⟨(h c).1.trans (Cert.KernelIdeal.Rec.final10 m c (Cert.KernelIdeal.Rec.fin1_of_pre m c pre)),
      (h c).2.1.trans (Cert.KernelIdeal.Rec.final11 m c (Cert.KernelIdeal.Rec.fin1_of_pre m c pre)), (h c).2.2⟩)
      (Cert.KernelIdeal.Value.run_blocks (F := Ideal) m ρ)
  · refine (θ_run Cert.ReferenceIdeal.defs _ _).mono (fun _ h c => ⟨(h c).1.trans ((Cert.ReferenceIdeal.Rec.res0 m' c).trans ?_), (h c).2.1.trans ((Cert.ReferenceIdeal.Rec.res1 m' c).trans ?_), (h c).2.2⟩)
      (Cert.ReferenceIdeal.Value.run (F := Ideal) m' ρ')
    · obtain ⟨h0, h1, h2, h3⟩ := hag c
      show Cert.ReferenceIdeal.Rec.REF0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [h0, h1, h2, h3]
    · obtain ⟨h0, h1, h2, h3⟩ := hag c
      show Cert.ReferenceIdeal.Rec.REF1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) = _
      rw [h0, h1, h3]

end Cert.Proof

end
-- ==== Proof.Scale.lean ====
module

public import Idealize.ShloMosaic.PureOps.Ideal.Laws
public import Mathlib.Data.EReal.Operations
public import Mathlib.Algebra.BigOperators.Group.Finset.Basic

@[expose] public section

set_option maxRecDepth 16384

/-! A nonnegative real factor goes into a sum of extended reals. -/

namespace Cert.Scale

open Idealize.ShloMosaic

/-- A nonnegative real factor distributes over a finite sum of extended reals. -/
theorem mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The constant of pattern `0x3F000000` is one half. -/
theorem half : Ideal.ofBits .f32 0x3F000000#32 = (((1 : ℝ) / 2 : ℝ) : EReal) := by
  simp [Ideal.ofBits, Ideal.ieee, -EReal.coe_mul]
  norm_num

/-- The constant one half goes into a sum. -/
theorem half_mul_sum {ι : Type*} (s : Finset ι) (f : ι → EReal) :
    Ideal.ofBits .f32 0x3F000000#32 * ∑ i ∈ s, f i = ∑ i ∈ s, Ideal.ofBits .f32 0x3F000000#32 * f i := by
  rw [half]
  exact mul_sum s _ (by norm_num) f

/-- A middle factor moved to the front. -/
theorem move (a h w : EReal) : a * h * w = h * (a * w) := by
  rw [mul_comm a h, mul_assoc]

end Cert.Scale
-- ==== Proof.Ffn2.lean ====
module

public import proofs.«01_k».proof.Proof.Gen.Kernel2Ideal.Value
public import proofs.«01_k».proof.Proof.Gen.Reference2Ideal.Run
public import Idealize.ShloMosaic.Lib.Pipeline.ValueKit
public import proofs.«01_k».proof.Proof.Scale

@[expose] public section

set_option maxRecDepth 16384

/-! The feed-forward half-step: the kernel starts the output rows at the input rows and adds, tile by tile of the hidden
    axis, the gated hidden columns times one half times the output weights; the reference does it in one product. -/

noncomputable section

namespace Cert.Reference2Ideal.Ffn

open Cert.Reference2Ideal Cert.Reference2Ideal.Gen Idealize.ShloMosaic Idealize.ShloMosaic.TcCoe

/-- The reference's result over its input rows, one row per token. -/
def CORE (x : FVec Ideal S32768x2048 .f32) (a1 : FVec Ideal S1x2048 .f32) (a2 : FVec Ideal S1x2048x11264 .f32) (a3 : FVec Ideal S1x5632x2048 .f32) :
    FVec Ideal S32768x2048 .f32 :=
  addf x (mulf (broadcastInDim S32768x2048 ![] bcast_S_S32768x2048 (constant S_ .f32 0x3F000000#32)) (Host.dotGeneral dot_S32768x5632_S5632x2048_S32768x2048_1_0_0_1_n_n none (mulf (mulf (extractStridedSlice S32768x5632 ![0, 0] (Host.dotGeneral dot_S32768x2048_S2048x11264_S32768x11264_1_0_0_1_n_n none (mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ a1 shapeCasts_S1x2048_S2048)))) (shapeCast _ a2 shapeCasts_S1x2048x11264_S2048x11264)) slices_S32768x11264_S32768x5632_0_0) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (extractStridedSlice S32768x5632 ![0, 0] (Host.dotGeneral dot_S32768x2048_S2048x11264_S32768x11264_1_0_0_1_n_n none (mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ a1 shapeCasts_S1x2048_S2048)))) (shapeCast _ a2 shapeCasts_S1x2048x11264_S2048x11264)) slices_S32768x11264_S32768x5632_0_0)))))) (extractStridedSlice S32768x5632 ![0, 5632] (Host.dotGeneral dot_S32768x2048_S2048x11264_S32768x11264_1_0_0_1_n_n none (mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ a1 shapeCasts_S1x2048_S2048)))) (shapeCast _ a2 shapeCasts_S1x2048x11264_S2048x11264)) slices_S32768x11264_S32768x5632_0_5632)) (shapeCast _ a3 shapeCasts_S1x5632x2048_S5632x2048)))

/-- The reference's result over its argument arrays. -/
def REF (a0 : FVec Ideal S2x16384x2048 .f32) (a1 : FVec Ideal S1x2048 .f32) (a2 : FVec Ideal S1x2048x11264 .f32)
    (a3 : FVec Ideal S1x5632x2048 .f32) : FVec Ideal S32768x2048 .f32 :=
  CORE (shapeCast _ a0 shapeCasts_S2x16384x2048_S32768x2048) a1 a2 a3

end Cert.Reference2Ideal.Ffn

namespace Cert.Kernel2Ideal.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the six windows at a grid point: rows by `t / 11`, hidden columns by `t % 11`, the second
    half of the input weights eleven tiles further. -/
theorem idx : ∀ t : Fin cfg0.N, win0_0.index t = ![t.val / 11, 0] ∧ win0_1.index t = ![0, 0]
    ∧ win0_2.index t = ![0, t.val % 11] ∧ win0_3.index t = ![0, 11 + t.val % 11] ∧ win0_4.index t = ![t.val % 11, 0]
    ∧ win0_5.index t = ![t.val / 11, 0] :=
  (by decide +kernel : ∀ t : Fin grid0.N, _)

/-- After every point the scratch holds the normed rows of the point's row block. -/
theorem scratch (c : Dev nD) : ∀ (n : ℕ) (hn : n < cfg0.N),
    (outsAt0 m c n hn).2 = k0_pay2 (F := Ideal) (iblk m c 0 ⟨n, hn⟩) (iblk m c 1 ⟨n, hn⟩)
  | 0, hn => by
    rw [outsAt0_A m c ⟨0, hn⟩ (Nat.zero_mod _)]
    frame_out
  | n + 1, hn => by
    by_cases h : (n + 1) % 11 = 0
    · rw [outsAt0_A m c ⟨n + 1, hn⟩ h]
      frame_out
    · rw [outsAt0_B m c ⟨n + 1, hn⟩ h]
      have ih := scratch c n (Nat.lt_of_succ_lt hn)
      have e0 : iblk m c 0 ⟨n, Nat.lt_of_succ_lt hn⟩ = iblk m c 0 ⟨n + 1, hn⟩ := by
        blk_ext! [iblk, V, idx ⟨n, Nat.lt_of_succ_lt hn⟩, idx ⟨n + 1, hn⟩]
      have e1 : iblk m c 1 ⟨n, Nat.lt_of_succ_lt hn⟩ = iblk m c 1 ⟨n + 1, hn⟩ := by
        blk_ext! [iblk, V, idx ⟨n, Nat.lt_of_succ_lt hn⟩, idx ⟨n + 1, hn⟩]
      rw [← e0, ← e1]
      exact ih

/-- What a point adds to the output block. -/
def part (c : Dev nD) (t : Fin cfg0.N) : FVec Ideal S512x2048 .f32 :=
  k0_pay3 (F := Ideal) (k0_pay2 (iblk m c 0 t) (iblk m c 1 t)) (iblk m c 2 t) (iblk m c 3 t) (fun _ => (0 : EReal))
    (iblk m c 4 t)

/-- The stored sum is the block before plus what the tile adds. -/
theorem hpay (h : FVec Ideal S512x2048 .bf16) (wg wu : FVec Ideal S2048x512 .bf16) (acc : FVec Ideal S512x2048 .f32)
    (wo : FVec Ideal S512x2048 .bf16) (r : Fin 512) (j : Fin 2048) :
    k0_pay3 (F := Ideal) h wg wu acc wo (ix2 r j)
      = acc (ix2 r j) + k0_pay3 (F := Ideal) h wg wu (fun _ => (0 : EReal)) wo (ix2 r j) := by
  pointwise [k0_pay3]

/-- A copied block is the block. -/
theorem hcopy (x : FVec Ideal S512x2048 .f32) : k0_pay1 (F := Ideal) x = x := by
  funext j
  pointwise [k0_pay1]

/-- The terms of the running sum: the input rows enter at a run's first point. -/
def term (c : Dev nD) (t : Fin cfg0.N) (j : S512x2048.Idx) : EReal :=
  (if t.val % 11 = 0 then (show FVec Ideal S512x2048 .f32 from iblk m c 0 t) j else 0) + part m c t j

/-- The output block at a run's first point. -/
theorem first (c : Dev nD) (t : Fin cfg0.N) (h : t.val % 11 = 0) (j : S512x2048.Idx) :
    (outsAt0 m c t.val t.isLt).1 j = (0 : EReal) + term m c t j := by
  rw [outsAt0_A m c t h]
  frame_out
  idx_vars j
  rw [zero_add]
  refine (hpay _ _ _ _ _ _ _).trans ?_
  unfold term part
  rw [if_pos h, hcopy]
  all_goals rfl

/-- The output block at a run's other points. -/
theorem next (c : Dev nD) (t : Fin cfg0.N) (h : ¬t.val % 11 = 0) (j : S512x2048.Idx) :
    (outsAt0 m c t.val t.isLt).1 j
      = (show EReal from (outsAt0 m c (t.val - 1) (Nat.lt_of_le_of_lt (Nat.sub_le _ _) t.isLt)).1 j) + term m c t j := by
  have hs := scratch m c t.val t.isLt
  rw [outsAt0_B m c t h] at hs ⊢
  replace hs : (outsAt0 m c (t.val - 1) (Nat.lt_of_le_of_lt (Nat.sub_le _ _) t.isLt)).2
      = k0_pay2 (F := Ideal) (iblk m c 0 t) (iblk m c 1 t) := hs
  unfold term part
  rw [if_neg h, zero_add, ← hs]
  frame_out
  idx_vars j
  refine (hpay _ _ _ _ _ _ _).trans ?_
  exact congrArg (fun z => (show EReal from
      (outsAt0 m c (t.val - 1) (Nat.lt_of_le_of_lt (Nat.sub_le _ _) t.isLt)).1 (ix2 j0 j1))
    + k0_pay3 (F := Ideal) z (iblk m c 2 t) (iblk m c 3 t) (fun _ => (0 : EReal)) (iblk m c 4 t) (ix2 j0 j1))
    (Memref.IsWhole.read_unread _ _)

/-- Two points of one row block stage the same input rows. -/
theorem rows (c : Dev nD) (t t' : Fin cfg0.N) (h : t.val / 11 = t'.val / 11) : iblk m c 0 t = iblk m c 0 t' := by
  blk_ext! [iblk, V, idx t, idx t', h]

/-- The block indices at the points of one run. -/
theorem idx_run (t : Fin cfg0.N) (s : Fin 11) (h : 11 * (t.val / 11) + s.val < cfg0.N) :
    win0_0.index ⟨11 * (t.val / 11) + s.val, h⟩ = ![t.val / 11, 0]
    ∧ win0_1.index ⟨11 * (t.val / 11) + s.val, h⟩ = ![0, 0]
    ∧ win0_2.index ⟨11 * (t.val / 11) + s.val, h⟩ = ![0, s.val]
    ∧ win0_3.index ⟨11 * (t.val / 11) + s.val, h⟩ = ![0, 11 + s.val]
    ∧ win0_4.index ⟨11 * (t.val / 11) + s.val, h⟩ = ![s.val, 0] := by
  obtain ⟨h0, h1, h2, h3, h4, _⟩ := idx ⟨11 * (t.val / 11) + s.val, h⟩
  have hs := s.isLt
  have hd : (11 * (t.val / 11) + s.val) / 11 = t.val / 11 := by omega
  have hm : (11 * (t.val / 11) + s.val) % 11 = s.val := by omega
  simp only [hd, hm] at h0 h1 h2 h3 h4
  exact ⟨h0, h1, h2, h3, h4⟩

/-- The output block at the point that writes it back, read at a place: the input rows and the run's parts. -/
theorem last (c : Dev nD) (t : Fin cfg0.N) (hr : t.val % 11 = 11 - 1) (j : S512x2048.Idx) :
    (outsAt0 m c t.val t.isLt).1 j = (show FVec Ideal S512x2048 .f32 from iblk m c 0 t) j
      + ∑ s : Fin 11, part m c ⟨11 * (t.val / 11) + s.val, Pipeline.run_point_lt_of_flush t hr s⟩ j := by
  have e := Pipeline.eq_sum_fin_of_reset_step_apply_of_flush (M := EReal)
    (fun n h => (outsAt0 m c n h).1) 11 (fun _ => 0) (term m c) (first m c) (next m c) t hr j
  refine e.trans ?_
  unfold term
  rw [zero_add, Finset.sum_add_distrib]
  refine congrArg (· + _) ?_
  refine (Finset.sum_eq_single (0 : Fin 11) ?_ (fun hh => absurd (Finset.mem_univ _) hh)).trans ?_
  · intro s _ hne
    refine if_neg ?_
    have hs := s.isLt
    have h0 : s.val ≠ 0 := fun hh => hne (Fin.ext hh)
    show ¬(11 * (t.val / 11) + s.val) % 11 = 0
    omega
  · have hm : (11 * (t.val / 11) + (0 : Fin 11).val) % 11 = 0 := by
      show (11 * (t.val / 11) + 0) % 11 = 0
      omega
    have hd : (11 * (t.val / 11) + (0 : Fin 11).val) / 11 = t.val / 11 := by
      show (11 * (t.val / 11) + 0) / 11 = t.val / 11
      omega
    have e0 := rows m c ⟨11 * (t.val / 11) + (0 : Fin 11).val, Pipeline.run_point_lt_of_flush t hr 0⟩ t hd
    refine (if_pos hm).trans ?_
    exact congrFun e0 j

/-- The input rows, one row per token. -/
@[irreducible] def X2 (c : Dev nD) : FVec Ideal S32768x2048 .f32 :=
  shapeCast S32768x2048 (m ((c : Thread nD τ).loc main_arg0)) shapeCasts_S2x16384x2048_S32768x2048

/-- The rows the region reads are the input rows. -/
theorem entry0 (c : Dev nD) : V m c main_v0 = X2 m c := by
  entry_read
  unfold X2
  rfl

/-- A staged input row read at a place. -/
theorem read0 (c : Dev nD) (t : Fin cfg0.N) (r : Fin 512) (k : Fin 2048) :
    iblk m c 0 t (ix2 r k)
      = X2 m c (ix2 (⟨t.val / 11 * 512 + r.val, by
          have h := lt_of_lt_of_eq t.isLt (show cfg0.N = 704 from N_0); omega⟩ : Fin 32768) k) := by
  refine (congrFun (entry0 m c) (((cfg0.win 0).blk t).view.emb (ix2 r k))).trans ?_
  blk_ext [idx t]

/-- The written-back block read at a place is the reference's result at the array index of the place. -/
theorem point (c : Dev nD) (t : Fin cfg0.N) (hr : t.val % 11 = 11 - 1) (y) :
    (show FVec Ideal S512x2048 .f32 from iblk m c 0 t) y
      + ∑ s : Fin 11, part m c ⟨11 * (t.val / 11) + s.val, Pipeline.run_point_lt_of_flush t hr s⟩ y
      = Cert.Reference2Ideal.Ffn.CORE (X2 m c) (m ((c : Thread nD τ).loc main_arg1)) (m ((c : Thread nD τ).loc main_arg2)) (m ((c : Thread nD τ).loc main_arg3)) (((cfg0.win 5).blk t).view.emb y) := by
  idx_vars y
  pointwise [part, k0_pay3, k0_pay2, k0_pay1, Cert.Reference2Ideal.Ffn.CORE]
  rw [Cert.Scale.half_mul_sum]
  refine congrArg₂ (· + ·) ?_ ?_
  · refine (read0 m c t _ _).trans ?_
    blk_ext [idx t]
  · refine Fin.sum_mul_add_congr fun s k hl => ?_
    simp only [Ideal.logistic, read0]
    refine (Cert.Scale.move _ _ _).trans ?_
    blk_point [iblk, V, idx_run t s (Pipeline.run_point_lt_of_flush t hr s), idx t]

/-- The result array after the run is the reference's result. -/
theorem final (c : Dev nD) : (dats m 0 c).arrAt 5 cfg0.N
    = Cert.Reference2Ideal.Ffn.REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have e := (last m c t ((flush0_5 t).mp hf) _).trans (point m c t ((flush0_5 t).mp hf) y)
  unfold X2 at e
  exact e

end Cert.Kernel2Ideal.Ffn

end
-- ==== Proof.Proj3.lean ====
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

/-! The projection of the normed rows to the recurrence columns: the kernel keeps the normed rows of a row block in a
    scratch while it walks the column tiles; every tile is the reference's matrix product read there. -/

noncomputable section

namespace Cert.Reference3Ideal.Proj

open Cert.Reference3Ideal Cert.Reference3Ideal.Gen Idealize.ShloMosaic Idealize.ShloMosaic.TcCoe

/-- The reference's result over its argument arrays. -/
def REF (a0 : FVec Ideal S32768x2048 .f32) (a1 : FVec Ideal S1x2048 .f32) (a2 : FVec Ideal S1x2048x10832 .f32) :
    FVec Ideal S32768x4096 .f32 :=
  extractStridedSlice S32768x4096 ![0, 2640] (Host.dotGeneral dot_S32768x2048_S2048x10832_S32768x10832_1_0_0_1_n_n none (mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ a1 shapeCasts_S1x2048_S2048)))) (shapeCast _ a2 shapeCasts_S1x2048x10832_S2048x10832)) slices_S32768x10832_S32768x4096_0_2640

end Cert.Reference3Ideal.Proj

namespace Cert.Kernel3Ideal.Proj

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the four windows at a grid point: rows by `t / 2`, columns by `t % 2`. -/
theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- After every point the scratch holds the normed rows of the point's row block. -/
theorem scratch (c : Dev nD) : ∀ (n : ℕ) (hn : n < cfg0.N),
    (outsAt0 m c n hn).2 = k0_pay1 (F := Ideal) (iblk m c 0 ⟨n, hn⟩) (iblk m c 1 ⟨n, hn⟩)
  | 0, hn => by
    rw [outsAt0_A m c ⟨0, hn⟩ (Nat.zero_mod _)]
    frame_out
  | n + 1, hn => by
    by_cases h : (n + 1) % 2 = 0
    · rw [outsAt0_A m c ⟨n + 1, hn⟩ h]
      frame_out
    · rw [outsAt0_B m c ⟨n + 1, hn⟩ h]
      have ih := scratch c n (Nat.lt_of_succ_lt hn)
      have e0 : iblk m c 0 ⟨n, Nat.lt_of_succ_lt hn⟩ = iblk m c 0 ⟨n + 1, hn⟩ := by
        blk_ext! [iblk, V, idx ⟨n, Nat.lt_of_succ_lt hn⟩, idx ⟨n + 1, hn⟩]
      have e1 : iblk m c 1 ⟨n, Nat.lt_of_succ_lt hn⟩ = iblk m c 1 ⟨n + 1, hn⟩ := by
        blk_ext! [iblk, V, idx ⟨n, Nat.lt_of_succ_lt hn⟩, idx ⟨n + 1, hn⟩]
      rw [← e0, ← e1, ← ih]
      rfl

/-- What a point leaves in the output block: the product of the normed rows with the weight tile. -/
theorem tile (c : Dev nD) (t : Fin cfg0.N) :
    (outsAt0 m c t.val t.isLt).1
      = k0_pay2 (F := Ideal) (k0_pay1 (iblk m c 0 t) (iblk m c 1 t)) (iblk m c 2 t) := by
  by_cases h : t.val % 2 = 0
  · rw [outsAt0_A m c t h]
    frame_out
  · have hs := scratch m c t.val t.isLt
    rw [outsAt0_B m c t h] at hs ⊢
    replace hs : (outsAt0 m c (t.val - 1) (Nat.lt_of_le_of_lt (Nat.sub_le _ _) t.isLt)).2
        = k0_pay1 (F := Ideal) (iblk m c 0 t) (iblk m c 1 t) := hs
    rw [← hs]
    frame_out
    exact congrFun (congrArg _ (Memref.IsWhole.read_unread _ _)) _

/-- A stored tile read at a place is the reference's result at the array index of the place. -/
theorem point (c : Dev nD) (t : Fin cfg0.N) (y) :
    k0_pay2 (F := Ideal) (k0_pay1 (iblk m c 0 t) (iblk m c 1 t)) (iblk m c 2 t) y
      = Cert.Reference3Ideal.Proj.REF (m ((c : Thread nD τ).loc main_arg0)) (m ((c : Thread nD τ).loc main_arg1))
          (m ((c : Thread nD τ).loc main_arg2)) (((cfg0.win 3).blk t).view.emb y) := by
  pointwise [k0_pay2, k0_pay1, Cert.Reference3Ideal.Proj.REF]
  blk_point [iblk, V, idx t]

/-- The result array after the run is the reference's result. -/
theorem final (c : Dev nD) : (dats m 0 c).arrAt 3 cfg0.N
    = Cert.Reference3Ideal.Proj.REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, tile]
  exact point m c t y

end Cert.Kernel3Ideal.Proj

end
-- ==== Proof.Proj4.lean ====
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

/-! The projection of the normed rows to the gate columns: the kernel keeps the normed rows of a row block in a
    scratch while it walks the column tiles; every tile is the reference's matrix product read there. -/

noncomputable section

namespace Cert.Reference4Ideal.Proj

open Cert.Reference4Ideal Cert.Reference4Ideal.Gen Idealize.ShloMosaic Idealize.ShloMosaic.TcCoe

/-- The reference's result over its argument arrays. -/
def REF (a0 : FVec Ideal S32768x2048 .f32) (a1 : FVec Ideal S1x2048 .f32) (a2 : FVec Ideal S1x2048x10832 .f32) :
    FVec Ideal S32768x4096 .f32 :=
  extractStridedSlice S32768x4096 ![0, 6736] (Host.dotGeneral dot_S32768x2048_S2048x10832_S32768x10832_1_0_0_1_n_n none (mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ a1 shapeCasts_S1x2048_S2048)))) (shapeCast _ a2 shapeCasts_S1x2048x10832_S2048x10832)) slices_S32768x10832_S32768x4096_0_6736

end Cert.Reference4Ideal.Proj

namespace Cert.Kernel4Ideal.Proj

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the four windows at a grid point: rows by `t / 2`, columns by `t % 2`. -/
theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- After every point the scratch holds the normed rows of the point's row block. -/
theorem scratch (c : Dev nD) : ∀ (n : ℕ) (hn : n < cfg0.N),
    (outsAt0 m c n hn).2 = k0_pay1 (F := Ideal) (iblk m c 0 ⟨n, hn⟩) (iblk m c 1 ⟨n, hn⟩)
  | 0, hn => by
    rw [outsAt0_A m c ⟨0, hn⟩ (Nat.zero_mod _)]
    frame_out
  | n + 1, hn => by
    by_cases h : (n + 1) % 2 = 0
    · rw [outsAt0_A m c ⟨n + 1, hn⟩ h]
      frame_out
    · rw [outsAt0_B m c ⟨n + 1, hn⟩ h]
      have ih := scratch c n (Nat.lt_of_succ_lt hn)
      have e0 : iblk m c 0 ⟨n, Nat.lt_of_succ_lt hn⟩ = iblk m c 0 ⟨n + 1, hn⟩ := by
        blk_ext! [iblk, V, idx ⟨n, Nat.lt_of_succ_lt hn⟩, idx ⟨n + 1, hn⟩]
      have e1 : iblk m c 1 ⟨n, Nat.lt_of_succ_lt hn⟩ = iblk m c 1 ⟨n + 1, hn⟩ := by
        blk_ext! [iblk, V, idx ⟨n, Nat.lt_of_succ_lt hn⟩, idx ⟨n + 1, hn⟩]
      rw [← e0, ← e1, ← ih]
      rfl

/-- What a point leaves in the output block: the product of the normed rows with the weight tile. -/
theorem tile (c : Dev nD) (t : Fin cfg0.N) :
    (outsAt0 m c t.val t.isLt).1
      = k0_pay2 (F := Ideal) (k0_pay1 (iblk m c 0 t) (iblk m c 1 t)) (iblk m c 2 t) := by
  by_cases h : t.val % 2 = 0
  · rw [outsAt0_A m c t h]
    frame_out
  · have hs := scratch m c t.val t.isLt
    rw [outsAt0_B m c t h] at hs ⊢
    replace hs : (outsAt0 m c (t.val - 1) (Nat.lt_of_le_of_lt (Nat.sub_le _ _) t.isLt)).2
        = k0_pay1 (F := Ideal) (iblk m c 0 t) (iblk m c 1 t) := hs
    rw [← hs]
    frame_out
    exact congrFun (congrArg _ (Memref.IsWhole.read_unread _ _)) _

/-- A stored tile read at a place is the reference's result at the array index of the place. -/
theorem point (c : Dev nD) (t : Fin cfg0.N) (y) :
    k0_pay2 (F := Ideal) (k0_pay1 (iblk m c 0 t) (iblk m c 1 t)) (iblk m c 2 t) y
      = Cert.Reference4Ideal.Proj.REF (m ((c : Thread nD τ).loc main_arg0)) (m ((c : Thread nD τ).loc main_arg1))
          (m ((c : Thread nD τ).loc main_arg2)) (((cfg0.win 3).blk t).view.emb y) := by
  pointwise [k0_pay2, k0_pay1, Cert.Reference4Ideal.Proj.REF]
  blk_point [iblk, V, idx t]

/-- The result array after the run is the reference's result. -/
theorem final (c : Dev nD) : (dats m 0 c).arrAt 3 cfg0.N
    = Cert.Reference4Ideal.Proj.REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, tile]
  exact point m c t y

end Cert.Kernel4Ideal.Proj

end
-- ==== Proof.Merge5.lean ====
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

/-! The gated merge and the output projection: the kernel keeps the merged rows of a row block in a scratch while it
    walks the column tiles of the output weights; every tile is the reference's result read there. -/

noncomputable section

namespace Cert.Reference5Ideal.Merge

open Cert.Reference5Ideal Cert.Reference5Ideal.Gen Idealize.ShloMosaic Idealize.ShloMosaic.TcCoe

/-- The reference's result over its argument arrays. -/
def REF (a0 : FVec Ideal S32768x2048 .f32) (a1 : FVec Ideal S32768x1024 .bf16) (a2 : FVec Ideal S32768x1024 .bf16) (a3 : FVec Ideal S32768x4096 .f32) (a4 : FVec Ideal S1x1024x2048 .f32) (a5 : FVec Ideal S1x1024x2048 .f32) (a6 : FVec Ideal S1x2048x2048 .f32) :
    FVec Ideal S32768x2048 .f32 :=
  addf a0 (Host.dotGeneral dot_S32768x2048_S2048x2048_S32768x2048_1_0_0_1_n_n none (addf (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 0] a3 slices_S32768x4096_S32768x2048_0_0))))) (Host.dotGeneral dot_S32768x1024_S1024x2048_S32768x2048_1_0_0_1_n_n none (extf .f32 a1 bitsLt_bf16_f32) (shapeCast _ a4 shapeCasts_S1x1024x2048_S1024x2048))) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 2048] a3 slices_S32768x4096_S32768x2048_0_2048))))) (Host.dotGeneral dot_S32768x1024_S1024x2048_S32768x2048_1_0_0_1_n_n none (extf .f32 a2 bitsLt_bf16_f32) (shapeCast _ a5 shapeCasts_S1x1024x2048_S1024x2048)))) (shapeCast _ a6 shapeCasts_S1x2048x2048_S2048x2048))

end Cert.Reference5Ideal.Merge

namespace Cert.Kernel5Ideal.Merge

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the nine windows at a grid point: rows by `t / 4`, columns by `t % 4`. -/
theorem idx : ∀ t : Fin cfg0.N, win0_0.index t = ![t.val / 4, t.val % 4] ∧ win0_1.index t = ![t.val / 4, 0]
    ∧ win0_2.index t = ![t.val / 4, 0] ∧ win0_3.index t = ![t.val / 4, 0] ∧ win0_4.index t = ![t.val / 4, 1]
    ∧ win0_5.index t = ![0, 0] ∧ win0_6.index t = ![0, 0] ∧ win0_7.index t = ![0, t.val % 4]
    ∧ win0_8.index t = ![t.val / 4, t.val % 4] :=
  (by decide +kernel : ∀ t : Fin grid0.N, _)

/-- After every point the scratch holds the merged rows of the point's row block. -/
theorem scratch (c : Dev nD) : ∀ (n : ℕ) (hn : n < cfg0.N),
    (outsAt0 m c n hn).2 = k0_pay1 (F := Ideal) (iblk m c 3 ⟨n, hn⟩) (iblk m c 1 ⟨n, hn⟩) (iblk m c 5 ⟨n, hn⟩) (iblk m c 4 ⟨n, hn⟩) (iblk m c 2 ⟨n, hn⟩) (iblk m c 6 ⟨n, hn⟩)
  | 0, hn => by
    rw [outsAt0_A m c ⟨0, hn⟩ (Nat.zero_mod _)]
    frame_out
  | n + 1, hn => by
    by_cases h : (n + 1) % 4 = 0
    · rw [outsAt0_A m c ⟨n + 1, hn⟩ h]
      frame_out
    · rw [outsAt0_B m c ⟨n + 1, hn⟩ h]
      have ih := scratch c n (Nat.lt_of_succ_lt hn)
      have e1 : iblk m c 1 ⟨n, Nat.lt_of_succ_lt hn⟩ = iblk m c 1 ⟨n + 1, hn⟩ := by
        blk_ext! [iblk, V, idx ⟨n, Nat.lt_of_succ_lt hn⟩, idx ⟨n + 1, hn⟩]
      have e2 : iblk m c 2 ⟨n, Nat.lt_of_succ_lt hn⟩ = iblk m c 2 ⟨n + 1, hn⟩ := by
        blk_ext! [iblk, V, idx ⟨n, Nat.lt_of_succ_lt hn⟩, idx ⟨n + 1, hn⟩]
      have e3 : iblk m c 3 ⟨n, Nat.lt_of_succ_lt hn⟩ = iblk m c 3 ⟨n + 1, hn⟩ := by
        blk_ext! [iblk, V, idx ⟨n, Nat.lt_of_succ_lt hn⟩, idx ⟨n + 1, hn⟩]
      have e4 : iblk m c 4 ⟨n, Nat.lt_of_succ_lt hn⟩ = iblk m c 4 ⟨n + 1, hn⟩ := by
        blk_ext! [iblk, V, idx ⟨n, Nat.lt_of_succ_lt hn⟩, idx ⟨n + 1, hn⟩]
      have e5 : iblk m c 5 ⟨n, Nat.lt_of_succ_lt hn⟩ = iblk m c 5 ⟨n + 1, hn⟩ := by
        blk_ext! [iblk, V, idx ⟨n, Nat.lt_of_succ_lt hn⟩, idx ⟨n + 1, hn⟩]
      have e6 : iblk m c 6 ⟨n, Nat.lt_of_succ_lt hn⟩ = iblk m c 6 ⟨n + 1, hn⟩ := by
        blk_ext! [iblk, V, idx ⟨n, Nat.lt_of_succ_lt hn⟩, idx ⟨n + 1, hn⟩]
      rw [← e1, ← e2, ← e3, ← e4, ← e5, ← e6, ← ih]
      rfl

/-- What a point leaves in the output block: the input rows plus the product of the merged rows with the weight tile. -/
theorem tile (c : Dev nD) (t : Fin cfg0.N) :
    (outsAt0 m c t.val t.isLt).1
      = k0_pay2 (F := Ideal) (iblk m c 0 t) (k0_pay1 (iblk m c 3 t) (iblk m c 1 t) (iblk m c 5 t) (iblk m c 4 t) (iblk m c 2 t) (iblk m c 6 t)) (iblk m c 7 t) := by
  by_cases h : t.val % 4 = 0
  · rw [outsAt0_A m c t h]
    frame_out
  · have hs := scratch m c t.val t.isLt
    rw [outsAt0_B m c t h] at hs ⊢
    replace hs : (outsAt0 m c (t.val - 1) (Nat.lt_of_le_of_lt (Nat.sub_le _ _) t.isLt)).2
        = k0_pay1 (F := Ideal) (iblk m c 3 t) (iblk m c 1 t) (iblk m c 5 t) (iblk m c 4 t) (iblk m c 2 t) (iblk m c 6 t) := hs
    rw [← hs]
    frame_out
    exact congrArg (fun z => k0_pay2 (F := Ideal) (iblk m c 0 t) z (iblk m c 7 t)) (Memref.IsWhole.read_unread _ _)

/-- A stored tile read at a place is the reference's result at the array index of the place. -/
theorem point (c : Dev nD) (t : Fin cfg0.N) (y) :
    k0_pay2 (F := Ideal) (iblk m c 0 t) (k0_pay1 (iblk m c 3 t) (iblk m c 1 t) (iblk m c 5 t) (iblk m c 4 t) (iblk m c 2 t) (iblk m c 6 t)) (iblk m c 7 t) y
      = Cert.Reference5Ideal.Merge.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  pointwise [k0_pay2, k0_pay1, Cert.Reference5Ideal.Merge.REF]
  simp only [Ideal.logistic]
  blk_point [iblk, V, idx t]

/-- The result array after the run is the reference's result. -/
theorem final (c : Dev nD) : (dats m 0 c).arrAt 8 cfg0.N
    = Cert.Reference5Ideal.Merge.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8, tile]
  exact point m c t y

end Cert.Kernel5Ideal.Merge

end
-- ==== Proof.Ffn7.lean ====
module

public import proofs.«01_k».proof.Proof.Gen.Kernel7Ideal.Value
public import proofs.«01_k».proof.Proof.Gen.Reference7Ideal.Run
public import Idealize.ShloMosaic.Lib.Pipeline.ValueKit
public import proofs.«01_k».proof.Proof.Scale

@[expose] public section

set_option maxRecDepth 16384

/-! The feed-forward half-step: the kernel starts the output rows at the input rows and adds, tile by tile of the hidden
    axis, the gated hidden columns times one half times the output weights; the reference does it in one product. At the rows of the
    sample. -/

noncomputable section

namespace Cert.Reference7Ideal.Ffn

open Cert.Reference7Ideal Cert.Reference7Ideal.Gen Idealize.ShloMosaic Idealize.ShloMosaic.TcCoe

/-- The reference's result over its input rows, one row per token. -/
def CORE (x : FVec Ideal S256x2048 .f32) (a1 : FVec Ideal S1x2048 .f32) (a2 : FVec Ideal S1x2048x11264 .f32) (a3 : FVec Ideal S1x5632x2048 .f32) :
    FVec Ideal S256x2048 .f32 :=
  addf x (mulf (broadcastInDim S256x2048 ![] bcast_S_S256x2048 (constant S_ .f32 0x3F000000#32)) (Host.dotGeneral dot_S256x5632_S5632x2048_S256x2048_1_0_0_1_n_n none (mulf (mulf (extractStridedSlice S256x5632 ![0, 0] (Host.dotGeneral dot_S256x2048_S2048x11264_S256x11264_1_0_0_1_n_n none (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ a1 shapeCasts_S1x2048_S2048)))) (shapeCast _ a2 shapeCasts_S1x2048x11264_S2048x11264)) slices_S256x11264_S256x5632_0_0) (Host.divf (broadcastInDim S256x5632 ![] bcast_S_S256x5632 (constant S_ .f32 0x3F800000#32)) (addf (broadcastInDim S256x5632 ![] bcast_S_S256x5632 (constant S_ .f32 0x3F800000#32)) (Host.exp (Host.negf (extractStridedSlice S256x5632 ![0, 0] (Host.dotGeneral dot_S256x2048_S2048x11264_S256x11264_1_0_0_1_n_n none (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ a1 shapeCasts_S1x2048_S2048)))) (shapeCast _ a2 shapeCasts_S1x2048x11264_S2048x11264)) slices_S256x11264_S256x5632_0_0)))))) (extractStridedSlice S256x5632 ![0, 5632] (Host.dotGeneral dot_S256x2048_S2048x11264_S256x11264_1_0_0_1_n_n none (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ a1 shapeCasts_S1x2048_S2048)))) (shapeCast _ a2 shapeCasts_S1x2048x11264_S2048x11264)) slices_S256x11264_S256x5632_0_5632)) (shapeCast _ a3 shapeCasts_S1x5632x2048_S5632x2048)))

/-- The reference's result over its argument arrays. -/
def REF (a0 : FVec Ideal S8x32x2048 .f32) (a1 : FVec Ideal S1x2048 .f32) (a2 : FVec Ideal S1x2048x11264 .f32)
    (a3 : FVec Ideal S1x5632x2048 .f32) : FVec Ideal S256x2048 .f32 :=
  CORE (shapeCast _ a0 shapeCasts_S8x32x2048_S256x2048) a1 a2 a3

end Cert.Reference7Ideal.Ffn

namespace Cert.Kernel7Ideal.Ffn

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the six windows at a grid point: rows by `t / 11`, hidden columns by `t % 11`, the second
    half of the input weights eleven tiles further. -/
theorem idx : ∀ t : Fin cfg0.N, win0_0.index t = ![t.val / 11, 0] ∧ win0_1.index t = ![0, 0]
    ∧ win0_2.index t = ![0, t.val % 11] ∧ win0_3.index t = ![0, 11 + t.val % 11] ∧ win0_4.index t = ![t.val % 11, 0]
    ∧ win0_5.index t = ![t.val / 11, 0] :=
  (by decide +kernel : ∀ t : Fin grid0.N, _)

/-- After every point the scratch holds the normed rows of the point's row block. -/
theorem scratch (c : Dev nD) : ∀ (n : ℕ) (hn : n < cfg0.N),
    (outsAt0 m c n hn).2 = k0_pay2 (F := Ideal) (iblk m c 0 ⟨n, hn⟩) (iblk m c 1 ⟨n, hn⟩)
  | 0, hn => by
    rw [outsAt0_A m c ⟨0, hn⟩ (Nat.zero_mod _)]
    frame_out
  | n + 1, hn => by
    by_cases h : (n + 1) % 11 = 0
    · rw [outsAt0_A m c ⟨n + 1, hn⟩ h]
      frame_out
    · rw [outsAt0_B m c ⟨n + 1, hn⟩ h]
      have ih := scratch c n (Nat.lt_of_succ_lt hn)
      have e0 : iblk m c 0 ⟨n, Nat.lt_of_succ_lt hn⟩ = iblk m c 0 ⟨n + 1, hn⟩ := by
        blk_ext! [iblk, V, idx ⟨n, Nat.lt_of_succ_lt hn⟩, idx ⟨n + 1, hn⟩]
      have e1 : iblk m c 1 ⟨n, Nat.lt_of_succ_lt hn⟩ = iblk m c 1 ⟨n + 1, hn⟩ := by
        blk_ext! [iblk, V, idx ⟨n, Nat.lt_of_succ_lt hn⟩, idx ⟨n + 1, hn⟩]
      rw [← e0, ← e1]
      exact ih

/-- What a point adds to the output block. -/
def part (c : Dev nD) (t : Fin cfg0.N) : FVec Ideal S256x2048 .f32 :=
  k0_pay3 (F := Ideal) (k0_pay2 (iblk m c 0 t) (iblk m c 1 t)) (iblk m c 2 t) (iblk m c 3 t) (fun _ => (0 : EReal))
    (iblk m c 4 t)

/-- The stored sum is the block before plus what the tile adds. -/
theorem hpay (h : FVec Ideal S256x2048 .bf16) (wg wu : FVec Ideal S2048x512 .bf16) (acc : FVec Ideal S256x2048 .f32)
    (wo : FVec Ideal S512x2048 .bf16) (r : Fin 256) (j : Fin 2048) :
    k0_pay3 (F := Ideal) h wg wu acc wo (ix2 r j)
      = acc (ix2 r j) + k0_pay3 (F := Ideal) h wg wu (fun _ => (0 : EReal)) wo (ix2 r j) := by
  pointwise [k0_pay3]

/-- A copied block is the block. -/
theorem hcopy (x : FVec Ideal S256x2048 .f32) : k0_pay1 (F := Ideal) x = x := by
  funext j
  pointwise [k0_pay1]

/-- The terms of the running sum: the input rows enter at a run's first point. -/
def term (c : Dev nD) (t : Fin cfg0.N) (j : S256x2048.Idx) : EReal :=
  (if t.val % 11 = 0 then (show FVec Ideal S256x2048 .f32 from iblk m c 0 t) j else 0) + part m c t j

/-- The output block at a run's first point. -/
theorem first (c : Dev nD) (t : Fin cfg0.N) (h : t.val % 11 = 0) (j : S256x2048.Idx) :
    (outsAt0 m c t.val t.isLt).1 j = (0 : EReal) + term m c t j := by
  rw [outsAt0_A m c t h]
  frame_out
  idx_vars j
  rw [zero_add]
  refine (hpay _ _ _ _ _ _ _).trans ?_
  unfold term part
  rw [if_pos h, hcopy]
  all_goals rfl

/-- The output block at a run's other points. -/
theorem next (c : Dev nD) (t : Fin cfg0.N) (h : ¬t.val % 11 = 0) (j : S256x2048.Idx) :
    (outsAt0 m c t.val t.isLt).1 j
      = (show EReal from (outsAt0 m c (t.val - 1) (Nat.lt_of_le_of_lt (Nat.sub_le _ _) t.isLt)).1 j) + term m c t j := by
  have hs := scratch m c t.val t.isLt
  rw [outsAt0_B m c t h] at hs ⊢
  replace hs : (outsAt0 m c (t.val - 1) (Nat.lt_of_le_of_lt (Nat.sub_le _ _) t.isLt)).2
      = k0_pay2 (F := Ideal) (iblk m c 0 t) (iblk m c 1 t) := hs
  unfold term part
  rw [if_neg h, zero_add, ← hs]
  frame_out
  idx_vars j
  refine (hpay _ _ _ _ _ _ _).trans ?_
  exact congrArg (fun z => (show EReal from
      (outsAt0 m c (t.val - 1) (Nat.lt_of_le_of_lt (Nat.sub_le _ _) t.isLt)).1 (ix2 j0 j1))
    + k0_pay3 (F := Ideal) z (iblk m c 2 t) (iblk m c 3 t) (fun _ => (0 : EReal)) (iblk m c 4 t) (ix2 j0 j1))
    (Memref.IsWhole.read_unread _ _)

/-- Two points of one row block stage the same input rows. -/
theorem rows (c : Dev nD) (t t' : Fin cfg0.N) (h : t.val / 11 = t'.val / 11) : iblk m c 0 t = iblk m c 0 t' := by
  blk_ext! [iblk, V, idx t, idx t', h]

/-- The block indices at the points of one run. -/
theorem idx_run (t : Fin cfg0.N) (s : Fin 11) (h : 11 * (t.val / 11) + s.val < cfg0.N) :
    win0_0.index ⟨11 * (t.val / 11) + s.val, h⟩ = ![t.val / 11, 0]
    ∧ win0_1.index ⟨11 * (t.val / 11) + s.val, h⟩ = ![0, 0]
    ∧ win0_2.index ⟨11 * (t.val / 11) + s.val, h⟩ = ![0, s.val]
    ∧ win0_3.index ⟨11 * (t.val / 11) + s.val, h⟩ = ![0, 11 + s.val]
    ∧ win0_4.index ⟨11 * (t.val / 11) + s.val, h⟩ = ![s.val, 0] := by
  obtain ⟨h0, h1, h2, h3, h4, _⟩ := idx ⟨11 * (t.val / 11) + s.val, h⟩
  have hs := s.isLt
  have hd : (11 * (t.val / 11) + s.val) / 11 = t.val / 11 := by omega
  have hm : (11 * (t.val / 11) + s.val) % 11 = s.val := by omega
  simp only [hd, hm] at h0 h1 h2 h3 h4
  exact ⟨h0, h1, h2, h3, h4⟩

/-- The output block at the point that writes it back, read at a place: the input rows and the run's parts. -/
theorem last (c : Dev nD) (t : Fin cfg0.N) (hr : t.val % 11 = 11 - 1) (j : S256x2048.Idx) :
    (outsAt0 m c t.val t.isLt).1 j = (show FVec Ideal S256x2048 .f32 from iblk m c 0 t) j
      + ∑ s : Fin 11, part m c ⟨11 * (t.val / 11) + s.val, Pipeline.run_point_lt_of_flush t hr s⟩ j := by
  have e := Pipeline.eq_sum_fin_of_reset_step_apply_of_flush (M := EReal)
    (fun n h => (outsAt0 m c n h).1) 11 (fun _ => 0) (term m c) (first m c) (next m c) t hr j
  refine e.trans ?_
  unfold term
  rw [zero_add, Finset.sum_add_distrib]
  refine congrArg (· + _) ?_
  refine (Finset.sum_eq_single (0 : Fin 11) ?_ (fun hh => absurd (Finset.mem_univ _) hh)).trans ?_
  · intro s _ hne
    refine if_neg ?_
    have hs := s.isLt
    have h0 : s.val ≠ 0 := fun hh => hne (Fin.ext hh)
    show ¬(11 * (t.val / 11) + s.val) % 11 = 0
    omega
  · have hm : (11 * (t.val / 11) + (0 : Fin 11).val) % 11 = 0 := by
      show (11 * (t.val / 11) + 0) % 11 = 0
      omega
    have hd : (11 * (t.val / 11) + (0 : Fin 11).val) / 11 = t.val / 11 := by
      show (11 * (t.val / 11) + 0) / 11 = t.val / 11
      omega
    have e0 := rows m c ⟨11 * (t.val / 11) + (0 : Fin 11).val, Pipeline.run_point_lt_of_flush t hr 0⟩ t hd
    refine (if_pos hm).trans ?_
    exact congrFun e0 j

/-- The input rows, one row per token. -/
@[irreducible] def X2 (c : Dev nD) : FVec Ideal S256x2048 .f32 :=
  shapeCast S256x2048 (m ((c : Thread nD τ).loc main_arg0)) shapeCasts_S8x32x2048_S256x2048

/-- The rows the region reads are the input rows. -/
theorem entry0 (c : Dev nD) : V m c main_v0 = X2 m c := by
  entry_read
  unfold X2
  rfl

/-- A staged input row read at a place. -/
theorem read0 (c : Dev nD) (t : Fin cfg0.N) (r : Fin 256) (k : Fin 2048) :
    iblk m c 0 t (ix2 r k)
      = X2 m c (ix2 (⟨t.val / 11 * 256 + r.val, by
          have h := lt_of_lt_of_eq t.isLt (show cfg0.N = 11 from N_0); omega⟩ : Fin 256) k) := by
  refine (congrFun (entry0 m c) (((cfg0.win 0).blk t).view.emb (ix2 r k))).trans ?_
  blk_ext [idx t]

/-- The written-back block read at a place is the reference's result at the array index of the place. -/
theorem point (c : Dev nD) (t : Fin cfg0.N) (hr : t.val % 11 = 11 - 1) (y) :
    (show FVec Ideal S256x2048 .f32 from iblk m c 0 t) y
      + ∑ s : Fin 11, part m c ⟨11 * (t.val / 11) + s.val, Pipeline.run_point_lt_of_flush t hr s⟩ y
      = Cert.Reference7Ideal.Ffn.CORE (X2 m c) (m ((c : Thread nD τ).loc main_arg1)) (m ((c : Thread nD τ).loc main_arg2)) (m ((c : Thread nD τ).loc main_arg3)) (((cfg0.win 5).blk t).view.emb y) := by
  idx_vars y
  pointwise [part, k0_pay3, k0_pay2, k0_pay1, Cert.Reference7Ideal.Ffn.CORE]
  rw [Cert.Scale.half_mul_sum]
  refine congrArg₂ (· + ·) ?_ ?_
  · refine (read0 m c t _ _).trans ?_
    blk_ext [idx t]
  · refine Fin.sum_mul_add_congr fun s k hl => ?_
    simp only [Ideal.logistic, read0]
    refine (Cert.Scale.move _ _ _).trans ?_
    blk_point [iblk, V, idx_run t s (Pipeline.run_point_lt_of_flush t hr s), idx t]

/-- The result array after the run is the reference's result. -/
theorem final (c : Dev nD) : (dats m 0 c).arrAt 5 cfg0.N
    = Cert.Reference7Ideal.Ffn.REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have e := (last m c t ((flush0_5 t).mp hf) _).trans (point m c t ((flush0_5 t).mp hf) y)
  unfold X2 at e
  exact e

end Cert.Kernel7Ideal.Ffn

end
-- ==== Proof.Claims.lean ====
module

public import proofs.«01_k».proof.Defs
public import proofs.«01_k».proof.Proof.Gen.Kernel2.Frame
public import proofs.«01_k».proof.Proof.Ffn2
public import proofs.«01_k».proof.Proof.Gen.Kernel3.Frame
public import proofs.«01_k».proof.Proof.Proj3
public import proofs.«01_k».proof.Proof.Gen.Kernel4.Frame
public import proofs.«01_k».proof.Proof.Proj4
public import proofs.«01_k».proof.Proof.Gen.Kernel5.Frame
public import proofs.«01_k».proof.Proof.Merge5
public import proofs.«01_k».proof.Proof.Gen.Kernel7.Frame
public import proofs.«01_k».proof.Proof.Ffn7

@[expose] public section

set_option maxRecDepth 16384

/-! The claims of the feed-forward half-step, the two projections and the gated merge. -/

noncomputable section

namespace Cert.Proof

open Idealize.ShloMosaic Idealize.SL.Sem

/-- The feed-forward half-step ends with its arguments unchanged and its counters at zero. -/
theorem frame_Kernel2 : Cert.quiescent_Kernel2 := fun m ρ _ => Cert.Kernel2.Gen.frame m ρ

/-- So does its idealized program. -/
theorem frame_Kernel2Ideal : Cert.quiescent_Kernel2Ideal := fun m ρ _ => Cert.Kernel2Ideal.Gen.frame m ρ

/-- So does its reference. -/
theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealized program of the feed-forward half-step is the program: nothing was rewritten. -/
theorem preserves2 : Cert.preserves_Kernel2_Kernel2Ideal := trivial

/-- The feed-forward half-step and its reference end with the same result on the same arguments. -/
theorem algebraic2 : Cert.algebraic_Kernel2Ideal_Reference2Ideal := by
  intro m ρ m' ρ' _ hag
  refine ⟨fun c => Cert.Reference2Ideal.Ffn.REF (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), ?_, ?_⟩
  · exact (θ_run Cert.Kernel2Ideal.defs _ _).mono (fun _ h c => ⟨(h c).1.trans (Cert.Kernel2Ideal.Ffn.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2, h3⟩ := hag c
    show Cert.Reference2Ideal.Ffn.REF (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) = _
    rw [h0, h1, h2, h3]

/-- The projection to the recurrence columns ends with its arguments unchanged and its counters at zero. -/
theorem frame_Kernel3 : Cert.quiescent_Kernel3 := fun m ρ _ => Cert.Kernel3.Gen.frame m ρ

/-- So does its idealized program. -/
theorem frame_Kernel3Ideal : Cert.quiescent_Kernel3Ideal := fun m ρ _ => Cert.Kernel3Ideal.Gen.frame m ρ

/-- So does its reference. -/
theorem frame_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealized program of the projection to the recurrence columns is the program: nothing was rewritten. -/
theorem preserves3 : Cert.preserves_Kernel3_Kernel3Ideal := trivial

/-- The projection to the recurrence columns and its reference end with the same result on the same arguments. -/
theorem algebraic3 : Cert.algebraic_Kernel3Ideal_Reference3Ideal := by
  intro m ρ m' ρ' _ hag
  refine ⟨fun c => Cert.Reference3Ideal.Proj.REF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), ?_, ?_⟩
  · exact (θ_run Cert.Kernel3Ideal.defs _ _).mono (fun _ h c => ⟨(h c).1.trans (Cert.Kernel3Ideal.Proj.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1, h2⟩ := hag c
    show Cert.Reference3Ideal.Proj.REF (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]

/-- The projection to the gate columns ends with its arguments unchanged and its counters at zero. -/
theorem frame_Kernel4 : Cert.quiescent_Kernel4 := fun m ρ _ => Cert.Kernel4.Gen.frame m ρ

/-- So does its idealized program. -/
theorem frame_Kernel4Ideal : Cert.quiescent_Kernel4Ideal := fun m ρ _ => Cert.Kernel4Ideal.Gen.frame m ρ

/-- So does its reference. -/
theorem frame_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The idealized program of the projection to the gate columns is the program: nothing was rewritten. -/
theorem preserves4 : Cert.preserves_Kernel4_Kernel4Ideal := trivial

/-- The projection to the gate columns and its reference end with the same result on the same arguments. -/
theorem algebraic4 : Cert.algebraic_Kernel4Ideal_Reference4Ideal := by
  intro m ρ m' ρ' _ hag
  refine ⟨fun c => Cert.Reference4Ideal.Proj.REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), ?_, ?_⟩
  · exact (θ_run Cert.Kernel4Ideal.defs _ _).mono (fun _ h c => ⟨(h c).1.trans (Cert.Kernel4Ideal.Proj.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    obtain ⟨h0, h1, h2⟩ := hag c
    show Cert.Reference4Ideal.Proj.REF (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
    rw [h0, h1, h2]

/-- The gated merge ends with its arguments unchanged and its counters at zero. -/
theorem frame_Kernel5 : Cert.quiescent_Kernel5 := fun m ρ _ => Cert.Kernel5.Gen.frame m ρ

/-- So does its idealized program. -/
theorem frame_Kernel5Ideal : Cert.quiescent_Kernel5Ideal := fun m ρ _ => Cert.Kernel5Ideal.Gen.frame m ρ

/-- So does its reference. -/
theorem frame_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The idealized program of the gated merge is the program: nothing was rewritten. -/
theorem preserves5 : Cert.preserves_Kernel5_Kernel5Ideal := trivial

/-- The gated merge and its reference end with the same result on the same arguments. -/
theorem algebraic5 : Cert.algebraic_Kernel5Ideal_Reference5Ideal := by
  intro m ρ m' ρ' _ hag
  refine ⟨fun c => Cert.Reference5Ideal.Merge.REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)), ?_, ?_⟩
  · exact (θ_run Cert.Kernel5Ideal.defs _ _).mono (fun _ h c => ⟨(h c).1.trans (Cert.Kernel5Ideal.Merge.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨h0, h1, h2, h3, h4, h5, h6⟩ := hag c
    show Cert.Reference5Ideal.Merge.REF (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = _
    rw [h0, h1, h2, h3, h4, h5, h6]

/-- The feed-forward half-step at the rows of the sample ends with its arguments unchanged and its counters at zero. -/
theorem frame_Kernel7 : Cert.quiescent_Kernel7 := fun m ρ _ => Cert.Kernel7.Gen.frame m ρ

/-- So does its idealized program. -/
theorem frame_Kernel7Ideal : Cert.quiescent_Kernel7Ideal := fun m ρ _ => Cert.Kernel7Ideal.Gen.frame m ρ

/-- So does its reference. -/
theorem frame_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The idealized program of the feed-forward half-step at the rows of the sample is the program: nothing was rewritten. -/
theorem preserves7 : Cert.preserves_Kernel7_Kernel7Ideal := trivial

/-- The feed-forward half-step at the rows of the sample and its reference end with the same result on the same arguments. -/
theorem algebraic7 : Cert.algebraic_Kernel7Ideal_Reference7Ideal := by
  intro m ρ m' ρ' _ hag
  refine ⟨fun c => Cert.Reference7Ideal.Ffn.REF (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)), ?_, ?_⟩
  · exact (θ_run Cert.Kernel7Ideal.defs _ _).mono (fun _ h c => ⟨(h c).1.trans (Cert.Kernel7Ideal.Ffn.final m c), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    obtain ⟨h0, h1, h2, h3⟩ := hag c
    show Cert.Reference7Ideal.Ffn.REF (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) = _
    rw [h0, h1, h2, h3]

end Cert.Proof

end
-- ==== Proof.PrepRead.lean ====
module

public import proofs.«01_k».proof.Proof.Gen.Kernel6Ideal.Value
public import Idealize.ShloMosaic.Lib.Pipeline.ValueKit

@[expose] public section

set_option maxRecDepth 16384

/-! What the kernel that prepares the attention finds in its windows: the rows, the packed weight, the gains repeated
    over the heads and the two selectors of the heads. -/

noncomputable section

namespace Cert.Kernel6Ideal.Prep

open Cert.Kernel6Ideal Cert.Kernel6Ideal.Gen Idealize.ShloMosaic Idealize.ShloMosaic.TcCoe Idealize.SL.Sem
open Idealize.ShloMosaic.Pipeline (Dat)

/-- The weight as the kernel packs it: the columns it reads in one piece, then two pieces filled up to full lanes. -/
def PACK (a2 : FVec Ideal S1x2048x10832 .f32) : FVec Ideal S2048x2816 .bf16 :=
  truncf .bf16 (concatenate S2048x2816 1 [⟨S2048x2560, extractStridedSlice S2048x2560 ![0, 0] (shapeCast S2048x10832 a2 shapeCasts_S1x2048x10832_S2048x10832) slices_S2048x10832_S2048x2560_0_0⟩,
    ⟨S2048x128, pad S2048x128 ![0, 0] ![0, 64] ![0, 0] (extractStridedSlice S2048x64 ![0, 2560] (shapeCast S2048x10832 a2 shapeCasts_S1x2048x10832_S2048x10832) slices_S2048x10832_S2048x64_0_2560) (sitofp .f32 (constantI S_ 32 0#32) : FVec Ideal S_ .f32) pads_S2048x64_S2048x128_000_0640 h_S_⟩,
    ⟨S2048x128, pad S2048x128 ![0, 0] ![0, 112] ![0, 0] (extractStridedSlice S2048x16 ![0, 2624] (shapeCast S2048x10832 a2 shapeCasts_S1x2048x10832_S2048x10832) slices_S2048x10832_S2048x16_0_2624) (sitofp .f32 (constantI S_ 32 0#32) : FVec Ideal S_ .f32) pads_S2048x16_S2048x128_000_01120 h_S_⟩] concatenates_S2048x2560_S2048x128_S2048x128_S2048x2816_d1) bitsLt_bf16_f32

/-- The queries' gain over all heads, scaled. -/
def GAINQ (a3 : FVec Ideal S1x64 .f32) : FVec Ideal S1x1024 .f32 :=
  shapeCast S1x1024 (mulf (shapeCast S1024 (broadcastInDim S16x64 ![0, 1] bcast_S1x64_S16x64_0_1 (shapeCast S1x64 (shapeCast S64 a3 shapeCasts_S1x64_S64) shapeCasts_S64_S1x64)) shapeCasts_S16x64_S1024) (broadcastInDim S1024 ![] bcast_S_S1024 (constant S_ .f32 0x3E38AA3B#32))) shapeCasts_S1024_S1x1024

/-- The keys' gain over all heads. -/
def GAINK (a4 : FVec Ideal S1x64 .f32) : FVec Ideal S1x256 .f32 :=
  shapeCast S1x256 (shapeCast S256 (broadcastInDim S4x64 ![0, 1] bcast_S1x64_S4x64_0_1 (shapeCast S1x64 (shapeCast S64 a4 shapeCasts_S1x64_S64) shapeCasts_S64_S1x64)) shapeCasts_S4x64_S256) shapeCasts_S256_S1x256

/-- The selector of the queries' heads. -/
def SELQ : FVec Ideal S1024x128 .bf16 :=
  truncf .bf16 (shapeCast S1024x128 (select (cmpi .eq (iotaInDim S16x64x128 32 0) (iotaInDim S16x64x128 32 2)) (broadcastInDim S16x64x128 ![] bcast_S_S16x64x128 (constant S_ .f32 0x3F800000#32)) (broadcastInDim S16x64x128 ![] bcast_S_S16x64x128 (constant S_ .f32 0x00000000#32)) : FVec Ideal S16x64x128 .f32) shapeCasts_S16x64x128_S1024x128) bitsLt_bf16_f32

/-- The selector of the keys' heads. -/
def SELK : FVec Ideal S256x128 .bf16 :=
  truncf .bf16 (shapeCast S256x128 (select (cmpi .eq (iotaInDim S4x64x128 32 0) (iotaInDim S4x64x128 32 2)) (broadcastInDim S4x64x128 ![] bcast_S_S4x64x128 (constant S_ .f32 0x3F800000#32)) (broadcastInDim S4x64x128 ![] bcast_S_S4x64x128 (constant S_ .f32 0x00000000#32)) : FVec Ideal S4x64x128 .f32) shapeCasts_S4x64x128_S256x128) bitsLt_bf16_f32

variable (m : (ℓ : Loc nD τ sig) → Buf (Elt Ideal) ℓ) (c : Dev nD)

/-- The block indices of the windows: the rows and the results move with the grid point, the rest stays. -/
theorem idx : ∀ t : Fin cfg0.N, (win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0]) ∧ (win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0]
    ∧ win0_17.index t = ![t.val, 0]) ∧ t.val < 64 :=
  (by decide +kernel : ∀ t : Fin grid0.N, _)

/-- The norm's weight as the kernel finds it. -/
theorem entry8 : V m c main_v8 = shapeCast S1x2048 (shapeCast S2048 (m ((c.tc : Thread nD τ).loc main_arg1)) shapeCasts_S1x2048_S2048) shapeCasts_S2048_S1x2048 := by
  entry_read
  rfl

/-- The packed weight as the kernel finds it. -/
theorem entry9 : V m c main_v9 = PACK (m ((c.tc : Thread nD τ).loc main_arg2)) := by
  entry_read
  rfl

/-- The queries' gain as the kernel finds it. -/
theorem entry16 : V m c main_v16 = GAINQ (m ((c.tc : Thread nD τ).loc main_arg3)) := by
  entry_read
  rfl

/-- The keys' gain as the kernel finds it. -/
theorem entry21 : V m c main_v21 = GAINK (m ((c.tc : Thread nD τ).loc main_arg4)) := by
  entry_read
  rfl

/-- The selectors as the kernel finds them. -/
theorem entry27 : V m c main_v27 = SELQ := by
  entry_read
  rfl

/-- The transposed selector of the queries' heads as the kernel finds it. -/
theorem entry28 : V m c main_v28 = transpose S128x1024 [1, 0] SELQ transposes_S1024x128_S128x1024_1_0 := by
  entry_read
  rfl

/-- The selector of the keys' heads as the kernel finds it. -/
theorem entry34 : V m c main_v34 = SELK := by
  entry_read
  rfl

/-- The transposed selector of the keys' heads as the kernel finds it. -/
theorem entry35 : V m c main_v35 = transpose S128x256 [1, 0] SELK transposes_S256x128_S128x256_1_0 := by
  entry_read
  rfl

/-- The packed weight at its first columns is the weight there. -/
theorem w_low (a2 : FVec Ideal S1x2048x10832 .f32) (k : Fin 2048) (C : Fin 2816) (h : C.val < 2560) :
    PACK a2 (ix2 k C) = a2 (ix3 0 k ⟨C.val, by omega⟩) := by
  pointwise [PACK]
  rw [dif_pos h]

/-- The packed weight at the columns of the indexer's keys. -/
theorem w_ki (a2 : FVec Ideal S1x2048x10832 .f32) (k : Fin 2048) (j : Fin 64) :
    PACK a2 (ix2 k ⟨2560 + j.val, by omega⟩) = a2 (ix3 0 k ⟨2560 + j.val, by omega⟩) := by
  pointwise [PACK]
  rw [dif_pos (by omega)]

/-- The packed weight at the columns of the indexer's head weights. -/
theorem w_wi (a2 : FVec Ideal S1x2048x10832 .f32) (k : Fin 2048) (j : Fin 16) :
    PACK a2 (ix2 k ⟨2688 + j.val, by omega⟩) = a2 (ix3 0 k ⟨2624 + j.val, by omega⟩) := by
  have e : 2688 + j.val - 2560 - 128 = j.val := by omega
  pointwise [PACK]
  rw [dif_neg (by omega), dif_neg (by omega), dif_pos (by omega)]
  simp only [e]

/-- The queries' gain at a column. -/
theorem gain_q (a3 : FVec Ideal S1x64 .f32) (j : Fin 1024) :
    GAINQ a3 (ix2 0 j) = (show EReal from a3 (ix2 0 ⟨j.val % 64, by omega⟩)) * Ideal.ofBits .f32 0x3E38AA3B#32 := by
  pointwise [GAINQ]

/-- The keys' gain at a column. -/
theorem gain_k (a4 : FVec Ideal S1x64 .f32) (j : Fin 256) : GAINK a4 (ix2 0 j) = a4 (ix2 0 ⟨j.val % 64, by omega⟩) := by
  pointwise [GAINK]

/-- A selection by the comparison of two small words is the selection by their numbers. -/
theorem select_eq (a b : ℕ) (ha : a < 4096) (hb : b < 4096) :
    Scalar.select (IntOp.cmpi .eq (BitVec.ofNat 32 a) (BitVec.ofNat 32 b)) (1 : EReal) 0 = if a = b then 1 else 0 := by
  by_cases h : a = b
  · subst h
    rw [if_pos rfl, IntOp.cmpi_eq_self]
    rfl
  · have hn : BitVec.ofNat 32 a ≠ BitVec.ofNat 32 b := fun q => h (by
      have := congrArg BitVec.toNat q
      simp only [BitVec.toNat_ofNat] at this
      omega)
    have e : IntOp.cmpi .eq (BitVec.ofNat 32 a) (BitVec.ofNat 32 b) = 0#1 := by
      show BitVec.ofBool (BitVec.ofNat 32 a == BitVec.ofNat 32 b) = 0#1
      rw [beq_eq_false_iff_ne.2 hn]
      rfl
    rw [if_neg h, e]
    rfl

/-- The selector of the queries' heads: one where the column's head is the lane, zero elsewhere. -/
theorem sel_q (i : Fin 1024) (j : Fin 128) : SELQ (ix2 i j) = if i.val / 64 = j.val then (1 : EReal) else 0 := by
  pointwise [SELQ]
  exact select_eq _ _ (by omega) (by omega)

/-- The selector of the keys' heads. -/
theorem sel_k (i : Fin 256) (j : Fin 128) : SELK (ix2 i j) = if i.val / 64 = j.val then (1 : EReal) else 0 := by
  pointwise [SELK]
  exact select_eq _ _ (by omega) (by omega)

end Cert.Kernel6Ideal.Prep

end
-- ==== Proof.PrepMath.lean ====
module

public import proofs.«01_k».proof.Proof.Gen.Kernel6Ideal.Value
public import Idealize.ShloMosaic.Lib.Pipeline.ValueKit

@[expose] public section

set_option maxRecDepth 16384

/-! The arithmetic of the head norms: over real rows the three parts a number is split into before a product are the
    number, zero and zero, and the product with a selector of the heads is the sum over one head. -/

noncomputable section

namespace Cert.Kernel6Ideal.Prep

open Cert.Kernel6Ideal Cert.Kernel6Ideal.Gen Idealize.ShloMosaic Idealize.ShloMosaic.TcCoe Idealize.SL.Sem

/-- A real number less itself is zero. -/
theorem sub_coe (x : ℝ) : (x : EReal) - (x : EReal) = 0 := by
  rw [← EReal.coe_sub, sub_self, EReal.coe_zero]

/-- The sum over the columns of a row that the selector of a head keeps is the sum over the head's columns. -/
theorem regroup (H : ℕ) (f : Fin (H * 64) → EReal) (h : Fin H) :
    ∑ i : Fin (H * 64), f i * (if i.val / 64 = h.val then (1 : EReal) else 0)
      = ∑ e : Fin 64, f ⟨h.val * 64 + e.val, by have := h.isLt; have := e.isLt; omega⟩ := by
  rw [← Fintype.sum_equiv finProdFinEquiv (fun x : Fin H × Fin 64 => f (finProdFinEquiv x)
    * (if (finProdFinEquiv x).val / 64 = h.val then (1 : EReal) else 0)) _ (fun x => rfl), Fintype.sum_prod_type]
  rw [Finset.sum_eq_single h]
  · refine Finset.sum_congr rfl fun e _ => ?_
    have hv : (finProdFinEquiv (h, e)).val = e.val + 64 * h.val := rfl
    have he : (finProdFinEquiv (h, e)).val / 64 = h.val := by
      rw [hv]; have := e.isLt; omega
    rw [if_pos he, mul_one]
    exact congrArg f (Fin.ext (by rw [hv]; show _ = h.val * 64 + e.val; omega))
  · intro h' _ hne
    refine Finset.sum_eq_zero fun e _ => ?_
    have hv : (finProdFinEquiv (h', e)).val = e.val + 64 * h'.val := rfl
    rw [if_neg, mul_zero]
    rw [hv]
    have := e.isLt
    have : h'.val ≠ h.val := fun q => hne (Fin.ext q)
    omega
  · exact fun q => absurd (Finset.mem_univ _) q

/-- The sum over the lanes that the transposed selector keeps is the lane of the column's head. -/
theorem expand (f : Fin 128 → EReal) (n : ℕ) (hn : n < 128) :
    ∑ j : Fin 128, f j * (if n = j.val then (1 : EReal) else 0) = f ⟨n, hn⟩ := by
  rw [Finset.sum_eq_single ⟨n, hn⟩]
  · rw [if_pos rfl, mul_one]
  · intro j _ hne
    rw [if_neg (fun q => hne (Fin.ext q.symm)), mul_zero]
  · exact fun q => absurd (Finset.mem_univ _) q

/-- The word of one sixty-fourth. -/
theorem c64 : Ideal.ofBits .f32 0x3C800000#32 = ((1 / 64 : ℝ) : EReal) := by
  simp [Ideal.ofBits, Ideal.ieee, -EReal.coe_mul]
  norm_num

/-- The word of sixty-four. -/
theorem d64 : Ideal.ofBits .f32 0x42800000#32 = ((64 : ℝ) : EReal) := by
  simp [Ideal.ofBits, Ideal.ieee, -EReal.coe_mul]
  norm_num

/-- The word of two thousand and forty-eight. -/
theorem d2048 : Ideal.ofBits .f32 0x45000000#32 = ((2048 : ℝ) : EReal) := by
  simp [Ideal.ofBits, Ideal.ieee, -EReal.coe_mul]
  norm_num

/-- The small number under the roots is a positive real. -/
theorem eps : ∃ ε : ℝ, 0 < ε ∧ Ideal.ofBits .f32 0x358637BD#32 = (ε : EReal) := by
  refine ⟨(8796093 : ℝ) * (1 / 8796093022208), by norm_num, ?_⟩
  simp [Ideal.ofBits, Ideal.ieee, -EReal.coe_mul]
  norm_num

/-- Coercing a sum of reals. -/
theorem coe_sum {ι : Type} [Fintype ι] (f : ι → ℝ) : ((∑ i, f i : ℝ) : EReal) = ∑ i, (f i : EReal) := by
  classical
  have : ∀ s : Finset ι, ((∑ i ∈ s, f i : ℝ) : EReal) = ∑ i ∈ s, (f i : EReal) := fun s => by
    induction s using Finset.induction_on with
    | empty => simp
    | insert a s ha ih => rw [Finset.sum_insert ha, Finset.sum_insert ha, EReal.coe_add, ih]
  exact this _

/-- The reciprocal root over a sum of selected squares is a real. -/
theorem root_real {N : ℕ} (p : Fin N → ℝ) (n : ℕ) : ∃ r : ℝ,
    Ideal.rsqrt ((∑ i : Fin N, (p i : EReal) * (p i : EReal) * (if i.val / 64 = n then (1 : EReal) else 0))
      * Ideal.ofBits .f32 0x3C800000#32 + Ideal.ofBits .f32 0x358637BD#32) = (r : EReal) := by
  obtain ⟨ε, hε, he⟩ := eps
  have e : ∀ i : Fin N, (p i : EReal) * (p i : EReal) * (if i.val / 64 = n then (1 : EReal) else 0)
      = ((p i * p i * (if i.val / 64 = n then 1 else 0) : ℝ) : EReal) := fun i => by
    by_cases h : i.val / 64 = n
    · rw [if_pos h, if_pos h, mul_one, mul_one, EReal.coe_mul]
    · rw [if_neg h, if_neg h, mul_zero, mul_zero, EReal.coe_zero]
  have h0 : 0 ≤ ∑ i : Fin N, p i * p i * (if i.val / 64 = n then (1 : ℝ) else 0) :=
    Finset.sum_nonneg fun i _ => mul_nonneg (mul_self_nonneg _) (by split <;> norm_num)
  simp only [e]
  rw [← coe_sum, c64, he, ← EReal.coe_mul, ← EReal.coe_add, Ideal.rsqrt_coe, if_neg (by linarith), if_neg (by linarith)]
  exact ⟨_, rfl⟩

/-- The reciprocal root of the queries' head norms, over real projections. -/
theorem pay6_point (x0 : FVec Ideal S512x2048 .f32) (x1 : FVec Ideal S1x2048 .f32) (w : FVec Ideal S2048x1024 .bf16)
    (T : FVec Ideal S1024x128 .bf16) (hT : ∀ i j, T (ix2 i j) = if i.val / 64 = j.val then (1 : EReal) else 0)
    (y : Fin 512) (p : Fin 1024 → ℝ) (hp : ∀ i, k0_pay5 (F := Ideal) x0 x1 w (ix2 y i) = (p i : EReal)) (j : Fin 128) :
    k0_pay6 (F := Ideal) x0 x1 w T (ix2 y j)
      = Ideal.rsqrt ((∑ i : Fin 1024, (p i : EReal) * (p i : EReal) * (if i.val / 64 = j.val then (1 : EReal) else 0))
          * Ideal.ofBits .f32 0x3C800000#32 + Ideal.ofBits .f32 0x358637BD#32) := by
  pointwise [k0_pay6]
  simp only [hp, hT, ← EReal.coe_mul, sub_coe, sub_zero, zero_mul, Finset.sum_const_zero, add_zero]

/-- The queries a point stores, over real projections: the projection times its head's root times the gain. -/
theorem pay7_point (x0 : FVec Ideal S512x2048 .f32) (x1 : FVec Ideal S1x2048 .f32) (w : FVec Ideal S2048x1024 .bf16)
    (T : FVec Ideal S1024x128 .bf16) (hT : ∀ i j, T (ix2 i j) = if i.val / 64 = j.val then (1 : EReal) else 0)
    (U : FVec Ideal S128x1024 .bf16) (hU : ∀ j i, U (ix2 j i) = if i.val / 64 = j.val then (1 : EReal) else 0)
    (g : FVec Ideal S1x1024 .f32)
    (y : Fin 512) (p : Fin 1024 → ℝ) (hp : ∀ i, k0_pay5 (F := Ideal) x0 x1 w (ix2 y i) = (p i : EReal)) (h : Fin 16) (e : Fin 64) :
    k0_pay7 (F := Ideal) (k0_pay5 x0 x1 w) (k0_pay6 x0 x1 w T) U g (ix2 y ⟨h.val * 64 + e.val, by omega⟩)
      = (p ⟨h.val * 64 + e.val, by omega⟩ : EReal)
        * Ideal.rsqrt ((∑ e' : Fin 64, ((p ⟨h.val * 64 + e'.val, by omega⟩ : ℝ) : EReal) * (p ⟨h.val * 64 + e'.val, by omega⟩ : ℝ))
          * Ideal.ofBits .f32 0x3C800000#32 + Ideal.ofBits .f32 0x358637BD#32)
        * (show EReal from g (ix2 0 ⟨h.val * 64 + e.val, by omega⟩)) := by
  have hr := pay6_point x0 x1 w T hT y p hp
  choose r r_eq using fun j : Fin 128 => root_real p j.val
  have hd : (h.val * 64 + e.val) / 64 = h.val := by omega
  have reg := regroup 16 (fun i => (p i : EReal) * (p i : EReal)) h
  pointwise [k0_pay7]
  simp only [hp, hU, hr, r_eq, sub_coe, sub_zero, zero_mul, Finset.sum_const_zero, add_zero, hd]
  rw [expand _ h.val (by omega), ← r_eq]
  exact congrArg (fun s : EReal => (p ⟨h.val * 64 + e.val, by omega⟩ : EReal) * Ideal.rsqrt (s * Ideal.ofBits .f32 0x3C800000#32 + Ideal.ofBits .f32 0x358637BD#32) * (show EReal from g (ix2 0 ⟨h.val * 64 + e.val, by omega⟩))) reg

/-- The argument of the root of the keys' head norms, over real projections. -/
theorem pay9_point (x : FVec Ideal S512x2048 .bf16) (w : FVec Ideal S2048x256 .bf16)
    (T : FVec Ideal S256x128 .bf16) (hT : ∀ i j, T (ix2 i j) = if i.val / 64 = j.val then (1 : EReal) else 0)
    (y : Fin 512) (p : Fin 256 → ℝ) (hp : ∀ i, k0_pay8 (F := Ideal) x w (ix2 y i) = (p i : EReal)) (j : Fin 128) :
    k0_pay9 (F := Ideal) x w T (ix2 y j)
      = (∑ i : Fin 256, (p i : EReal) * (p i : EReal) * (if i.val / 64 = j.val then (1 : EReal) else 0))
          * Ideal.ofBits .f32 0x3C800000#32 + Ideal.ofBits .f32 0x358637BD#32 := by
  pointwise [k0_pay9]
  simp only [hp, hT, ← EReal.coe_mul, sub_coe, sub_zero, zero_mul, Finset.sum_const_zero, add_zero]

/-- The keys a point stores, over real projections: the projection times its head's root times the gain. -/
theorem pay10_point (x : FVec Ideal S512x2048 .bf16) (w : FVec Ideal S2048x256 .bf16)
    (T : FVec Ideal S256x128 .bf16) (hT : ∀ i j, T (ix2 i j) = if i.val / 64 = j.val then (1 : EReal) else 0)
    (U : FVec Ideal S128x256 .bf16) (hU : ∀ j i, U (ix2 j i) = if i.val / 64 = j.val then (1 : EReal) else 0)
    (g : FVec Ideal S1x256 .f32)
    (y : Fin 512) (p : Fin 256 → ℝ) (hp : ∀ i, k0_pay8 (F := Ideal) x w (ix2 y i) = (p i : EReal)) (h : Fin 4) (e : Fin 64) :
    k0_pay10 (F := Ideal) (k0_pay8 x w) (k0_pay9 x w T) U g (ix2 y ⟨h.val * 64 + e.val, by omega⟩)
      = (p ⟨h.val * 64 + e.val, by omega⟩ : EReal)
        * Ideal.rsqrt ((∑ e' : Fin 64, ((p ⟨h.val * 64 + e'.val, by omega⟩ : ℝ) : EReal) * (p ⟨h.val * 64 + e'.val, by omega⟩ : ℝ))
          * Ideal.ofBits .f32 0x3C800000#32 + Ideal.ofBits .f32 0x358637BD#32)
        * (show EReal from g (ix2 0 ⟨h.val * 64 + e.val, by omega⟩)) := by
  have hr := pay9_point x w T hT y p hp
  choose r r_eq using fun j : Fin 128 => root_real p j.val
  have hd : (h.val * 64 + e.val) / 64 = h.val := by omega
  have reg := regroup 4 (fun i => (p i : EReal) * (p i : EReal)) h
  pointwise [k0_pay10]
  simp only [hp, hU, hr, r_eq, sub_coe, sub_zero, zero_mul, Finset.sum_const_zero, add_zero, hd]
  rw [expand _ h.val (by omega), ← r_eq]
  exact congrArg (fun s : EReal => (p ⟨h.val * 64 + e.val, by omega⟩ : EReal) * Ideal.rsqrt (s * Ideal.ofBits .f32 0x3C800000#32 + Ideal.ofBits .f32 0x358637BD#32) * (show EReal from g (ix2 0 ⟨h.val * 64 + e.val, by omega⟩))) reg

end Cert.Kernel6Ideal.Prep

end
-- ==== Proof.PrepRef.lean ====
module

public import proofs.«01_k».proof.Proof.Gen.Reference6Ideal.Run
public import Idealize.ShloMosaic.Lib.Pipeline.ValueKit

@[expose] public section

set_option maxRecDepth 16384

/-! The reference that prepares the attention: the projections of the normed rows, and the results read out of them. -/

noncomputable section

namespace Cert.Reference6Ideal.Prep

open Cert.Reference6Ideal Cert.Reference6Ideal.Gen Idealize.ShloMosaic Idealize.ShloMosaic.TcCoe

/-- The projections of the normed rows. -/
def PR (a0 : FVec Ideal S32768x2048 .f32) (a1 : FVec Ideal S1x2048 .f32) (a2 : FVec Ideal S1x2048x10832 .f32) :
    FVec Ideal S32768x10832 .f32 :=
  (Host.dotGeneral dot_S32768x2048_S2048x10832_S32768x10832_1_0_0_1_n_n none (mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ a1 shapeCasts_S1x2048_S2048)))) (shapeCast _ a2 shapeCasts_S1x2048x10832_S2048x10832))

/-- The queries over the projections. -/
def RQ (p : FVec Ideal S32768x10832 .f32) (a3 : FVec Ideal S1x64 .f32) : FVec Ideal S32768x1024 .bf16 :=
  truncf .bf16 (mulf (shapeCast _ (mulf (mulf (shapeCast _ (extractStridedSlice S32768x1024 ![0, 0] p slices_S32768x10832_S32768x1024_0_0) shapeCasts_S32768x1024_S32768x16x64) (broadcastInDim S32768x16x64 ![0, 1, 2] bcast_S32768x16x1_S32768x16x64_0_1_2 (Host.rsqrt (addf (Host.divf (broadcastInDim S32768x16x1 ![0, 1] bcast_S32768x16_S32768x16x1_0_1 (Host.reduceAdd (mulf (shapeCast _ (extractStridedSlice S32768x1024 ![0, 0] p slices_S32768x10832_S32768x1024_0_0) shapeCasts_S32768x1024_S32768x16x64) (shapeCast _ (extractStridedSlice S32768x1024 ![0, 0] p slices_S32768x10832_S32768x1024_0_0) shapeCasts_S32768x1024_S32768x16x64)) (constant S_ .f32 0x00000000#32) reducesTo_S32768x16x64_S32768x16_d2 h_S_)) (broadcastInDim S32768x16x1 ![] bcast_S_S32768x16x1 (constant S_ .f32 0x42800000#32))) (broadcastInDim S32768x16x1 ![] bcast_S_S32768x16x1 (constant S_ .f32 0x358637BD#32)))))) (broadcastInDim S32768x16x64 ![0, 1, 2] bcast_S1x1x64_S32768x16x64_0_1_2 (broadcastInDim S1x1x64 ![2] bcast_S64_S1x1x64_2 (shapeCast _ a3 shapeCasts_S1x64_S64)))) shapeCasts_S32768x16x64_S32768x1024) (broadcastInDim S32768x1024 ![] bcast_S_S32768x1024 (constant S_ .f32 0x3E38AA3B#32))) bitsLt_bf16_f32

/-- The keys over the projections. -/
def RK (p : FVec Ideal S32768x10832 .f32) (a4 : FVec Ideal S1x64 .f32) : FVec Ideal S32768x256 .f32 :=
  shapeCast _ (mulf (mulf (shapeCast _ (extractStridedSlice S32768x256 ![0, 1024] p slices_S32768x10832_S32768x256_0_1024) shapeCasts_S32768x256_S32768x4x64) (broadcastInDim S32768x4x64 ![0, 1, 2] bcast_S32768x4x1_S32768x4x64_0_1_2 (Host.rsqrt (addf (Host.divf (broadcastInDim S32768x4x1 ![0, 1] bcast_S32768x4_S32768x4x1_0_1 (Host.reduceAdd (mulf (shapeCast _ (extractStridedSlice S32768x256 ![0, 1024] p slices_S32768x10832_S32768x256_0_1024) shapeCasts_S32768x256_S32768x4x64) (shapeCast _ (extractStridedSlice S32768x256 ![0, 1024] p slices_S32768x10832_S32768x256_0_1024) shapeCasts_S32768x256_S32768x4x64)) (constant S_ .f32 0x00000000#32) reducesTo_S32768x4x64_S32768x4_d2 h_S_)) (broadcastInDim S32768x4x1 ![] bcast_S_S32768x4x1 (constant S_ .f32 0x42800000#32))) (broadcastInDim S32768x4x1 ![] bcast_S_S32768x4x1 (constant S_ .f32 0x358637BD#32)))))) (broadcastInDim S32768x4x64 ![0, 1, 2] bcast_S1x1x64_S32768x4x64_0_1_2 (broadcastInDim S1x1x64 ![2] bcast_S64_S1x1x64_2 (shapeCast _ a4 shapeCasts_S1x64_S64)))) shapeCasts_S32768x4x64_S32768x256

/-- The rounded keys over the projections. -/
def RKB (p : FVec Ideal S32768x10832 .f32) (a4 : FVec Ideal S1x64 .f32) : FVec Ideal S32768x256 .bf16 :=
  truncf .bf16 (shapeCast _ (mulf (mulf (shapeCast _ (extractStridedSlice S32768x256 ![0, 1024] p slices_S32768x10832_S32768x256_0_1024) shapeCasts_S32768x256_S32768x4x64) (broadcastInDim S32768x4x64 ![0, 1, 2] bcast_S32768x4x1_S32768x4x64_0_1_2 (Host.rsqrt (addf (Host.divf (broadcastInDim S32768x4x1 ![0, 1] bcast_S32768x4_S32768x4x1_0_1 (Host.reduceAdd (mulf (shapeCast _ (extractStridedSlice S32768x256 ![0, 1024] p slices_S32768x10832_S32768x256_0_1024) shapeCasts_S32768x256_S32768x4x64) (shapeCast _ (extractStridedSlice S32768x256 ![0, 1024] p slices_S32768x10832_S32768x256_0_1024) shapeCasts_S32768x256_S32768x4x64)) (constant S_ .f32 0x00000000#32) reducesTo_S32768x4x64_S32768x4_d2 h_S_)) (broadcastInDim S32768x4x1 ![] bcast_S_S32768x4x1 (constant S_ .f32 0x42800000#32))) (broadcastInDim S32768x4x1 ![] bcast_S_S32768x4x1 (constant S_ .f32 0x358637BD#32)))))) (broadcastInDim S32768x4x64 ![0, 1, 2] bcast_S1x1x64_S32768x4x64_0_1_2 (broadcastInDim S1x1x64 ![2] bcast_S64_S1x1x64_2 (shapeCast _ a4 shapeCasts_S1x64_S64)))) shapeCasts_S32768x4x64_S32768x256) bitsLt_bf16_f32

/-- The values over the projections. -/
def RW (p : FVec Ideal S32768x10832 .f32) : FVec Ideal S32768x256 .f32 :=
  extractStridedSlice S32768x256 ![0, 1280] p slices_S32768x10832_S32768x256_0_1280

/-- The rounded values over the projections. -/
def RWB (p : FVec Ideal S32768x10832 .f32) : FVec Ideal S32768x256 .bf16 :=
  truncf .bf16 (extractStridedSlice S32768x256 ![0, 1280] p slices_S32768x10832_S32768x256_0_1280) bitsLt_bf16_f32

/-- The indexer's queries over the projections. -/
def RQI (p : FVec Ideal S32768x10832 .f32) : FVec Ideal S32768x1024 .bf16 :=
  truncf .bf16 (extractStridedSlice S32768x1024 ![0, 1536] p slices_S32768x10832_S32768x1024_0_1536) bitsLt_bf16_f32

/-- The indexer's keys over the projections. -/
def RKI (p : FVec Ideal S32768x10832 .f32) : FVec Ideal S32768x64 .f32 :=
  extractStridedSlice S32768x64 ![0, 2560] p slices_S32768x10832_S32768x64_0_2560

/-- The indexer's rounded keys over the projections. -/
def RKIB (p : FVec Ideal S32768x10832 .f32) : FVec Ideal S32768x64 .bf16 :=
  truncf .bf16 (extractStridedSlice S32768x64 ![0, 2560] p slices_S32768x10832_S32768x64_0_2560) bitsLt_bf16_f32

/-- The indexer's head weights over the projections. -/
def RWI (p : FVec Ideal S32768x10832 .f32) : FVec Ideal S32768x16 .f32 :=
  mulf (extractStridedSlice S32768x16 ![0, 2624] p slices_S32768x10832_S32768x16_0_2624) (broadcastInDim S32768x16 ![] bcast_S_S32768x16 (constant S_ .f32 0x3E800000#32))

/-- A normed row at a place. -/
def HN (a0 : FVec Ideal S32768x2048 .f32) (a1 : FVec Ideal S1x2048 .f32) (R : Fin 32768) (k : Fin 2048) : EReal :=
  (show EReal from a0 (ix2 R k)) * Ideal.rsqrt (Ideal.div (∑ i : Fin 2048, (show EReal from a0 (ix2 R i)) * (show EReal from a0 (ix2 R i))) (Ideal.ofBits .f32 0x45000000#32)
    + Ideal.ofBits .f32 0x358637BD#32) * (show EReal from a1 (ix2 0 k))

/-- A projection at a place. -/
theorem PR_point (a0 : FVec Ideal S32768x2048 .f32) (a1 : FVec Ideal S1x2048 .f32) (a2 : FVec Ideal S1x2048x10832 .f32) (R : Fin 32768) (C : Fin 10832) :
    PR a0 a1 a2 (ix2 R C) = ∑ k : Fin 2048, HN a0 a1 R k * (show EReal from a2 (ix3 0 k C)) := by
  pointwise [PR, HN]

/-- A query at a place. -/
theorem RQ_point (p : FVec Ideal S32768x10832 .f32) (a3 : FVec Ideal S1x64 .f32) (R : Fin 32768) (h : Fin 16) (e : Fin 64) :
    RQ p a3 (ix2 R ⟨h.val * 64 + e.val, by omega⟩) = (show EReal from p (ix2 R ⟨h.val * 64 + e.val, by omega⟩))
      * Ideal.rsqrt (Ideal.div (∑ x : Fin 64, (show EReal from p (ix2 R ⟨h.val * 64 + x.val, by omega⟩)) * (show EReal from p (ix2 R ⟨h.val * 64 + x.val, by omega⟩))) (Ideal.ofBits .f32 0x42800000#32)
        + Ideal.ofBits .f32 0x358637BD#32) * (show EReal from a3 (ix2 0 e)) * Ideal.ofBits .f32 0x3E38AA3B#32 := by
  pointwise [RQ]

/-- A key at a place. -/
theorem RK_point (p : FVec Ideal S32768x10832 .f32) (a4 : FVec Ideal S1x64 .f32) (R : Fin 32768) (h : Fin 4) (e : Fin 64) :
    RK p a4 (ix2 R ⟨h.val * 64 + e.val, by omega⟩) = (show EReal from p (ix2 R ⟨1024 + (h.val * 64 + e.val), by omega⟩))
      * Ideal.rsqrt (Ideal.div (∑ x : Fin 64, (show EReal from p (ix2 R ⟨1024 + (h.val * 64 + x.val), by omega⟩)) * (show EReal from p (ix2 R ⟨1024 + (h.val * 64 + x.val), by omega⟩))) (Ideal.ofBits .f32 0x42800000#32)
        + Ideal.ofBits .f32 0x358637BD#32) * (show EReal from a4 (ix2 0 e)) := by
  pointwise [RK]

/-- The rounded keys are the keys. -/
theorem RKB_eq (p : FVec Ideal S32768x10832 .f32) (a4 : FVec Ideal S1x64 .f32) : RKB p a4 = RK p a4 := rfl

end Cert.Reference6Ideal.Prep

end
-- ==== Proof.PrepProd.lean ====
module

public import proofs.«01_k».proof.Proof.PrepRead
public import proofs.«01_k».proof.Proof.PrepMath
public import proofs.«01_k».proof.Proof.PrepRef

@[expose] public section

set_option maxRecDepth 16384

/-! The products of the kernel that prepares the attention are the reference's projections. -/

noncomputable section

namespace Cert.Kernel6Ideal.Prep

open Cert.Kernel6Ideal Cert.Kernel6Ideal.Gen Idealize.ShloMosaic Idealize.ShloMosaic.TcCoe Idealize.SL.Sem
open Cert.Reference6Ideal.Prep (HN PR PR_point)

/-- A square is not negative. -/
theorem sq_nonneg' (x : EReal) : 0 ≤ x * x := by
  induction x using EReal.rec with
  | bot => simp
  | top => simp
  | coe r => rw [← EReal.coe_mul]; exact EReal.coe_nonneg.2 (mul_self_nonneg r)

/-- A row divided by its root mean square is real, whatever the row: with an infinite entry the factor is zero. -/
theorem row_real (x : Fin 2048 → EReal) (k : Fin 2048) : ∃ r : ℝ,
    x k * Ideal.rsqrt (Ideal.div (∑ i, x i * x i) (Ideal.ofBits .f32 0x45000000#32) + Ideal.ofBits .f32 0x358637BD#32) = (r : EReal) := by
  obtain ⟨ε, hε, he⟩ := eps
  rw [he, d2048, Ideal.div_coe (by norm_num)]
  by_cases h : ∀ i, ∃ r : ℝ, x i = (r : EReal)
  · choose r hr using h
    have h0 : 0 ≤ ∑ i, r i * r i := Finset.sum_nonneg fun i _ => mul_self_nonneg _
    have hp : 0 < (∑ i, r i * r i) * (1 / 2048) + ε := by positivity
    simp only [hr, ← EReal.coe_mul]
    rw [← coe_sum, ← EReal.coe_mul, ← EReal.coe_add, Ideal.rsqrt_coe, if_neg (not_lt.2 hp.le), if_neg hp.ne', ← EReal.coe_mul]
    exact ⟨_, rfl⟩
  · push Not at h
    obtain ⟨i, hi⟩ := h
    have hx : x i * x i = ⊤ := by
      generalize x i = z at hi
      induction z using EReal.rec with
      | bot => simp
      | top => simp
      | coe r => exact absurd rfl (hi r)
    have hs : ∑ i, x i * x i = ⊤ := top_le_iff.1 (hx ▸ Finset.single_le_sum (f := fun i => x i * x i) (fun i _ => sq_nonneg' (x i)) (Finset.mem_univ i))
    rw [hs, EReal.top_mul_coe_of_pos (by norm_num), EReal.top_add_coe, Ideal.rsqrt_top, mul_zero]
    exact ⟨0, EReal.coe_zero.symm⟩

/-- With real weights every projection is real. -/
theorem PR_real (a0 : FVec Ideal S32768x2048 .f32) (a1 : FVec Ideal S1x2048 .f32) (a2 : FVec Ideal S1x2048x10832 .f32)
    (h1 : ∀ k, ∃ r : ℝ, a1 (ix2 0 k) = (r : EReal)) (h2 : ∀ k C, ∃ r : ℝ, a2 (ix3 0 k C) = (r : EReal))
    (R : Fin 32768) (C : Fin 10832) : ∃ r : ℝ, PR a0 a1 a2 (ix2 R C) = (r : EReal) := by
  choose g hg using h1
  choose w hw using h2
  choose x hx using row_real (fun i => a0 (ix2 R i))
  have e : ∀ k, HN a0 a1 R k * (show EReal from a2 (ix3 0 k C)) = ((x k * g k * w k C : ℝ) : EReal) := fun k => by
    unfold HN
    rw [EReal.coe_mul, EReal.coe_mul, ← hx k, ← hg k, ← hw k C]
  rw [PR_point]
  simp only [e]
  exact ⟨_, (coe_sum _).symm⟩

variable (m : (ℓ : Loc nD τ sig) → Buf (Elt Ideal) ℓ) (c : Dev nD)

/-- The row of the array that a row of a block is. -/
def row (t : Fin cfg0.N) (y : Fin 512) : Fin 32768 := ⟨t.val * 512 + y.val, by have := (idx t).2.2; omega⟩

/-- The projections of the reference over the kernel's arguments. -/
abbrev P : FVec Ideal Cert.Reference6Ideal.S32768x10832 .f32 := PR (m ((c.tc : Thread nD τ).loc main_arg0)) (m ((c.tc : Thread nD τ).loc main_arg1)) (m ((c.tc : Thread nD τ).loc main_arg2))

/-- The norm's weight read in its block. -/
theorem read1 (t : Fin cfg0.N) (k : Fin 2048) : iblk m c 1 t (ix2 0 k) = (m ((c.tc : Thread nD τ).loc main_arg1)) (ix2 0 k) := by
  have e : iblk m c 1 t (ix2 0 k) = V m c main_v8 (ix2 0 k) := by blk_ext [iblk, (idx t).1]
  rw [e, entry8]
  pointwise []

/-- The rows read in their block. -/
theorem read0 (t : Fin cfg0.N) (y : Fin 512) (k : Fin 2048) : iblk m c 0 t (ix2 y k) = (m ((c.tc : Thread nD τ).loc main_arg0)) (ix2 (row t y) k) := by
  blk_ext [iblk, V, (idx t).1, row]

/-- A normed row of a block is the reference's normed row. -/
theorem norm_row (t : Fin cfg0.N) (y : Fin 512) (k : Fin 2048) :
    k0_pay4 (F := Ideal) (iblk m c 0 t) (iblk m c 1 t) (ix2 y k)
      = HN (m ((c.tc : Thread nD τ).loc main_arg0)) (m ((c.tc : Thread nD τ).loc main_arg1)) (row t y) k := by
  unfold HN
  pointwise [k0_pay4]
  simp only [read0, read1]

/-- The packed weight read in its block. -/
theorem read2 (t : Fin cfg0.N) (k : Fin 2048) (C : Fin 2816) : iblk m c 2 t (ix2 k C) = PACK (m ((c.tc : Thread nD τ).loc main_arg2)) (ix2 k C) := by
  have e : iblk m c 2 t (ix2 k C) = V m c main_v9 (ix2 k C) := by blk_ext [iblk, (idx t).1]
  rw [e, entry9]

/-- The product for the queries. -/
theorem prod_q (t : Fin cfg0.N) (y : Fin 512) (i : Fin 1024) :
    k0_pay5 (F := Ideal) (iblk m c 0 t) (iblk m c 1 t) (View.ld (iblk m c 2 t) r0_2) (ix2 y i)
      = P m c (ix2 (row t y) ⟨i.val, by omega⟩) := by
  rw [P, PR_point]
  pointwise [k0_pay5]
  refine Finset.sum_congr rfl fun k _ => ?_
  exact congrArg₂ (fun a b : EReal => a * b) (norm_row m c t y k) ((read2 m c t k _).trans (w_low _ _ _ (by show i.val < 2560; omega)))

/-- The product for the keys. -/
theorem prod_k (t : Fin cfg0.N) (y : Fin 512) (i : Fin 256) :
    k0_pay8 (F := Ideal) (k0_pay4 (iblk m c 0 t) (iblk m c 1 t)) (View.ld (iblk m c 2 t) r0_7) (ix2 y i)
      = P m c (ix2 (row t y) ⟨1024 + i.val, by omega⟩) := by
  rw [P, PR_point]
  pointwise [k0_pay8]
  refine Finset.sum_congr rfl fun k _ => ?_
  exact congrArg₂ (fun a b : EReal => a * b) (norm_row m c t y k) ((read2 m c t k _).trans (w_low _ _ _ (by show 1024 + i.val < 2560; omega)))

/-- The product for the values. -/
theorem prod_v (t : Fin cfg0.N) (y : Fin 512) (i : Fin 256) :
    k0_pay12 (F := Ideal) (k0_pay4 (iblk m c 0 t) (iblk m c 1 t)) (View.ld (iblk m c 2 t) r0_12) (ix2 y i)
      = P m c (ix2 (row t y) ⟨1280 + i.val, by omega⟩) := by
  rw [P, PR_point]
  pointwise [k0_pay12]
  refine Finset.sum_congr rfl fun k _ => ?_
  exact congrArg₂ (fun a b : EReal => a * b) (norm_row m c t y k) ((read2 m c t k _).trans (w_low _ _ _ (by show 1280 + i.val < 2560; omega)))

/-- The product for the indexer's keys. -/
theorem prod_ki (t : Fin cfg0.N) (y : Fin 512) (i : Fin 64) :
    k0_pay1 (F := Ideal) (k0_pay4 (iblk m c 0 t) (iblk m c 1 t)) (View.ld (iblk m c 2 t) r0_14) (ix2 y i)
      = P m c (ix2 (row t y) ⟨2560 + i.val, by omega⟩) := by
  rw [P, PR_point]
  pointwise [k0_pay1]
  refine Finset.sum_congr rfl fun k _ => ?_
  exact congrArg₂ (fun a b : EReal => a * b) (norm_row m c t y k) ((read2 m c t k _).trans (w_ki _ _ i))

/-- The product for the indexer's head weights. -/
theorem prod_wi (t : Fin cfg0.N) (y : Fin 512) (i : Fin 16) :
    k0_pay3 (F := Ideal) (k0_pay4 (iblk m c 0 t) (iblk m c 1 t)) (View.ld (iblk m c 2 t) r0_16) (ix2 y i)
      = (show EReal from P m c (ix2 (row t y) ⟨2624 + i.val, by omega⟩)) * Ideal.ofBits .f32 0x3E800000#32 := by
  rw [P, PR_point]
  pointwise [k0_pay3]
  refine congrArg (fun s : EReal => s * Ideal.ofBits .f32 0x3E800000#32) ?_
  refine Finset.sum_congr rfl fun k _ => ?_
  exact congrArg₂ (fun a b : EReal => a * b) (norm_row m c t y k) ((read2 m c t k _).trans (w_wi _ _ i))

/-- The product for the indexer's queries. -/
theorem prod_qi (t : Fin cfg0.N) (y : Fin 512) (i : Fin 1024) :
    k0_pay14 (F := Ideal) (k0_pay4 (iblk m c 0 t) (iblk m c 1 t)) (View.ld (iblk m c 2 t) r0_13) (ix2 y i)
      = P m c (ix2 (row t y) ⟨1536 + i.val, by omega⟩) := by
  rw [P, PR_point]
  pointwise [k0_pay14]
  refine Finset.sum_congr rfl fun k _ => ?_
  exact congrArg₂ (fun a b : EReal => a * b) (norm_row m c t y k) ((read2 m c t k _).trans (w_low _ _ _ (by show 1536 + i.val < 2560; omega)))

end Cert.Kernel6Ideal.Prep

end
-- ==== Proof.PrepClaims.lean ====
module

public import proofs.«01_k».proof.Defs
public import proofs.«01_k».proof.Proof.Gen.Kernel6.Frame
public import proofs.«01_k».proof.Proof.PrepFinal
public import proofs.«01_k».proof.Proof.RecPre
public import Idealize.ShloMosaic.Lib.ReduceAll

@[expose] public section

set_option maxRecDepth 16384

/-! The claims of the kernel that prepares the attention. -/

noncomputable section

namespace Cert.Kernel6Ideal.Prep

open Idealize.ShloMosaic Idealize.ShloMosaic.TcCoe Idealize.SL.Sem Cert.Kernel6Ideal Cert.Kernel6Ideal.Gen
open Cert.KernelIdeal.Rec (real_of_lt top_f32)

variable (m : (ℓ : Loc nD τ sig) → Buf (Elt Ideal) ℓ) (c : Dev nD)

/-- Two bits are both one where their conjunction is. -/
theorem and_one : ∀ a b : BitVec 1, IntOp.andi a b = 1#1 → a = 1#1 ∧ b = 1#1 := by decide

/-- The precondition is that the norm's weights and the projection's weights are finite. -/
theorem fin6_of_pre [hP : Cert.Pre_weights_finite.Facts] (h : Cert.Pre_Kernel6Ideal_weights_finite m) : Fin6 m c := by
  have : Subsingleton Cert.Pre_weights_finite.S_.Idx := ⟨fun a b => funext fun i => i.elim0⟩
  have both := and_one _ _ (congrFun (h c) (fun i => i.elim0))
  constructor
  · intro k
    have e := Host.reduce_andi_all _ _ _ _ (fun i => i.elim0) both.1 (ix2 0 k)
    have e' : Ideal.cmp .olt (max (m ((c.tc : Thread nD τ).loc main_arg1) (ix2 0 k) : EReal) (-(show EReal from m ((c.tc : Thread nD τ).loc main_arg1) (ix2 0 k)))) (Ideal.ofBits .f32 0x7F800000#32) = 1#1 := e
    rw [top_f32] at e'
    exact real_of_lt _ ((Ideal.cmp_olt_eq_one _ _).1 e')
  · intro k C
    have e := Host.reduce_andi_all _ _ _ _ (fun i => i.elim0) both.2 (ix3 0 k C)
    have e' : Ideal.cmp .olt (max (m ((c.tc : Thread nD τ).loc main_arg2) (ix3 0 k C) : EReal) (-(show EReal from m ((c.tc : Thread nD τ).loc main_arg2) (ix3 0 k C)))) (Ideal.ofBits .f32 0x7F800000#32) = 1#1 := e
    rw [top_f32] at e'
    exact real_of_lt _ ((Ideal.cmp_olt_eq_one _ _).1 e')

end Cert.Kernel6Ideal.Prep

namespace Cert.Proof

open Idealize.ShloMosaic Idealize.SL.Sem

/-- The kernel that prepares the attention ends with its arguments unchanged and its counters at zero. -/
theorem frame_Kernel6 : Cert.quiescent_Kernel6 := fun m ρ _ => Cert.Kernel6.Gen.frame m ρ

/-- So does its idealized program. -/
theorem frame_Kernel6Ideal : Cert.quiescent_Kernel6Ideal := fun m ρ _ => Cert.Kernel6Ideal.Gen.frame m ρ

/-- So does its idealized program where the weights are finite. -/
theorem frame_Kernel6Ideal_pre [hP : Cert.Pre_weights_finite.Facts] : Cert.quiescent_Kernel6Ideal_pre_weights_finite := fun m ρ _ => Cert.Kernel6Ideal.Gen.frame m ρ

/-- So does its reference. -/
theorem frame_Reference6Ideal : Cert.quiescent_Reference6Ideal := fun m ρ _ =>
  (θ_run Cert.Reference6Ideal.defs _ _).mono (fun r h => ⟨fun c => (h c).2.2.2.2.2.2.2.2.2, sem_eq_zero_of_no_sems (by decide) r.2⟩)
    (Cert.Reference6Ideal.Value.run (F := Ideal) m ρ)

/-- So does its reference where the weights are finite. -/
theorem frame_Reference6Ideal_pre [hP : Cert.Pre_weights_finite.Facts] : Cert.quiescent_Reference6Ideal_pre_weights_finite := fun m ρ _ => frame_Reference6Ideal m ρ trivial

/-- The idealized program that prepares the attention is the program: nothing was rewritten. -/
theorem preserves6 : Cert.preserves_Kernel6_Kernel6Ideal := trivial

set_option maxHeartbeats 4000000 in
/-- Where the weights are finite, the kernel that prepares the attention and its reference end with the same nine results on the same arguments. -/
theorem algebraic6 [hP : Cert.Pre_weights_finite.Facts] : Cert.algebraic_Kernel6Ideal_Reference6Ideal_pre_weights_finite := by
  intro m ρ m' ρ' pre hag
  refine ⟨fun c => Cert.Reference6Ideal.Prep.RQ (Cert.Reference6Ideal.Prep.PR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) (m ((c.tc : Thread Cert.Kernel6Ideal.nD Cert.Kernel6Ideal.τ).loc Cert.Kernel6Ideal.main_arg3)),
    fun c => Cert.Reference6Ideal.Prep.RK (Cert.Reference6Ideal.Prep.PR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) (m ((c.tc : Thread Cert.Kernel6Ideal.nD Cert.Kernel6Ideal.τ).loc Cert.Kernel6Ideal.main_arg4)),
    fun c => Cert.Reference6Ideal.Prep.RKB (Cert.Reference6Ideal.Prep.PR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) (m ((c.tc : Thread Cert.Kernel6Ideal.nD Cert.Kernel6Ideal.τ).loc Cert.Kernel6Ideal.main_arg4)),
    fun c => Cert.Reference6Ideal.Prep.RW (Cert.Reference6Ideal.Prep.PR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))),
    fun c => Cert.Reference6Ideal.Prep.RWB (Cert.Reference6Ideal.Prep.PR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))),
    fun c => Cert.Reference6Ideal.Prep.RQI (Cert.Reference6Ideal.Prep.PR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))),
    fun c => Cert.Reference6Ideal.Prep.RKI (Cert.Reference6Ideal.Prep.PR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))),
    fun c => Cert.Reference6Ideal.Prep.RKIB (Cert.Reference6Ideal.Prep.PR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))),
    fun c => Cert.Reference6Ideal.Prep.RWI (Cert.Reference6Ideal.Prep.PR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))), ?_, ?_⟩
  · exact (θ_run Cert.Kernel6Ideal.defs _ _).mono (fun _ h c => ⟨(h c).1.trans (Cert.Kernel6Ideal.Prep.final9 m c (Cert.Kernel6Ideal.Prep.fin6_of_pre m c pre)),
      (h c).2.1.trans (Cert.Kernel6Ideal.Prep.final10 m c (Cert.Kernel6Ideal.Prep.fin6_of_pre m c pre)),
      (h c).2.2.1.trans (Cert.Kernel6Ideal.Prep.final11 m c (Cert.Kernel6Ideal.Prep.fin6_of_pre m c pre)),
      (h c).2.2.2.1.trans (Cert.Kernel6Ideal.Prep.final12 m c),
      (h c).2.2.2.2.1.trans (Cert.Kernel6Ideal.Prep.final13 m c),
      (h c).2.2.2.2.2.1.trans (Cert.Kernel6Ideal.Prep.final14 m c),
      (h c).2.2.2.2.2.2.1.trans (Cert.Kernel6Ideal.Prep.final15 m c),
      (h c).2.2.2.2.2.2.2.1.trans (Cert.Kernel6Ideal.Prep.final16 m c),
      (h c).2.2.2.2.2.2.2.2.1.trans (Cert.Kernel6Ideal.Prep.final17 m c), (h c).2.2.2.2.2.2.2.2.2⟩)
      (Cert.Kernel6Ideal.Value.run_blocks (F := Ideal) m ρ)
  · refine (θ_run Cert.Reference6Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.Reference6Ideal.Value.run (F := Ideal) m' ρ')
    · obtain ⟨h0, h1, h2, h3, h4⟩ := hag c
      show Cert.Reference6Ideal.Prep.RQ (Cert.Reference6Ideal.Prep.PR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) (m' ((c.tc : Thread Cert.Reference6Ideal.nD Cert.Reference6Ideal.τ).loc Cert.Reference6Ideal.main_arg3)) = _
      rw [h0, h1, h2, h3]
    · obtain ⟨h0, h1, h2, h3, h4⟩ := hag c
      show Cert.Reference6Ideal.Prep.RK (Cert.Reference6Ideal.Prep.PR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) (m' ((c.tc : Thread Cert.Reference6Ideal.nD Cert.Reference6Ideal.τ).loc Cert.Reference6Ideal.main_arg4)) = _
      rw [h0, h1, h2, h4]
    · obtain ⟨h0, h1, h2, h3, h4⟩ := hag c
      show Cert.Reference6Ideal.Prep.RKB (Cert.Reference6Ideal.Prep.PR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) (m' ((c.tc : Thread Cert.Reference6Ideal.nD Cert.Reference6Ideal.τ).loc Cert.Reference6Ideal.main_arg4)) = _
      rw [h0, h1, h2, h4]
    · obtain ⟨h0, h1, h2, h3, h4⟩ := hag c
      show Cert.Reference6Ideal.Prep.RW (Cert.Reference6Ideal.Prep.PR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) = _
      rw [h0, h1, h2]
    · obtain ⟨h0, h1, h2, h3, h4⟩ := hag c
      show Cert.Reference6Ideal.Prep.RWB (Cert.Reference6Ideal.Prep.PR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) = _
      rw [h0, h1, h2]
    · obtain ⟨h0, h1, h2, h3, h4⟩ := hag c
      show Cert.Reference6Ideal.Prep.RQI (Cert.Reference6Ideal.Prep.PR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) = _
      rw [h0, h1, h2]
    · obtain ⟨h0, h1, h2, h3, h4⟩ := hag c
      show Cert.Reference6Ideal.Prep.RKI (Cert.Reference6Ideal.Prep.PR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) = _
      rw [h0, h1, h2]
    · obtain ⟨h0, h1, h2, h3, h4⟩ := hag c
      show Cert.Reference6Ideal.Prep.RKIB (Cert.Reference6Ideal.Prep.PR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) = _
      rw [h0, h1, h2]
    · obtain ⟨h0, h1, h2, h3, h4⟩ := hag c
      show Cert.Reference6Ideal.Prep.RWI (Cert.Reference6Ideal.Prep.PR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) = _
      rw [h0, h1, h2]

end Cert.Proof

end
-- ==== Proof.SampRead.lean ====
module

public import proofs.«01_k».proof.Proof.Gen.Kernel8Ideal.Value
public import proofs.«01_k».proof.Proof.PrepRead
public import Idealize.ShloMosaic.Lib.Pipeline.ValueKit

@[expose] public section

set_option maxRecDepth 16384

/-! What the kernel that prepares the attention finds in its windows at the rows of the sample. The packed weight, the
    gains and the selectors are those of the prompt. -/

noncomputable section

namespace Cert.Kernel8Ideal.Prep

open Cert.Kernel8Ideal Cert.Kernel8Ideal.Gen Idealize.ShloMosaic Idealize.ShloMosaic.TcCoe Idealize.SL.Sem
open Idealize.ShloMosaic.Pipeline (Dat)

open Cert.Kernel6Ideal.Prep (PACK GAINQ GAINK SELQ SELK w_low w_ki w_wi gain_q gain_k sel_q sel_k)

variable (m : (ℓ : Loc nD τ sig) → Buf (Elt Ideal) ℓ) (c : Dev nD)

/-- The block indices of the windows: the rows and the results move with the grid point, the rest stays. -/
theorem idx : ∀ t : Fin cfg0.N, (win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0]) ∧ (win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0]
    ∧ win0_17.index t = ![t.val, 0]) ∧ t.val < 1 :=
  (by decide +kernel : ∀ t : Fin grid0.N, _)

/-- The norm's weight as the kernel finds it. -/
theorem entry8 : V m c main_v8 = shapeCast S1x2048 (shapeCast S2048 (m ((c.tc : Thread nD τ).loc main_arg1)) shapeCasts_S1x2048_S2048) shapeCasts_S2048_S1x2048 := by
  entry_read
  rfl

/-- The packed weight as the kernel finds it. -/
theorem entry9 : V m c main_v9 = PACK (m ((c.tc : Thread nD τ).loc main_arg2)) := by
  entry_read
  rfl

/-- The queries' gain as the kernel finds it. -/
theorem entry16 : V m c main_v16 = GAINQ (m ((c.tc : Thread nD τ).loc main_arg3)) := by
  entry_read
  rfl

/-- The keys' gain as the kernel finds it. -/
theorem entry21 : V m c main_v21 = GAINK (m ((c.tc : Thread nD τ).loc main_arg4)) := by
  entry_read
  rfl

/-- The selectors as the kernel finds them. -/
theorem entry27 : V m c main_v27 = SELQ := by
  entry_read
  rfl

/-- The transposed selector of the queries' heads as the kernel finds it. -/
theorem entry28 : V m c main_v28 = transpose S128x1024 [1, 0] SELQ transposes_S1024x128_S128x1024_1_0 := by
  entry_read
  rfl

/-- The selector of the keys' heads as the kernel finds it. -/
theorem entry34 : V m c main_v34 = SELK := by
  entry_read
  rfl

/-- The transposed selector of the keys' heads as the kernel finds it. -/
theorem entry35 : V m c main_v35 = transpose S128x256 [1, 0] SELK transposes_S256x128_S128x256_1_0 := by
  entry_read
  rfl

end Cert.Kernel8Ideal.Prep

end
-- ==== Proof.SampMath.lean ====
module

public import proofs.«01_k».proof.Proof.Gen.Kernel8Ideal.Value
public import proofs.«01_k».proof.Proof.PrepMath
public import Idealize.ShloMosaic.Lib.Pipeline.ValueKit

@[expose] public section

set_option maxRecDepth 16384

/-! The head norms of the kernel that prepares the attention, over real projections, at the rows of the sample. -/

noncomputable section

namespace Cert.Kernel8Ideal.Prep

open Cert.Kernel8Ideal Cert.Kernel8Ideal.Gen Idealize.ShloMosaic Idealize.ShloMosaic.TcCoe Idealize.SL.Sem

open Cert.Kernel6Ideal.Prep (sub_coe regroup expand root_real)

/-- The reciprocal root of the queries' head norms, over real projections. -/
theorem pay6_point (x0 : FVec Ideal S256x2048 .f32) (x1 : FVec Ideal S1x2048 .f32) (w : FVec Ideal S2048x1024 .bf16)
    (T : FVec Ideal S1024x128 .bf16) (hT : ∀ i j, T (ix2 i j) = if i.val / 64 = j.val then (1 : EReal) else 0)
    (y : Fin 256) (p : Fin 1024 → ℝ) (hp : ∀ i, k0_pay5 (F := Ideal) x0 x1 w (ix2 y i) = (p i : EReal)) (j : Fin 128) :
    k0_pay6 (F := Ideal) x0 x1 w T (ix2 y j)
      = Ideal.rsqrt ((∑ i : Fin 1024, (p i : EReal) * (p i : EReal) * (if i.val / 64 = j.val then (1 : EReal) else 0))
          * Ideal.ofBits .f32 0x3C800000#32 + Ideal.ofBits .f32 0x358637BD#32) := by
  pointwise [k0_pay6]
  simp only [hp, hT, ← EReal.coe_mul, sub_coe, sub_zero, zero_mul, Finset.sum_const_zero, add_zero]

/-- The queries a point stores, over real projections: the projection times its head's root times the gain. -/
theorem pay7_point (x0 : FVec Ideal S256x2048 .f32) (x1 : FVec Ideal S1x2048 .f32) (w : FVec Ideal S2048x1024 .bf16)
    (T : FVec Ideal S1024x128 .bf16) (hT : ∀ i j, T (ix2 i j) = if i.val / 64 = j.val then (1 : EReal) else 0)
    (U : FVec Ideal S128x1024 .bf16) (hU : ∀ j i, U (ix2 j i) = if i.val / 64 = j.val then (1 : EReal) else 0)
    (g : FVec Ideal S1x1024 .f32)
    (y : Fin 256) (p : Fin 1024 → ℝ) (hp : ∀ i, k0_pay5 (F := Ideal) x0 x1 w (ix2 y i) = (p i : EReal)) (h : Fin 16) (e : Fin 64) :
    k0_pay7 (F := Ideal) (k0_pay5 x0 x1 w) (k0_pay6 x0 x1 w T) U g (ix2 y ⟨h.val * 64 + e.val, by omega⟩)
      = (p ⟨h.val * 64 + e.val, by omega⟩ : EReal)
        * Ideal.rsqrt ((∑ e' : Fin 64, ((p ⟨h.val * 64 + e'.val, by omega⟩ : ℝ) : EReal) * (p ⟨h.val * 64 + e'.val, by omega⟩ : ℝ))
          * Ideal.ofBits .f32 0x3C800000#32 + Ideal.ofBits .f32 0x358637BD#32)
        * (show EReal from g (ix2 0 ⟨h.val * 64 + e.val, by omega⟩)) := by
  have hr := pay6_point x0 x1 w T hT y p hp
  choose r r_eq using fun j : Fin 128 => root_real p j.val
  have hd : (h.val * 64 + e.val) / 64 = h.val := by omega
  have reg := regroup 16 (fun i => (p i : EReal) * (p i : EReal)) h
  pointwise [k0_pay7]
  simp only [hp, hU, hr, r_eq, sub_coe, sub_zero, zero_mul, Finset.sum_const_zero, add_zero, hd]
  rw [expand _ h.val (by omega), ← r_eq]
  exact congrArg (fun s : EReal => (p ⟨h.val * 64 + e.val, by omega⟩ : EReal) * Ideal.rsqrt (s * Ideal.ofBits .f32 0x3C800000#32 + Ideal.ofBits .f32 0x358637BD#32) * (show EReal from g (ix2 0 ⟨h.val * 64 + e.val, by omega⟩))) reg

/-- The argument of the root of the keys' head norms, over real projections. -/
theorem pay9_point (x : FVec Ideal S256x2048 .bf16) (w : FVec Ideal S2048x256 .bf16)
    (T : FVec Ideal S256x128 .bf16) (hT : ∀ i j, T (ix2 i j) = if i.val / 64 = j.val then (1 : EReal) else 0)
    (y : Fin 256) (p : Fin 256 → ℝ) (hp : ∀ i, k0_pay8 (F := Ideal) x w (ix2 y i) = (p i : EReal)) (j : Fin 128) :
    k0_pay9 (F := Ideal) x w T (ix2 y j)
      = (∑ i : Fin 256, (p i : EReal) * (p i : EReal) * (if i.val / 64 = j.val then (1 : EReal) else 0))
          * Ideal.ofBits .f32 0x3C800000#32 + Ideal.ofBits .f32 0x358637BD#32 := by
  pointwise [k0_pay9]
  simp only [hp, hT, ← EReal.coe_mul, sub_coe, sub_zero, zero_mul, Finset.sum_const_zero, add_zero]

/-- The keys a point stores, over real projections: the projection times its head's root times the gain. -/
theorem pay10_point (x : FVec Ideal S256x2048 .bf16) (w : FVec Ideal S2048x256 .bf16)
    (T : FVec Ideal S256x128 .bf16) (hT : ∀ i j, T (ix2 i j) = if i.val / 64 = j.val then (1 : EReal) else 0)
    (U : FVec Ideal S128x256 .bf16) (hU : ∀ j i, U (ix2 j i) = if i.val / 64 = j.val then (1 : EReal) else 0)
    (g : FVec Ideal S1x256 .f32)
    (y : Fin 256) (p : Fin 256 → ℝ) (hp : ∀ i, k0_pay8 (F := Ideal) x w (ix2 y i) = (p i : EReal)) (h : Fin 4) (e : Fin 64) :
    k0_pay10 (F := Ideal) (k0_pay8 x w) (k0_pay9 x w T) U g (ix2 y ⟨h.val * 64 + e.val, by omega⟩)
      = (p ⟨h.val * 64 + e.val, by omega⟩ : EReal)
        * Ideal.rsqrt ((∑ e' : Fin 64, ((p ⟨h.val * 64 + e'.val, by omega⟩ : ℝ) : EReal) * (p ⟨h.val * 64 + e'.val, by omega⟩ : ℝ))
          * Ideal.ofBits .f32 0x3C800000#32 + Ideal.ofBits .f32 0x358637BD#32)
        * (show EReal from g (ix2 0 ⟨h.val * 64 + e.val, by omega⟩)) := by
  have hr := pay9_point x w T hT y p hp
  choose r r_eq using fun j : Fin 128 => root_real p j.val
  have hd : (h.val * 64 + e.val) / 64 = h.val := by omega
  have reg := regroup 4 (fun i => (p i : EReal) * (p i : EReal)) h
  pointwise [k0_pay10]
  simp only [hp, hU, hr, r_eq, sub_coe, sub_zero, zero_mul, Finset.sum_const_zero, add_zero, hd]
  rw [expand _ h.val (by omega), ← r_eq]
  exact congrArg (fun s : EReal => (p ⟨h.val * 64 + e.val, by omega⟩ : EReal) * Ideal.rsqrt (s * Ideal.ofBits .f32 0x3C800000#32 + Ideal.ofBits .f32 0x358637BD#32) * (show EReal from g (ix2 0 ⟨h.val * 64 + e.val, by omega⟩))) reg

end Cert.Kernel8Ideal.Prep

end
-- ==== Proof.SampRef.lean ====
module

public import proofs.«01_k».proof.Proof.Gen.Reference8Ideal.Run
public import Idealize.ShloMosaic.Lib.Pipeline.ValueKit

@[expose] public section

set_option maxRecDepth 16384

/-! The reference that prepares the attention: the projections of the normed rows, and the results read out of them. At the rows of the
    sample. -/

noncomputable section

namespace Cert.Reference8Ideal.Prep

open Cert.Reference8Ideal Cert.Reference8Ideal.Gen Idealize.ShloMosaic Idealize.ShloMosaic.TcCoe

/-- The projections of the normed rows. -/
def PR (a0 : FVec Ideal S256x2048 .f32) (a1 : FVec Ideal S1x2048 .f32) (a2 : FVec Ideal S1x2048x10832 .f32) :
    FVec Ideal S256x10832 .f32 :=
  (Host.dotGeneral dot_S256x2048_S2048x10832_S256x10832_1_0_0_1_n_n none (mulf (mulf a0 (broadcastInDim S256x2048 ![0, 1] bcast_S256x1_S256x2048_0_1 (Host.rsqrt (addf (Host.divf (broadcastInDim S256x1 ![0] bcast_S256_S256x1_0 (Host.reduceAdd (mulf a0 a0) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ a1 shapeCasts_S1x2048_S2048)))) (shapeCast _ a2 shapeCasts_S1x2048x10832_S2048x10832))

/-- The queries over the projections. -/
def RQ (p : FVec Ideal S256x10832 .f32) (a3 : FVec Ideal S1x64 .f32) : FVec Ideal S256x1024 .bf16 :=
  truncf .bf16 (mulf (shapeCast _ (mulf (mulf (shapeCast _ (extractStridedSlice S256x1024 ![0, 0] p slices_S256x10832_S256x1024_0_0) shapeCasts_S256x1024_S256x16x64) (broadcastInDim S256x16x64 ![0, 1, 2] bcast_S256x16x1_S256x16x64_0_1_2 (Host.rsqrt (addf (Host.divf (broadcastInDim S256x16x1 ![0, 1] bcast_S256x16_S256x16x1_0_1 (Host.reduceAdd (mulf (shapeCast _ (extractStridedSlice S256x1024 ![0, 0] p slices_S256x10832_S256x1024_0_0) shapeCasts_S256x1024_S256x16x64) (shapeCast _ (extractStridedSlice S256x1024 ![0, 0] p slices_S256x10832_S256x1024_0_0) shapeCasts_S256x1024_S256x16x64)) (constant S_ .f32 0x00000000#32) reducesTo_S256x16x64_S256x16_d2 h_S_)) (broadcastInDim S256x16x1 ![] bcast_S_S256x16x1 (constant S_ .f32 0x42800000#32))) (broadcastInDim S256x16x1 ![] bcast_S_S256x16x1 (constant S_ .f32 0x358637BD#32)))))) (broadcastInDim S256x16x64 ![0, 1, 2] bcast_S1x1x64_S256x16x64_0_1_2 (broadcastInDim S1x1x64 ![2] bcast_S64_S1x1x64_2 (shapeCast _ a3 shapeCasts_S1x64_S64)))) shapeCasts_S256x16x64_S256x1024) (broadcastInDim S256x1024 ![] bcast_S_S256x1024 (constant S_ .f32 0x3E38AA3B#32))) bitsLt_bf16_f32

/-- The keys over the projections. -/
def RK (p : FVec Ideal S256x10832 .f32) (a4 : FVec Ideal S1x64 .f32) : FVec Ideal S256x256 .f32 :=
  shapeCast _ (mulf (mulf (shapeCast _ (extractStridedSlice S256x256 ![0, 1024] p slices_S256x10832_S256x256_0_1024) shapeCasts_S256x256_S256x4x64) (broadcastInDim S256x4x64 ![0, 1, 2] bcast_S256x4x1_S256x4x64_0_1_2 (Host.rsqrt (addf (Host.divf (broadcastInDim S256x4x1 ![0, 1] bcast_S256x4_S256x4x1_0_1 (Host.reduceAdd (mulf (shapeCast _ (extractStridedSlice S256x256 ![0, 1024] p slices_S256x10832_S256x256_0_1024) shapeCasts_S256x256_S256x4x64) (shapeCast _ (extractStridedSlice S256x256 ![0, 1024] p slices_S256x10832_S256x256_0_1024) shapeCasts_S256x256_S256x4x64)) (constant S_ .f32 0x00000000#32) reducesTo_S256x4x64_S256x4_d2 h_S_)) (broadcastInDim S256x4x1 ![] bcast_S_S256x4x1 (constant S_ .f32 0x42800000#32))) (broadcastInDim S256x4x1 ![] bcast_S_S256x4x1 (constant S_ .f32 0x358637BD#32)))))) (broadcastInDim S256x4x64 ![0, 1, 2] bcast_S1x1x64_S256x4x64_0_1_2 (broadcastInDim S1x1x64 ![2] bcast_S64_S1x1x64_2 (shapeCast _ a4 shapeCasts_S1x64_S64)))) shapeCasts_S256x4x64_S256x256

/-- The rounded keys over the projections. -/
def RKB (p : FVec Ideal S256x10832 .f32) (a4 : FVec Ideal S1x64 .f32) : FVec Ideal S256x256 .bf16 :=
  truncf .bf16 (shapeCast _ (mulf (mulf (shapeCast _ (extractStridedSlice S256x256 ![0, 1024] p slices_S256x10832_S256x256_0_1024) shapeCasts_S256x256_S256x4x64) (broadcastInDim S256x4x64 ![0, 1, 2] bcast_S256x4x1_S256x4x64_0_1_2 (Host.rsqrt (addf (Host.divf (broadcastInDim S256x4x1 ![0, 1] bcast_S256x4_S256x4x1_0_1 (Host.reduceAdd (mulf (shapeCast _ (extractStridedSlice S256x256 ![0, 1024] p slices_S256x10832_S256x256_0_1024) shapeCasts_S256x256_S256x4x64) (shapeCast _ (extractStridedSlice S256x256 ![0, 1024] p slices_S256x10832_S256x256_0_1024) shapeCasts_S256x256_S256x4x64)) (constant S_ .f32 0x00000000#32) reducesTo_S256x4x64_S256x4_d2 h_S_)) (broadcastInDim S256x4x1 ![] bcast_S_S256x4x1 (constant S_ .f32 0x42800000#32))) (broadcastInDim S256x4x1 ![] bcast_S_S256x4x1 (constant S_ .f32 0x358637BD#32)))))) (broadcastInDim S256x4x64 ![0, 1, 2] bcast_S1x1x64_S256x4x64_0_1_2 (broadcastInDim S1x1x64 ![2] bcast_S64_S1x1x64_2 (shapeCast _ a4 shapeCasts_S1x64_S64)))) shapeCasts_S256x4x64_S256x256) bitsLt_bf16_f32

/-- The values over the projections. -/
def RW (p : FVec Ideal S256x10832 .f32) : FVec Ideal S256x256 .f32 :=
  extractStridedSlice S256x256 ![0, 1280] p slices_S256x10832_S256x256_0_1280

/-- The rounded values over the projections. -/
def RWB (p : FVec Ideal S256x10832 .f32) : FVec Ideal S256x256 .bf16 :=
  truncf .bf16 (extractStridedSlice S256x256 ![0, 1280] p slices_S256x10832_S256x256_0_1280) bitsLt_bf16_f32

/-- The indexer's queries over the projections. -/
def RQI (p : FVec Ideal S256x10832 .f32) : FVec Ideal S256x1024 .bf16 :=
  truncf .bf16 (extractStridedSlice S256x1024 ![0, 1536] p slices_S256x10832_S256x1024_0_1536) bitsLt_bf16_f32

/-- The indexer's keys over the projections. -/
def RKI (p : FVec Ideal S256x10832 .f32) : FVec Ideal S256x64 .f32 :=
  extractStridedSlice S256x64 ![0, 2560] p slices_S256x10832_S256x64_0_2560

/-- The indexer's rounded keys over the projections. -/
def RKIB (p : FVec Ideal S256x10832 .f32) : FVec Ideal S256x64 .bf16 :=
  truncf .bf16 (extractStridedSlice S256x64 ![0, 2560] p slices_S256x10832_S256x64_0_2560) bitsLt_bf16_f32

/-- The indexer's head weights over the projections. -/
def RWI (p : FVec Ideal S256x10832 .f32) : FVec Ideal S256x16 .f32 :=
  mulf (extractStridedSlice S256x16 ![0, 2624] p slices_S256x10832_S256x16_0_2624) (broadcastInDim S256x16 ![] bcast_S_S256x16 (constant S_ .f32 0x3E800000#32))

/-- A normed row at a place. -/
def HN (a0 : FVec Ideal S256x2048 .f32) (a1 : FVec Ideal S1x2048 .f32) (R : Fin 256) (k : Fin 2048) : EReal :=
  (show EReal from a0 (ix2 R k)) * Ideal.rsqrt (Ideal.div (∑ i : Fin 2048, (show EReal from a0 (ix2 R i)) * (show EReal from a0 (ix2 R i))) (Ideal.ofBits .f32 0x45000000#32)
    + Ideal.ofBits .f32 0x358637BD#32) * (show EReal from a1 (ix2 0 k))

/-- A projection at a place. -/
theorem PR_point (a0 : FVec Ideal S256x2048 .f32) (a1 : FVec Ideal S1x2048 .f32) (a2 : FVec Ideal S1x2048x10832 .f32) (R : Fin 256) (C : Fin 10832) :
    PR a0 a1 a2 (ix2 R C) = ∑ k : Fin 2048, HN a0 a1 R k * (show EReal from a2 (ix3 0 k C)) := by
  pointwise [PR, HN]

/-- A query at a place. -/
theorem RQ_point (p : FVec Ideal S256x10832 .f32) (a3 : FVec Ideal S1x64 .f32) (R : Fin 256) (h : Fin 16) (e : Fin 64) :
    RQ p a3 (ix2 R ⟨h.val * 64 + e.val, by omega⟩) = (show EReal from p (ix2 R ⟨h.val * 64 + e.val, by omega⟩))
      * Ideal.rsqrt (Ideal.div (∑ x : Fin 64, (show EReal from p (ix2 R ⟨h.val * 64 + x.val, by omega⟩)) * (show EReal from p (ix2 R ⟨h.val * 64 + x.val, by omega⟩))) (Ideal.ofBits .f32 0x42800000#32)
        + Ideal.ofBits .f32 0x358637BD#32) * (show EReal from a3 (ix2 0 e)) * Ideal.ofBits .f32 0x3E38AA3B#32 := by
  pointwise [RQ]

/-- A key at a place. -/
theorem RK_point (p : FVec Ideal S256x10832 .f32) (a4 : FVec Ideal S1x64 .f32) (R : Fin 256) (h : Fin 4) (e : Fin 64) :
    RK p a4 (ix2 R ⟨h.val * 64 + e.val, by omega⟩) = (show EReal from p (ix2 R ⟨1024 + (h.val * 64 + e.val), by omega⟩))
      * Ideal.rsqrt (Ideal.div (∑ x : Fin 64, (show EReal from p (ix2 R ⟨1024 + (h.val * 64 + x.val), by omega⟩)) * (show EReal from p (ix2 R ⟨1024 + (h.val * 64 + x.val), by omega⟩))) (Ideal.ofBits .f32 0x42800000#32)
        + Ideal.ofBits .f32 0x358637BD#32) * (show EReal from a4 (ix2 0 e)) := by
  pointwise [RK]

/-- The rounded keys are the keys. -/
theorem RKB_eq (p : FVec Ideal S256x10832 .f32) (a4 : FVec Ideal S1x64 .f32) : RKB p a4 = RK p a4 := rfl

end Cert.Reference8Ideal.Prep

end
-- ==== Proof.SampProd.lean ====
module

public import proofs.«01_k».proof.Proof.SampRead
public import proofs.«01_k».proof.Proof.PrepProd
public import proofs.«01_k».proof.Proof.SampMath
public import proofs.«01_k».proof.Proof.SampRef

@[expose] public section

set_option maxRecDepth 16384

/-! The products of the kernel that prepares the attention are the reference's projections. At the rows of the
    sample. -/

noncomputable section

namespace Cert.Kernel8Ideal.Prep

open Cert.Kernel8Ideal Cert.Kernel8Ideal.Gen Idealize.ShloMosaic Idealize.ShloMosaic.TcCoe Idealize.SL.Sem
open Cert.Reference8Ideal.Prep (HN PR PR_point)

open Cert.Kernel6Ideal.Prep (row_real eps coe_sum c64 d64 d2048 PACK GAINQ GAINK SELQ SELK w_low w_ki w_wi gain_q gain_k sel_q sel_k)

/-- With real weights every projection is real. -/
theorem PR_real (a0 : FVec Ideal S256x2048 .f32) (a1 : FVec Ideal S1x2048 .f32) (a2 : FVec Ideal S1x2048x10832 .f32)
    (h1 : ∀ k, ∃ r : ℝ, a1 (ix2 0 k) = (r : EReal)) (h2 : ∀ k C, ∃ r : ℝ, a2 (ix3 0 k C) = (r : EReal))
    (R : Fin 256) (C : Fin 10832) : ∃ r : ℝ, PR a0 a1 a2 (ix2 R C) = (r : EReal) := by
  choose g hg using h1
  choose w hw using h2
  choose x hx using row_real (fun i => a0 (ix2 R i))
  have e : ∀ k, HN a0 a1 R k * (show EReal from a2 (ix3 0 k C)) = ((x k * g k * w k C : ℝ) : EReal) := fun k => by
    unfold HN
    rw [EReal.coe_mul, EReal.coe_mul, ← hx k, ← hg k, ← hw k C]
  rw [PR_point]
  simp only [e]
  exact ⟨_, (coe_sum _).symm⟩

variable (m : (ℓ : Loc nD τ sig) → Buf (Elt Ideal) ℓ) (c : Dev nD)

/-- The row of the array that a row of a block is. -/
def row (t : Fin cfg0.N) (y : Fin 256) : Fin 256 := ⟨t.val * 256 + y.val, by have := (idx t).2.2; omega⟩

/-- The projections of the reference over the kernel's arguments. -/
abbrev P : FVec Ideal Cert.Reference8Ideal.S256x10832 .f32 := PR (m ((c.tc : Thread nD τ).loc main_arg0)) (m ((c.tc : Thread nD τ).loc main_arg1)) (m ((c.tc : Thread nD τ).loc main_arg2))

/-- The norm's weight read in its block. -/
theorem read1 (t : Fin cfg0.N) (k : Fin 2048) : iblk m c 1 t (ix2 0 k) = (m ((c.tc : Thread nD τ).loc main_arg1)) (ix2 0 k) := by
  have e : iblk m c 1 t (ix2 0 k) = V m c main_v8 (ix2 0 k) := by blk_ext [iblk, (idx t).1]
  rw [e, entry8]
  pointwise []

/-- The rows read in their block. -/
theorem read0 (t : Fin cfg0.N) (y : Fin 256) (k : Fin 2048) : iblk m c 0 t (ix2 y k) = (m ((c.tc : Thread nD τ).loc main_arg0)) (ix2 (row t y) k) := by
  blk_ext [iblk, V, (idx t).1, row]

/-- A normed row of a block is the reference's normed row. -/
theorem norm_row (t : Fin cfg0.N) (y : Fin 256) (k : Fin 2048) :
    k0_pay4 (F := Ideal) (iblk m c 0 t) (iblk m c 1 t) (ix2 y k)
      = HN (m ((c.tc : Thread nD τ).loc main_arg0)) (m ((c.tc : Thread nD τ).loc main_arg1)) (row t y) k := by
  unfold HN
  pointwise [k0_pay4]
  simp only [read0, read1]

/-- The packed weight read in its block. -/
theorem read2 (t : Fin cfg0.N) (k : Fin 2048) (C : Fin 2816) : iblk m c 2 t (ix2 k C) = PACK (m ((c.tc : Thread nD τ).loc main_arg2)) (ix2 k C) := by
  have e : iblk m c 2 t (ix2 k C) = V m c main_v9 (ix2 k C) := by blk_ext [iblk, (idx t).1]
  rw [e, entry9]

/-- The product for the queries. -/
theorem prod_q (t : Fin cfg0.N) (y : Fin 256) (i : Fin 1024) :
    k0_pay5 (F := Ideal) (iblk m c 0 t) (iblk m c 1 t) (View.ld (iblk m c 2 t) r0_2) (ix2 y i)
      = P m c (ix2 (row t y) ⟨i.val, by omega⟩) := by
  rw [P, PR_point]
  pointwise [k0_pay5]
  refine Finset.sum_congr rfl fun k _ => ?_
  exact congrArg₂ (fun a b : EReal => a * b) (norm_row m c t y k) ((read2 m c t k _).trans (w_low _ _ _ (by show i.val < 2560; omega)))

/-- The product for the keys. -/
theorem prod_k (t : Fin cfg0.N) (y : Fin 256) (i : Fin 256) :
    k0_pay8 (F := Ideal) (k0_pay4 (iblk m c 0 t) (iblk m c 1 t)) (View.ld (iblk m c 2 t) r0_7) (ix2 y i)
      = P m c (ix2 (row t y) ⟨1024 + i.val, by omega⟩) := by
  rw [P, PR_point]
  pointwise [k0_pay8]
  refine Finset.sum_congr rfl fun k _ => ?_
  exact congrArg₂ (fun a b : EReal => a * b) (norm_row m c t y k) ((read2 m c t k _).trans (w_low _ _ _ (by show 1024 + i.val < 2560; omega)))

/-- The product for the values. -/
theorem prod_v (t : Fin cfg0.N) (y : Fin 256) (i : Fin 256) :
    k0_pay12 (F := Ideal) (k0_pay4 (iblk m c 0 t) (iblk m c 1 t)) (View.ld (iblk m c 2 t) r0_12) (ix2 y i)
      = P m c (ix2 (row t y) ⟨1280 + i.val, by omega⟩) := by
  rw [P, PR_point]
  pointwise [k0_pay12]
  refine Finset.sum_congr rfl fun k _ => ?_
  exact congrArg₂ (fun a b : EReal => a * b) (norm_row m c t y k) ((read2 m c t k _).trans (w_low _ _ _ (by show 1280 + i.val < 2560; omega)))

/-- The product for the indexer's keys. -/
theorem prod_ki (t : Fin cfg0.N) (y : Fin 256) (i : Fin 64) :
    k0_pay1 (F := Ideal) (k0_pay4 (iblk m c 0 t) (iblk m c 1 t)) (View.ld (iblk m c 2 t) r0_14) (ix2 y i)
      = P m c (ix2 (row t y) ⟨2560 + i.val, by omega⟩) := by
  rw [P, PR_point]
  pointwise [k0_pay1]
  refine Finset.sum_congr rfl fun k _ => ?_
  exact congrArg₂ (fun a b : EReal => a * b) (norm_row m c t y k) ((read2 m c t k _).trans (w_ki _ _ i))

/-- The product for the indexer's head weights. -/
theorem prod_wi (t : Fin cfg0.N) (y : Fin 256) (i : Fin 16) :
    k0_pay3 (F := Ideal) (k0_pay4 (iblk m c 0 t) (iblk m c 1 t)) (View.ld (iblk m c 2 t) r0_16) (ix2 y i)
      = (show EReal from P m c (ix2 (row t y) ⟨2624 + i.val, by omega⟩)) * Ideal.ofBits .f32 0x3E800000#32 := by
  rw [P, PR_point]
  pointwise [k0_pay3]
  refine congrArg (fun s : EReal => s * Ideal.ofBits .f32 0x3E800000#32) ?_
  refine Finset.sum_congr rfl fun k _ => ?_
  exact congrArg₂ (fun a b : EReal => a * b) (norm_row m c t y k) ((read2 m c t k _).trans (w_wi _ _ i))

/-- The product for the indexer's queries. -/
theorem prod_qi (t : Fin cfg0.N) (y : Fin 256) (i : Fin 1024) :
    k0_pay14 (F := Ideal) (k0_pay4 (iblk m c 0 t) (iblk m c 1 t)) (View.ld (iblk m c 2 t) r0_13) (ix2 y i)
      = P m c (ix2 (row t y) ⟨1536 + i.val, by omega⟩) := by
  rw [P, PR_point]
  pointwise [k0_pay14]
  refine Finset.sum_congr rfl fun k _ => ?_
  exact congrArg₂ (fun a b : EReal => a * b) (norm_row m c t y k) ((read2 m c t k _).trans (w_low _ _ _ (by show 1536 + i.val < 2560; omega)))

end Cert.Kernel8Ideal.Prep

end
-- ==== Proof.SampFinal.lean ====
module

public import proofs.«01_k».proof.Proof.SampProd

@[expose] public section

set_option maxRecDepth 16384

/-! The results of the kernel that prepares the attention are the reference's results. At the rows of the
    sample. -/

noncomputable section

namespace Cert.Kernel8Ideal.Prep

open Cert.Kernel8Ideal Cert.Kernel8Ideal.Gen Idealize.ShloMosaic Idealize.ShloMosaic.TcCoe Idealize.SL.Sem
open Cert.Reference8Ideal.Prep (RQ RK RKB RW RWB RQI RKI RKIB RWI RQ_point RK_point)
open Cert.Kernel6Ideal.Prep (eps coe_sum c64 d64 PACK GAINQ GAINK SELQ SELK gain_q gain_k sel_q sel_k)

variable (m : (ℓ : Loc nD τ sig) → Buf (Elt Ideal) ℓ) (c : Dev nD)

/-- The norm's weights and the projection's weights are finite. -/
def Fin6 : Prop := (∀ k, ∃ r : ℝ, (m ((c.tc : Thread nD τ).loc main_arg1)) (ix2 0 k) = (r : EReal))
  ∧ ∀ k C, ∃ r : ℝ, (m ((c.tc : Thread nD τ).loc main_arg2)) (ix3 0 k C) = (r : EReal)

/-- The queries' gain read in its block. -/
theorem read3 (t : Fin cfg0.N) (i : Fin 1024) : iblk m c 3 t (ix2 0 i) = GAINQ (m ((c.tc : Thread nD τ).loc main_arg3)) (ix2 0 i) := by
  have e : iblk m c 3 t (ix2 0 i) = V m c main_v16 (ix2 0 i) := by blk_ext [iblk, (idx t).1]
  rw [e, entry16]

/-- The keys' gain read in its block. -/
theorem read4 (t : Fin cfg0.N) (i : Fin 256) : iblk m c 4 t (ix2 0 i) = GAINK (m ((c.tc : Thread nD τ).loc main_arg4)) (ix2 0 i) := by
  have e : iblk m c 4 t (ix2 0 i) = V m c main_v21 (ix2 0 i) := by blk_ext [iblk, (idx t).1]
  rw [e, entry21]

/-- The queries' selector read in its block. -/
theorem read5 (t : Fin cfg0.N) (i : Fin 1024) (j : Fin 128) : iblk m c 5 t (ix2 i j) = if i.val / 64 = j.val then (1 : EReal) else 0 := by
  have e : iblk m c 5 t (ix2 i j) = V m c main_v27 (ix2 i j) := by blk_ext [iblk, (idx t).1]
  rw [e, entry27]
  exact sel_q i j

/-- The queries' transposed selector read in its block. -/
theorem read6 (t : Fin cfg0.N) (j : Fin 128) (i : Fin 1024) : iblk m c 6 t (ix2 j i) = if i.val / 64 = j.val then (1 : EReal) else 0 := by
  have e : iblk m c 6 t (ix2 j i) = V m c main_v28 (ix2 j i) := by blk_ext [iblk, (idx t).1]
  rw [e, entry28]
  refine Eq.trans ?_ (sel_q i j)
  pointwise []

/-- The keys' selector read in its block. -/
theorem read7 (t : Fin cfg0.N) (i : Fin 256) (j : Fin 128) : iblk m c 7 t (ix2 i j) = if i.val / 64 = j.val then (1 : EReal) else 0 := by
  have e : iblk m c 7 t (ix2 i j) = V m c main_v34 (ix2 i j) := by blk_ext [iblk, (idx t).1]
  rw [e, entry34]
  exact sel_k i j

/-- The keys' transposed selector read in its block. -/
theorem read8 (t : Fin cfg0.N) (j : Fin 128) (i : Fin 256) : iblk m c 8 t (ix2 j i) = if i.val / 64 = j.val then (1 : EReal) else 0 := by
  have e : iblk m c 8 t (ix2 j i) = V m c main_v35 (ix2 j i) := by blk_ext [iblk, (idx t).1]
  rw [e, entry35]
  refine Eq.trans ?_ (sel_k i j)
  pointwise []

/-- A query a point stores is the reference's. -/
theorem point_q (hf : Fin6 m c) (t : Fin cfg0.N) (y : Fin 256) (i : Fin 1024) :
    k0_pay7 (F := Ideal) (k0_pay5 (iblk m c 0 t) (iblk m c 1 t) (View.ld (iblk m c 2 t) r0_2)) (k0_pay6 (iblk m c 0 t) (iblk m c 1 t) (View.ld (iblk m c 2 t) r0_2) (iblk m c 5 t)) (iblk m c 6 t) (iblk m c 3 t) (ix2 y i)
      = RQ (P m c) (m ((c.tc : Thread nD τ).loc main_arg3)) (ix2 (row t y) i) := by
  obtain ⟨h, e, rfl⟩ : ∃ (h : Fin 16) (e : Fin 64), i = ⟨h.val * 64 + e.val, by omega⟩ :=
    ⟨⟨i.val / 64, by omega⟩, ⟨i.val % 64, by omega⟩, Fin.ext (by show i.val = i.val / 64 * 64 + i.val % 64; omega)⟩
  choose p hp using fun i : Fin 1024 => PR_real (m ((c.tc : Thread nD τ).loc main_arg0)) _ _ hf.1 hf.2 (row t y) ⟨i.val, by omega⟩
  have hq : ∀ x : Fin 64, P m c (ix2 (row t y) ⟨h.val * 64 + x.val, by omega⟩) = ((p ⟨h.val * 64 + x.val, by omega⟩ : ℝ) : EReal) := fun x => hp ⟨h.val * 64 + x.val, by omega⟩
  have hg : iblk m c 3 t (ix2 0 ⟨h.val * 64 + e.val, by omega⟩) = (show EReal from (m ((c.tc : Thread nD τ).loc main_arg3)) (ix2 0 e)) * Ideal.ofBits .f32 0x3E38AA3B#32 := by
    rw [read3, gain_q]
    have he : (⟨(h.val * 64 + e.val) % 64, by omega⟩ : Fin 64) = e := Fin.ext (by show (h.val * 64 + e.val) % 64 = e.val; omega)
    exact congrArg (fun z : Fin 64 => (show EReal from (m ((c.tc : Thread nD τ).loc main_arg3)) (ix2 0 z)) * Ideal.ofBits .f32 0x3E38AA3B#32) he
  rw [pay7_point _ _ _ _ (read5 m c t) _ (read6 m c t) _ y p (fun i => (prod_q m c t y i).trans (hp i)) h e, RQ_point]
  simp only [hq]
  rw [d64, Ideal.div_coe (by norm_num), ← c64, hg]
  exact (mul_assoc (G := EReal) _ _ _).symm

/-- A key a point stores is the reference's. -/
theorem point_k (hf : Fin6 m c) (t : Fin cfg0.N) (y : Fin 256) (i : Fin 256) :
    k0_pay10 (F := Ideal) (k0_pay8 (k0_pay4 (iblk m c 0 t) (iblk m c 1 t)) (View.ld (iblk m c 2 t) r0_7)) (k0_pay9 (k0_pay4 (iblk m c 0 t) (iblk m c 1 t)) (View.ld (iblk m c 2 t) r0_7) (iblk m c 7 t)) (iblk m c 8 t) (iblk m c 4 t) (ix2 y i)
      = RK (P m c) (m ((c.tc : Thread nD τ).loc main_arg4)) (ix2 (row t y) i) := by
  obtain ⟨h, e, rfl⟩ : ∃ (h : Fin 4) (e : Fin 64), i = ⟨h.val * 64 + e.val, by omega⟩ :=
    ⟨⟨i.val / 64, by omega⟩, ⟨i.val % 64, by omega⟩, Fin.ext (by show i.val = i.val / 64 * 64 + i.val % 64; omega)⟩
  choose p hp using fun i : Fin 256 => PR_real (m ((c.tc : Thread nD τ).loc main_arg0)) _ _ hf.1 hf.2 (row t y) ⟨1024 + i.val, by omega⟩
  have hq : ∀ x : Fin 64, P m c (ix2 (row t y) ⟨1024 + (h.val * 64 + x.val), by omega⟩) = ((p ⟨h.val * 64 + x.val, by omega⟩ : ℝ) : EReal) := fun x => hp ⟨h.val * 64 + x.val, by omega⟩
  have hg : iblk m c 4 t (ix2 0 ⟨h.val * 64 + e.val, by omega⟩) = (m ((c.tc : Thread nD τ).loc main_arg4)) (ix2 0 e) := by
    rw [read4, gain_k]
    have he : (⟨(h.val * 64 + e.val) % 64, by omega⟩ : Fin 64) = e := Fin.ext (by show (h.val * 64 + e.val) % 64 = e.val; omega)
    exact congrArg (fun z : Fin 64 => (m ((c.tc : Thread nD τ).loc main_arg4)) (ix2 0 z)) he
  rw [pay10_point _ _ _ (read7 m c t) _ (read8 m c t) _ y p (fun i => (prod_k m c t y i).trans (hp i)) h e, RK_point]
  simp only [hq]
  rw [d64, Ideal.div_coe (by norm_num), ← c64, hg]

/-- The queries after the run. -/
theorem final9 (hf : Fin6 m c) : (dats m 0 c).arrAt 9 cfg0.N = RQ (P m c) (m ((c.tc : Thread nD τ).loc main_arg3)) := by
  refine (dats m 0 c).arrAt_eq_of_covers 9 _ (by decide +kernel) fun t _ y => ?_
  blk_simp
  rw [after0_9]
  unfold_out out0_9
  frame_out
  idx_vars y
  have place : (RQ (P m c) (m ((c.tc : Thread nD τ).loc main_arg3))) (((View.whole main_v36_0).slice (win0_9.rect t)).emb (ix2 y0 y1)) = (RQ (P m c) (m ((c.tc : Thread nD τ).loc main_arg3))) (ix2 (row t y0) y1) := by
    blk_ext [(idx t).2.1, row]
  rw [place]
  exact point_q m c hf t y0 y1

/-- The keys after the run. -/
theorem final10 (hf : Fin6 m c) : (dats m 0 c).arrAt 10 cfg0.N = RK (P m c) (m ((c.tc : Thread nD τ).loc main_arg4)) := by
  refine (dats m 0 c).arrAt_eq_of_covers 10 _ (by decide +kernel) fun t _ y => ?_
  blk_simp
  rw [after0_10]
  unfold_out out0_10
  frame_out
  idx_vars y
  have place : (RK (P m c) (m ((c.tc : Thread nD τ).loc main_arg4))) (((View.whole main_v36_1).slice (win0_10.rect t)).emb (ix2 y0 y1)) = (RK (P m c) (m ((c.tc : Thread nD τ).loc main_arg4))) (ix2 (row t y0) y1) := by
    blk_ext [(idx t).2.1, row]
  rw [place]
  exact point_k m c hf t y0 y1

/-- The rounded keys after the run. -/
theorem final11 (hf : Fin6 m c) : (dats m 0 c).arrAt 11 cfg0.N = RKB (P m c) (m ((c.tc : Thread nD τ).loc main_arg4)) := by
  refine (dats m 0 c).arrAt_eq_of_covers 11 _ (by decide +kernel) fun t _ y => ?_
  blk_simp
  rw [after0_11]
  unfold_out out0_11
  frame_out
  idx_vars y
  have place : (RKB (P m c) (m ((c.tc : Thread nD τ).loc main_arg4))) (((View.whole main_v36_2).slice (win0_11.rect t)).emb (ix2 y0 y1)) = (RKB (P m c) (m ((c.tc : Thread nD τ).loc main_arg4))) (ix2 (row t y0) y1) := by
    blk_ext [(idx t).2.1, row]
  rw [place]
  exact point_k m c hf t y0 y1

/-- The values after the run. -/
theorem final12 : (dats m 0 c).arrAt 12 cfg0.N = RW (P m c) := by
  refine (dats m 0 c).arrAt_eq_of_covers 12 _ (by decide +kernel) fun t _ y => ?_
  blk_simp
  rw [after0_12]
  unfold_out out0_12
  frame_out
  idx_vars y
  have place : (RW (P m c)) (((View.whole main_v36_3).slice (win0_12.rect t)).emb (ix2 y0 y1)) = (RW (P m c)) (ix2 (row t y0) y1) := by
    blk_ext [(idx t).2.1, row]
  rw [place]
  exact (prod_v m c t y0 y1).trans (by pointwise [RW])

/-- The rounded values after the run. -/
theorem final13 : (dats m 0 c).arrAt 13 cfg0.N = RWB (P m c) := by
  refine (dats m 0 c).arrAt_eq_of_covers 13 _ (by decide +kernel) fun t _ y => ?_
  blk_simp
  rw [after0_13]
  unfold_out out0_13
  frame_out
  idx_vars y
  have place : (RWB (P m c)) (((View.whole main_v36_4).slice (win0_13.rect t)).emb (ix2 y0 y1)) = (RWB (P m c)) (ix2 (row t y0) y1) := by
    blk_ext [(idx t).2.1, row]
  rw [place]
  exact (prod_v m c t y0 y1).trans (by pointwise [RWB])

/-- The indexer's queries after the run. -/
theorem final14 : (dats m 0 c).arrAt 14 cfg0.N = RQI (P m c) := by
  refine (dats m 0 c).arrAt_eq_of_covers 14 _ (by decide +kernel) fun t _ y => ?_
  blk_simp
  rw [after0_14]
  unfold_out out0_14
  frame_out
  idx_vars y
  have place : (RQI (P m c)) (((View.whole main_v36_5).slice (win0_14.rect t)).emb (ix2 y0 y1)) = (RQI (P m c)) (ix2 (row t y0) y1) := by
    blk_ext [(idx t).2.1, row]
  rw [place]
  exact (prod_qi m c t y0 y1).trans (by pointwise [RQI])

/-- The indexer's keys after the run. -/
theorem final15 : (dats m 0 c).arrAt 15 cfg0.N = RKI (P m c) := by
  refine (dats m 0 c).arrAt_eq_of_covers 15 _ (by decide +kernel) fun t _ y => ?_
  blk_simp
  rw [after0_15]
  unfold_out out0_15
  frame_out
  idx_vars y
  have place : (RKI (P m c)) (((View.whole main_v36_6).slice (win0_15.rect t)).emb (ix2 y0 y1)) = (RKI (P m c)) (ix2 (row t y0) y1) := by
    blk_ext [(idx t).2.1, row]
  rw [place]
  exact (prod_ki m c t y0 y1).trans (by pointwise [RKI])

/-- The indexer's rounded keys after the run. -/
theorem final16 : (dats m 0 c).arrAt 16 cfg0.N = RKIB (P m c) := by
  refine (dats m 0 c).arrAt_eq_of_covers 16 _ (by decide +kernel) fun t _ y => ?_
  blk_simp
  rw [after0_16]
  unfold_out out0_16
  frame_out
  idx_vars y
  have place : (RKIB (P m c)) (((View.whole main_v36_7).slice (win0_16.rect t)).emb (ix2 y0 y1)) = (RKIB (P m c)) (ix2 (row t y0) y1) := by
    blk_ext [(idx t).2.1, row]
  rw [place]
  exact (prod_ki m c t y0 y1).trans (by pointwise [RKIB])

/-- The indexer's head weights after the run. -/
theorem final17 : (dats m 0 c).arrAt 17 cfg0.N = RWI (P m c) := by
  refine (dats m 0 c).arrAt_eq_of_covers 17 _ (by decide +kernel) fun t _ y => ?_
  blk_simp
  rw [after0_17]
  unfold_out out0_17
  frame_out
  idx_vars y
  have place : (RWI (P m c)) (((View.whole main_v36_8).slice (win0_17.rect t)).emb (ix2 y0 y1)) = (RWI (P m c)) (ix2 (row t y0) y1) := by
    blk_ext [(idx t).2.1, row]
  rw [place]
  exact (prod_wi m c t y0 y1).trans (by pointwise [RWI])

end Cert.Kernel8Ideal.Prep

end
-- ==== Proof.SampClaims.lean ====
module

public import proofs.«01_k».proof.Defs
public import proofs.«01_k».proof.Proof.Gen.Kernel8.Frame
public import proofs.«01_k».proof.Proof.SampFinal
public import proofs.«01_k».proof.Proof.RecPre
public import proofs.«01_k».proof.Proof.PrepClaims
public import Idealize.ShloMosaic.Lib.ReduceAll

@[expose] public section

set_option maxRecDepth 16384

/-! The claims of the kernel that prepares the attention. At the rows of the
    sample. -/

noncomputable section

namespace Cert.Kernel8Ideal.Prep

open Idealize.ShloMosaic Idealize.ShloMosaic.TcCoe Idealize.SL.Sem Cert.Kernel8Ideal Cert.Kernel8Ideal.Gen
open Cert.Kernel6Ideal.Prep (and_one)
open Cert.KernelIdeal.Rec (real_of_lt top_f32)

variable (m : (ℓ : Loc nD τ sig) → Buf (Elt Ideal) ℓ) (c : Dev nD)

/-- The precondition is that the norm's weights and the projection's weights are finite. -/
theorem fin6_of_pre [hP : Cert.Pre_sample_weights_finite.Facts] (h : Cert.Pre_Kernel8Ideal_sample_weights_finite m) : Fin6 m c := by
  have : Subsingleton Cert.Pre_sample_weights_finite.S_.Idx := ⟨fun a b => funext fun i => i.elim0⟩
  have both := and_one _ _ (congrFun (h c) (fun i => i.elim0))
  constructor
  · intro k
    have e := Host.reduce_andi_all _ _ _ _ (fun i => i.elim0) both.1 (ix2 0 k)
    have e' : Ideal.cmp .olt (max (m ((c.tc : Thread nD τ).loc main_arg1) (ix2 0 k) : EReal) (-(show EReal from m ((c.tc : Thread nD τ).loc main_arg1) (ix2 0 k)))) (Ideal.ofBits .f32 0x7F800000#32) = 1#1 := e
    rw [top_f32] at e'
    exact real_of_lt _ ((Ideal.cmp_olt_eq_one _ _).1 e')
  · intro k C
    have e := Host.reduce_andi_all _ _ _ _ (fun i => i.elim0) both.2 (ix3 0 k C)
    have e' : Ideal.cmp .olt (max (m ((c.tc : Thread nD τ).loc main_arg2) (ix3 0 k C) : EReal) (-(show EReal from m ((c.tc : Thread nD τ).loc main_arg2) (ix3 0 k C)))) (Ideal.ofBits .f32 0x7F800000#32) = 1#1 := e
    rw [top_f32] at e'
    exact real_of_lt _ ((Ideal.cmp_olt_eq_one _ _).1 e')

end Cert.Kernel8Ideal.Prep

namespace Cert.Proof

open Idealize.ShloMosaic Idealize.SL.Sem

/-- The kernel that prepares the attention ends with its arguments unchanged and its counters at zero. -/
theorem frame_Kernel8 : Cert.quiescent_Kernel8 := fun m ρ _ => Cert.Kernel8.Gen.frame m ρ

/-- So does its idealized program. -/
theorem frame_Kernel8Ideal : Cert.quiescent_Kernel8Ideal := fun m ρ _ => Cert.Kernel8Ideal.Gen.frame m ρ

/-- So does its idealized program where the weights are finite. -/
theorem frame_Kernel8Ideal_pre [hP : Cert.Pre_sample_weights_finite.Facts] : Cert.quiescent_Kernel8Ideal_pre_sample_weights_finite := fun m ρ _ => Cert.Kernel8Ideal.Gen.frame m ρ

/-- So does its reference. -/
theorem frame_Reference8Ideal : Cert.quiescent_Reference8Ideal := fun m ρ _ =>
  (θ_run Cert.Reference8Ideal.defs _ _).mono (fun r h => ⟨fun c => (h c).2.2.2.2.2.2.2.2.2, sem_eq_zero_of_no_sems (by decide) r.2⟩)
    (Cert.Reference8Ideal.Value.run (F := Ideal) m ρ)

/-- So does its reference where the weights are finite. -/
theorem frame_Reference8Ideal_pre [hP : Cert.Pre_sample_weights_finite.Facts] : Cert.quiescent_Reference8Ideal_pre_sample_weights_finite := fun m ρ _ => frame_Reference8Ideal m ρ trivial

/-- The idealized program that prepares the attention is the program: nothing was rewritten. -/
theorem preserves8 : Cert.preserves_Kernel8_Kernel8Ideal := trivial

set_option maxHeartbeats 4000000 in
/-- Where the weights are finite, the kernel that prepares the attention and its reference end with the same nine results on the same arguments. -/
theorem algebraic8 [hP : Cert.Pre_sample_weights_finite.Facts] : Cert.algebraic_Kernel8Ideal_Reference8Ideal_pre_sample_weights_finite := by
  intro m ρ m' ρ' pre hag
  refine ⟨fun c => Cert.Reference8Ideal.Prep.RQ (Cert.Reference8Ideal.Prep.PR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) (m ((c.tc : Thread Cert.Kernel8Ideal.nD Cert.Kernel8Ideal.τ).loc Cert.Kernel8Ideal.main_arg3)),
    fun c => Cert.Reference8Ideal.Prep.RK (Cert.Reference8Ideal.Prep.PR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) (m ((c.tc : Thread Cert.Kernel8Ideal.nD Cert.Kernel8Ideal.τ).loc Cert.Kernel8Ideal.main_arg4)),
    fun c => Cert.Reference8Ideal.Prep.RKB (Cert.Reference8Ideal.Prep.PR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) (m ((c.tc : Thread Cert.Kernel8Ideal.nD Cert.Kernel8Ideal.τ).loc Cert.Kernel8Ideal.main_arg4)),
    fun c => Cert.Reference8Ideal.Prep.RW (Cert.Reference8Ideal.Prep.PR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))),
    fun c => Cert.Reference8Ideal.Prep.RWB (Cert.Reference8Ideal.Prep.PR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))),
    fun c => Cert.Reference8Ideal.Prep.RQI (Cert.Reference8Ideal.Prep.PR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))),
    fun c => Cert.Reference8Ideal.Prep.RKI (Cert.Reference8Ideal.Prep.PR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))),
    fun c => Cert.Reference8Ideal.Prep.RKIB (Cert.Reference8Ideal.Prep.PR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))),
    fun c => Cert.Reference8Ideal.Prep.RWI (Cert.Reference8Ideal.Prep.PR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))), ?_, ?_⟩
  · exact (θ_run Cert.Kernel8Ideal.defs _ _).mono (fun _ h c => ⟨(h c).1.trans (Cert.Kernel8Ideal.Prep.final9 m c (Cert.Kernel8Ideal.Prep.fin6_of_pre m c pre)),
      (h c).2.1.trans (Cert.Kernel8Ideal.Prep.final10 m c (Cert.Kernel8Ideal.Prep.fin6_of_pre m c pre)),
      (h c).2.2.1.trans (Cert.Kernel8Ideal.Prep.final11 m c (Cert.Kernel8Ideal.Prep.fin6_of_pre m c pre)),
      (h c).2.2.2.1.trans (Cert.Kernel8Ideal.Prep.final12 m c),
      (h c).2.2.2.2.1.trans (Cert.Kernel8Ideal.Prep.final13 m c),
      (h c).2.2.2.2.2.1.trans (Cert.Kernel8Ideal.Prep.final14 m c),
      (h c).2.2.2.2.2.2.1.trans (Cert.Kernel8Ideal.Prep.final15 m c),
      (h c).2.2.2.2.2.2.2.1.trans (Cert.Kernel8Ideal.Prep.final16 m c),
      (h c).2.2.2.2.2.2.2.2.1.trans (Cert.Kernel8Ideal.Prep.final17 m c), (h c).2.2.2.2.2.2.2.2.2⟩)
      (Cert.Kernel8Ideal.Value.run_blocks (F := Ideal) m ρ)
  · refine (θ_run Cert.Reference8Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.Reference8Ideal.Value.run (F := Ideal) m' ρ')
    · obtain ⟨h0, h1, h2, h3, h4⟩ := hag c
      show Cert.Reference8Ideal.Prep.RQ (Cert.Reference8Ideal.Prep.PR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))) (m' ((c.tc : Thread Cert.Reference8Ideal.nD Cert.Reference8Ideal.τ).loc Cert.Reference8Ideal.main_arg3)) = _
      rw [h0, h1, h2, h3]
    · obtain ⟨h0, h1, h2, h3, h4⟩ := hag c
      show Cert.Reference8Ideal.Prep.RK (Cert.Reference8Ideal.Prep.PR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))) (m' ((c.tc : Thread Cert.Reference8Ideal.nD Cert.Reference8Ideal.τ).loc Cert.Reference8Ideal.main_arg4)) = _
      rw [h0, h1, h2, h4]
    · obtain ⟨h0, h1, h2, h3, h4⟩ := hag c
      show Cert.Reference8Ideal.Prep.RKB (Cert.Reference8Ideal.Prep.PR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))) (m' ((c.tc : Thread Cert.Reference8Ideal.nD Cert.Reference8Ideal.τ).loc Cert.Reference8Ideal.main_arg4)) = _
      rw [h0, h1, h2, h4]
    · obtain ⟨h0, h1, h2, h3, h4⟩ := hag c
      show Cert.Reference8Ideal.Prep.RW (Cert.Reference8Ideal.Prep.PR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))) = _
      rw [h0, h1, h2]
    · obtain ⟨h0, h1, h2, h3, h4⟩ := hag c
      show Cert.Reference8Ideal.Prep.RWB (Cert.Reference8Ideal.Prep.PR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))) = _
      rw [h0, h1, h2]
    · obtain ⟨h0, h1, h2, h3, h4⟩ := hag c
      show Cert.Reference8Ideal.Prep.RQI (Cert.Reference8Ideal.Prep.PR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))) = _
      rw [h0, h1, h2]
    · obtain ⟨h0, h1, h2, h3, h4⟩ := hag c
      show Cert.Reference8Ideal.Prep.RKI (Cert.Reference8Ideal.Prep.PR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))) = _
      rw [h0, h1, h2]
    · obtain ⟨h0, h1, h2, h3, h4⟩ := hag c
      show Cert.Reference8Ideal.Prep.RKIB (Cert.Reference8Ideal.Prep.PR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))) = _
      rw [h0, h1, h2]
    · obtain ⟨h0, h1, h2, h3, h4⟩ := hag c
      show Cert.Reference8Ideal.Prep.RWI (Cert.Reference8Ideal.Prep.PR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))) = _
      rw [h0, h1, h2]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_lb_finite
public import proofs.«01_k».proof.Proof.Gen.Pre_weights_finite
public import proofs.«01_k».proof.Proof.Gen.Kernel6Ideal.Value
public import proofs.«01_k».proof.Proof.Gen.Reference6Ideal.Run
public import Idealize.ShloMosaic.Adequacy
public import Idealize.ShloMosaic.Init
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Pre_sample_weights_finite
public import proofs.«01_k».proof.Proof.RecClaims
public import proofs.«01_k».proof.Proof.Claims
public import proofs.«01_k».proof.Proof.PrepClaims
public import proofs.«01_k».proof.Proof.SampClaims

@[expose] public section

/-! The claim: every program ends with its arguments unchanged and its counters at zero, the idealized
programs are the programs, and each of them has the result of its reference. -/

noncomputable section

namespace Cert.Proof

/-- All the claims together, after the facts that the programs state of themselves. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Pre_lb_finite.Gen.facts,
    Cert.Pre_weights_finite.Gen.facts,
    Cert.Pre_sample_weights_finite.Gen.facts,
    frame_Kernel,
    frame_KernelIdeal,
    frame_KernelIdeal_pre,
    frame_ReferenceIdeal,
    frame_ReferenceIdeal_pre,
    frame_Kernel2,
    frame_Kernel2Ideal,
    frame_Reference2Ideal,
    frame_Kernel3,
    frame_Kernel3Ideal,
    frame_Reference3Ideal,
    frame_Kernel4,
    frame_Kernel4Ideal,
    frame_Reference4Ideal,
    frame_Kernel5,
    frame_Kernel5Ideal,
    frame_Reference5Ideal,
    frame_Kernel6,
    frame_Kernel6Ideal,
    frame_Kernel6Ideal_pre,
    frame_Reference6Ideal,
    frame_Reference6Ideal_pre,
    frame_Kernel7,
    frame_Kernel7Ideal,
    frame_Reference7Ideal,
    frame_Kernel8,
    frame_Kernel8Ideal,
    frame_Kernel8Ideal_pre,
    frame_Reference8Ideal,
    frame_Reference8Ideal_pre,
    preserves,
    algebraic,
    preserves2,
    algebraic2,
    preserves3,
    algebraic3,
    preserves4,
    algebraic4,
    preserves5,
    algebraic5,
    preserves6,
    algebraic6,
    preserves7,
    algebraic7,
    preserves8,
    algebraic8⟩

end Cert.Proof

end
